-- ==== Defs.lean ====
def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_OprojKernel (m : (ℓ : Loc Cert.OprojKernel.nD Cert.OprojKernel.τ Cert.OprojKernel.sig) → Buf (Elt Bits) ℓ) : Prop :=
  True

def Pre_OprojKernelIdeal (m : (ℓ : Loc Cert.OprojKernelIdeal.nD Cert.OprojKernelIdeal.τ Cert.OprojKernelIdeal.sig) → Buf (Elt Ideal) ℓ) : Prop :=
  True

def Pre_OprojReferenceIdeal (m : (ℓ : Loc Cert.OprojReferenceIdeal.nD Cert.OprojReferenceIdeal.τ Cert.OprojReferenceIdeal.sig) → Buf (Elt Ideal) ℓ) : Prop :=
  True

def Pre_GateupKernel (m : (ℓ : Loc Cert.GateupKernel.nD Cert.GateupKernel.τ Cert.GateupKernel.sig) → Buf (Elt Bits) ℓ) : Prop :=
  True

def Pre_GateupKernelIdeal (m : (ℓ : Loc Cert.GateupKernelIdeal.nD Cert.GateupKernelIdeal.τ Cert.GateupKernelIdeal.sig) → Buf (Elt Ideal) ℓ) : Prop :=
  True

def Pre_GateupReferenceIdeal (m : (ℓ : Loc Cert.GateupReferenceIdeal.nD Cert.GateupReferenceIdeal.τ Cert.GateupReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1)
      ∧ r.2.mem ((c.tc : Thread Cert.QkvKernel.nD Cert.QkvKernel.τ).loc Cert.QkvKernel.main_arg2) = m ((c.tc : Thread Cert.QkvKernel.nD Cert.QkvKernel.τ).loc Cert.QkvKernel.main_arg2)
      ∧ r.2.mem ((c.tc : Thread Cert.QkvKernel.nD Cert.QkvKernel.τ).loc Cert.QkvKernel.main_arg3) = m ((c.tc : Thread Cert.QkvKernel.nD Cert.QkvKernel.τ).loc Cert.QkvKernel.main_arg3)
      ∧ r.2.mem ((c.tc : Thread Cert.QkvKernel.nD Cert.QkvKernel.τ).loc Cert.QkvKernel.main_arg4) = m ((c.tc : Thread Cert.QkvKernel.nD Cert.QkvKernel.τ).loc Cert.QkvKernel.main_arg4)
      ∧ r.2.mem ((c.tc : Thread Cert.QkvKernel.nD Cert.QkvKernel.τ).loc Cert.QkvKernel.main_arg5) = m ((c.tc : Thread Cert.QkvKernel.nD Cert.QkvKernel.τ).loc Cert.QkvKernel.main_arg5)
      ∧ r.2.mem ((c.tc : Thread Cert.QkvKernel.nD Cert.QkvKernel.τ).loc Cert.QkvKernel.main_arg6) = m ((c.tc : Thread Cert.QkvKernel.nD Cert.QkvKernel.τ).loc Cert.QkvKernel.main_arg6)
      ∧ r.2.mem ((c.tc : Thread Cert.QkvKernel.nD Cert.QkvKernel.τ).loc Cert.QkvKernel.main_arg7) = m ((c.tc : Thread Cert.QkvKernel.nD Cert.QkvKernel.τ).loc Cert.QkvKernel.main_arg7))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
      ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
      ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
      ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4)
      ∧ r.2.mem ((c.tc : Thread Cert.QkvKernelIdeal.nD Cert.QkvKernelIdeal.τ).loc Cert.QkvKernelIdeal.main_arg5) = m ((c.tc : Thread Cert.QkvKernelIdeal.nD Cert.QkvKernelIdeal.τ).loc Cert.QkvKernelIdeal.main_arg5)
      ∧ r.2.mem ((c.tc : Thread Cert.QkvKernelIdeal.nD Cert.QkvKernelIdeal.τ).loc Cert.QkvKernelIdeal.main_arg6) = m ((c.tc : Thread Cert.QkvKernelIdeal.nD Cert.QkvKernelIdeal.τ).loc Cert.QkvKernelIdeal.main_arg6)
      ∧ r.2.mem ((c.tc : Thread Cert.QkvKernelIdeal.nD Cert.QkvKernelIdeal.τ).loc Cert.QkvKernelIdeal.main_arg7) = m ((c.tc : Thread Cert.QkvKernelIdeal.nD Cert.QkvKernelIdeal.τ).loc Cert.QkvKernelIdeal.main_arg7))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5)
      ∧ r.2.mem ((c.tc : Thread Cert.QkvReferenceIdeal.nD Cert.QkvReferenceIdeal.τ).loc Cert.QkvReferenceIdeal.main_arg6) = m ((c.tc : Thread Cert.QkvReferenceIdeal.nD Cert.QkvReferenceIdeal.τ).loc Cert.QkvReferenceIdeal.main_arg6)
      ∧ r.2.mem ((c.tc : Thread Cert.QkvReferenceIdeal.nD Cert.QkvReferenceIdeal.τ).loc Cert.QkvReferenceIdeal.main_arg7) = m ((c.tc : Thread Cert.QkvReferenceIdeal.nD Cert.QkvReferenceIdeal.τ).loc Cert.QkvReferenceIdeal.main_arg7))
      ∧ r.2.sem = fun _ => 0)

def quiescent_OprojKernel [hOprojKernel : Cert.OprojKernel.Facts] : Prop :=
  ∀ (m : (ℓ : Loc Cert.OprojKernel.nD Cert.OprojKernel.τ Cert.OprojKernel.sig) → Buf (Elt Bits) ℓ) (g : Dev Cert.OprojKernel.nD → PrngReg), Pre_OprojKernel m →
    θ_run (Cert.OprojKernel.defs (F := Bits)) (onTc (τ := Cert.OprojKernel.τ) (Cert.OprojKernel.main (F := Bits))) ⟨m, fun _ => 0, g⟩ (fun r => (∀ c : Dev Cert.OprojKernel.nD,
      r.2.mem ((c.tc : Thread Cert.OprojKernel.nD Cert.OprojKernel.τ).loc Cert.OprojKernel.main_arg0) = m ((c.tc : Thread Cert.OprojKernel.nD Cert.OprojKernel.τ).loc Cert.OprojKernel.main_arg0)
      ∧ r.2.mem ((c.tc : Thread Cert.OprojKernel.nD Cert.OprojKernel.τ).loc Cert.OprojKernel.main_arg1) = m ((c.tc : Thread Cert.OprojKernel.nD Cert.OprojKernel.τ).loc Cert.OprojKernel.main_arg1)
      ∧ r.2.mem ((c.tc : Thread Cert.OprojKernel.nD Cert.OprojKernel.τ).loc Cert.OprojKernel.main_arg2) = m ((c.tc : Thread Cert.OprojKernel.nD Cert.OprojKernel.τ).loc Cert.OprojKernel.main_arg2)
      ∧ r.2.mem ((c.tc : Thread Cert.OprojKernel.nD Cert.OprojKernel.τ).loc Cert.OprojKernel.main_arg3) = m ((c.tc : Thread Cert.OprojKernel.nD Cert.OprojKernel.τ).loc Cert.OprojKernel.main_arg3)
      ∧ r.2.mem ((c.tc : Thread Cert.OprojKernel.nD Cert.OprojKernel.τ).loc Cert.OprojKernel.main_arg4) = m ((c.tc : Thread Cert.OprojKernel.nD Cert.OprojKernel.τ).loc Cert.OprojKernel.main_arg4)
      ∧ r.2.mem ((c.tc : Thread Cert.OprojKernel.nD Cert.OprojKernel.τ).loc Cert.OprojKernel.main_arg5) = m ((c.tc : Thread Cert.OprojKernel.nD Cert.OprojKernel.τ).loc Cert.OprojKernel.main_arg5)
      ∧ r.2.mem ((c.tc : Thread Cert.OprojKernel.nD Cert.OprojKernel.τ).loc Cert.OprojKernel.main_arg6) = m ((c.tc : Thread Cert.OprojKernel.nD Cert.OprojKernel.τ).loc Cert.OprojKernel.main_arg6))
      ∧ r.2.sem = fun _ => 0)

def quiescent_OprojKernelIdeal [hOprojKernelIdeal : Cert.OprojKernelIdeal.Facts] : Prop :=
  ∀ (m : (ℓ : Loc Cert.OprojKernelIdeal.nD Cert.OprojKernelIdeal.τ Cert.OprojKernelIdeal.sig) → Buf (Elt Ideal) ℓ) (g : Dev Cert.OprojKernelIdeal.nD → PrngReg), Pre_OprojKernelIdeal m →
    θ_run (Cert.OprojKernelIdeal.defs (F := Ideal)) (onTc (τ := Cert.OprojKernelIdeal.τ) (Cert.OprojKernelIdeal.main (F := Ideal))) ⟨m, fun _ => 0, g⟩ (fun r => (∀ c : Dev Cert.OprojKernelIdeal.nD,
      r.2.mem ((c.tc : Thread Cert.OprojKernelIdeal.nD Cert.OprojKernelIdeal.τ).loc Cert.OprojKernelIdeal.main_arg0) = m ((c.tc : Thread Cert.OprojKernelIdeal.nD Cert.OprojKernelIdeal.τ).loc Cert.OprojKernelIdeal.main_arg0)
      ∧ r.2.mem ((c.tc : Thread Cert.OprojKernelIdeal.nD Cert.OprojKernelIdeal.τ).loc Cert.OprojKernelIdeal.main_arg1) = m ((c.tc : Thread Cert.OprojKernelIdeal.nD Cert.OprojKernelIdeal.τ).loc Cert.OprojKernelIdeal.main_arg1)
      ∧ r.2.mem ((c.tc : Thread Cert.OprojKernelIdeal.nD Cert.OprojKernelIdeal.τ).loc Cert.OprojKernelIdeal.main_arg2) = m ((c.tc : Thread Cert.OprojKernelIdeal.nD Cert.OprojKernelIdeal.τ).loc Cert.OprojKernelIdeal.main_arg2)
      ∧ r.2.mem ((c.tc : Thread Cert.OprojKernelIdeal.nD Cert.OprojKernelIdeal.τ).loc Cert.OprojKernelIdeal.main_arg3) = m ((c.tc : Thread Cert.OprojKernelIdeal.nD Cert.OprojKernelIdeal.τ).loc Cert.OprojKernelIdeal.main_arg3)
      ∧ r.2.mem ((c.tc : Thread Cert.OprojKernelIdeal.nD Cert.OprojKernelIdeal.τ).loc Cert.OprojKernelIdeal.main_arg4) = m ((c.tc : Thread Cert.OprojKernelIdeal.nD Cert.OprojKernelIdeal.τ).loc Cert.OprojKernelIdeal.main_arg4)
      ∧ r.2.mem ((c.tc : Thread Cert.OprojKernelIdeal.nD Cert.OprojKernelIdeal.τ).loc Cert.OprojKernelIdeal.main_arg5) = m ((c.tc : Thread Cert.OprojKernelIdeal.nD Cert.OprojKernelIdeal.τ).loc Cert.OprojKernelIdeal.main_arg5)
      ∧ r.2.mem ((c.tc : Thread Cert.OprojKernelIdeal.nD Cert.OprojKernelIdeal.τ).loc Cert.OprojKernelIdeal.main_arg6) = m ((c.tc : Thread Cert.OprojKernelIdeal.nD Cert.OprojKernelIdeal.τ).loc Cert.OprojKernelIdeal.main_arg6))
      ∧ r.2.sem = fun _ => 0)

def quiescent_OprojReferenceIdeal [hOprojReferenceIdeal : Cert.OprojReferenceIdeal.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2)
      ∧ r.2.mem ((c.tc : Thread Cert.OprojReferenceIdeal.nD Cert.OprojReferenceIdeal.τ).loc Cert.OprojReferenceIdeal.main_arg3) = m ((c.tc : Thread Cert.OprojReferenceIdeal.nD Cert.OprojReferenceIdeal.τ).loc Cert.OprojReferenceIdeal.main_arg3)
      ∧ r.2.mem ((c.tc : Thread Cert.OprojReferenceIdeal.nD Cert.OprojReferenceIdeal.τ).loc Cert.OprojReferenceIdeal.main_arg4) = m ((c.tc : Thread Cert.OprojReferenceIdeal.nD Cert.OprojReferenceIdeal.τ).loc Cert.OprojReferenceIdeal.main_arg4)
      ∧ r.2.mem ((c.tc : Thread Cert.OprojReferenceIdeal.nD Cert.OprojReferenceIdeal.τ).loc Cert.OprojReferenceIdeal.main_arg5) = m ((c.tc : Thread Cert.OprojReferenceIdeal.nD Cert.OprojReferenceIdeal.τ).loc Cert.OprojReferenceIdeal.main_arg5)
      ∧ r.2.mem ((c.tc : Thread Cert.OprojReferenceIdeal.nD Cert.OprojReferenceIdeal.τ).loc Cert.OprojReferenceIdeal.main_arg6) = m ((c.tc : Thread Cert.OprojReferenceIdeal.nD Cert.OprojReferenceIdeal.τ).loc Cert.OprojReferenceIdeal.main_arg6))
      ∧ r.2.sem = fun _ => 0)

def quiescent_GateupKernel [hGateupKernel : Cert.GateupKernel.Facts] : Prop :=
  ∀ (m : (ℓ : Loc Cert.GateupKernel.nD Cert.GateupKernel.τ Cert.GateupKernel.sig) → Buf (Elt Bits) ℓ) (g : Dev Cert.GateupKernel.nD → PrngReg), Pre_GateupKernel m →
    θ_run (Cert.GateupKernel.defs (F := Bits)) (onTc (τ := Cert.GateupKernel.τ) (Cert.GateupKernel.main (F := Bits))) ⟨m, fun _ => 0, g⟩ (fun r => (∀ c : Dev Cert.GateupKernel.nD,
      r.2.mem ((c.tc : Thread Cert.GateupKernel.nD Cert.GateupKernel.τ).loc Cert.GateupKernel.main_arg0) = m ((c.tc : Thread Cert.GateupKernel.nD Cert.GateupKernel.τ).loc Cert.GateupKernel.main_arg0)
      ∧ r.2.mem ((c.tc : Thread Cert.GateupKernel.nD Cert.GateupKernel.τ).loc Cert.GateupKernel.main_arg1) = m ((c.tc : Thread Cert.GateupKernel.nD Cert.GateupKernel.τ).loc Cert.GateupKernel.main_arg1)
      ∧ r.2.mem ((c.tc : Thread Cert.GateupKernel.nD Cert.GateupKernel.τ).loc Cert.GateupKernel.main_arg2) = m ((c.tc : Thread Cert.GateupKernel.nD Cert.GateupKernel.τ).loc Cert.GateupKernel.main_arg2)
      ∧ r.2.mem ((c.tc : Thread Cert.GateupKernel.nD Cert.GateupKernel.τ).loc Cert.GateupKernel.main_arg3) = m ((c.tc : Thread Cert.GateupKernel.nD Cert.GateupKernel.τ).loc Cert.GateupKernel.main_arg3)
      ∧ r.2.mem ((c.tc : Thread Cert.GateupKernel.nD Cert.GateupKernel.τ).loc Cert.GateupKernel.main_arg4) = m ((c.tc : Thread Cert.GateupKernel.nD Cert.GateupKernel.τ).loc Cert.GateupKernel.main_arg4)
      ∧ r.2.mem ((c.tc : Thread Cert.GateupKernel.nD Cert.GateupKernel.τ).loc Cert.GateupKernel.main_arg5) = m ((c.tc : Thread Cert.GateupKernel.nD Cert.GateupKernel.τ).loc Cert.GateupKernel.main_arg5))
      ∧ r.2.sem = fun _ => 0)

def quiescent_GateupKernelIdeal [hGateupKernelIdeal : Cert.GateupKernelIdeal.Facts] : Prop :=
  ∀ (m : (ℓ : Loc Cert.GateupKernelIdeal.nD Cert.GateupKernelIdeal.τ Cert.GateupKernelIdeal.sig) → Buf (Elt Ideal) ℓ) (g : Dev Cert.GateupKernelIdeal.nD → PrngReg), Pre_GateupKernelIdeal m →
    θ_run (Cert.GateupKernelIdeal.defs (F := Ideal)) (onTc (τ := Cert.GateupKernelIdeal.τ) (Cert.GateupKernelIdeal.main (F := Ideal))) ⟨m, fun _ => 0, g⟩ (fun r => (∀ c : Dev Cert.GateupKernelIdeal.nD,
      r.2.mem ((c.tc : Thread Cert.GateupKernelIdeal.nD Cert.GateupKernelIdeal.τ).loc Cert.GateupKernelIdeal.main_arg0) = m ((c.tc : Thread Cert.GateupKernelIdeal.nD Cert.GateupKernelIdeal.τ).loc Cert.GateupKernelIdeal.main_arg0)
      ∧ r.2.mem ((c.tc : Thread Cert.GateupKernelIdeal.nD Cert.GateupKernelIdeal.τ).loc Cert.GateupKernelIdeal.main_arg1) = m ((c.tc : Thread Cert.GateupKernelIdeal.nD Cert.GateupKernelIdeal.τ).loc Cert.GateupKernelIdeal.main_arg1)
      ∧ r.2.mem ((c.tc : Thread Cert.GateupKernelIdeal.nD Cert.GateupKernelIdeal.τ).loc Cert.GateupKernelIdeal.main_arg2) = m ((c.tc : Thread Cert.GateupKernelIdeal.nD Cert.GateupKernelIdeal.τ).loc Cert.GateupKernelIdeal.main_arg2)
      ∧ r.2.mem ((c.tc : Thread Cert.GateupKernelIdeal.nD Cert.GateupKernelIdeal.τ).loc Cert.GateupKernelIdeal.main_arg3) = m ((c.tc : Thread Cert.GateupKernelIdeal.nD Cert.GateupKernelIdeal.τ).loc Cert.GateupKernelIdeal.main_arg3)
      ∧ r.2.mem ((c.tc : Thread Cert.GateupKernelIdeal.nD Cert.GateupKernelIdeal.τ).loc Cert.GateupKernelIdeal.main_arg4) = m ((c.tc : Thread Cert.GateupKernelIdeal.nD Cert.GateupKernelIdeal.τ).loc Cert.GateupKernelIdeal.main_arg4)
      ∧ r.2.mem ((c.tc : Thread Cert.GateupKernelIdeal.nD Cert.GateupKernelIdeal.τ).loc Cert.GateupKernelIdeal.main_arg5) = m ((c.tc : Thread Cert.GateupKernelIdeal.nD Cert.GateupKernelIdeal.τ).loc Cert.GateupKernelIdeal.main_arg5))
      ∧ r.2.sem = fun _ => 0)

def quiescent_GateupReferenceIdeal [hGateupReferenceIdeal : Cert.GateupReferenceIdeal.Facts] : Prop :=
  ∀ (m : (ℓ : Loc Cert.GateupReferenceIdeal.nD Cert.GateupReferenceIdeal.τ Cert.GateupReferenceIdeal.sig) → Buf (Elt Ideal) ℓ) (g : Dev Cert.GateupReferenceIdeal.nD → PrngReg), Pre_GateupReferenceIdeal m →
    θ_run (Cert.GateupReferenceIdeal.defs (F := Ideal)) (onTc (τ := Cert.GateupReferenceIdeal.τ) (Cert.GateupReferenceIdeal.main (F := Ideal))) ⟨m, fun _ => 0, g⟩ (fun r => (∀ c : Dev Cert.GateupReferenceIdeal.nD,
      r.2.mem ((c.tc : Thread Cert.GateupReferenceIdeal.nD Cert.GateupReferenceIdeal.τ).loc Cert.GateupReferenceIdeal.main_arg0) = m ((c.tc : Thread Cert.GateupReferenceIdeal.nD Cert.GateupReferenceIdeal.τ).loc Cert.GateupReferenceIdeal.main_arg0)
      ∧ r.2.mem ((c.tc : Thread Cert.GateupReferenceIdeal.nD Cert.GateupReferenceIdeal.τ).loc Cert.GateupReferenceIdeal.main_arg1) = m ((c.tc : Thread Cert.GateupReferenceIdeal.nD Cert.GateupReferenceIdeal.τ).loc Cert.GateupReferenceIdeal.main_arg1)
      ∧ r.2.mem ((c.tc : Thread Cert.GateupReferenceIdeal.nD Cert.GateupReferenceIdeal.τ).loc Cert.GateupReferenceIdeal.main_arg2) = m ((c.tc : Thread Cert.GateupReferenceIdeal.nD Cert.GateupReferenceIdeal.τ).loc Cert.GateupReferenceIdeal.main_arg2)
      ∧ r.2.mem ((c.tc : Thread Cert.GateupReferenceIdeal.nD Cert.GateupReferenceIdeal.τ).loc Cert.GateupReferenceIdeal.main_arg3) = m ((c.tc : Thread Cert.GateupReferenceIdeal.nD Cert.GateupReferenceIdeal.τ).loc Cert.GateupReferenceIdeal.main_arg3)
      ∧ r.2.mem ((c.tc : Thread Cert.GateupReferenceIdeal.nD Cert.GateupReferenceIdeal.τ).loc Cert.GateupReferenceIdeal.main_arg4) = m ((c.tc : Thread Cert.GateupReferenceIdeal.nD Cert.GateupReferenceIdeal.τ).loc Cert.GateupReferenceIdeal.main_arg4)
      ∧ r.2.mem ((c.tc : Thread Cert.GateupReferenceIdeal.nD Cert.GateupReferenceIdeal.τ).loc Cert.GateupReferenceIdeal.main_arg5) = m ((c.tc : Thread Cert.GateupReferenceIdeal.nD Cert.GateupReferenceIdeal.τ).loc Cert.GateupReferenceIdeal.main_arg5))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3)
      ∧ r.2.mem ((c.tc : Thread Cert.DownKernel.nD Cert.DownKernel.τ).loc Cert.DownKernel.main_arg4) = m ((c.tc : Thread Cert.DownKernel.nD Cert.DownKernel.τ).loc Cert.DownKernel.main_arg4)
      ∧ r.2.mem ((c.tc : Thread Cert.DownKernel.nD Cert.DownKernel.τ).loc Cert.DownKernel.main_arg5) = m ((c.tc : Thread Cert.DownKernel.nD Cert.DownKernel.τ).loc Cert.DownKernel.main_arg5))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
      ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4)
      ∧ r.2.mem ((c.tc : Thread Cert.DownKernelIdeal.nD Cert.DownKernelIdeal.τ).loc Cert.DownKernelIdeal.main_arg5) = m ((c.tc : Thread Cert.DownKernelIdeal.nD Cert.DownKernelIdeal.τ).loc Cert.DownKernelIdeal.main_arg5))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4)
      ∧ r.2.mem ((c.tc : Thread Cert.AttnKernel.nD Cert.AttnKernel.τ).loc Cert.AttnKernel.main_arg5) = m ((c.tc : Thread Cert.AttnKernel.nD Cert.AttnKernel.τ).loc Cert.AttnKernel.main_arg5)
      ∧ r.2.mem ((c.tc : Thread Cert.AttnKernel.nD Cert.AttnKernel.τ).loc Cert.AttnKernel.main_arg6) = m ((c.tc : Thread Cert.AttnKernel.nD Cert.AttnKernel.τ).loc Cert.AttnKernel.main_arg6))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
      ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5)
      ∧ r.2.mem ((c.tc : Thread Cert.AttnKernelIdeal.nD Cert.AttnKernelIdeal.τ).loc Cert.AttnKernelIdeal.main_arg6) = m ((c.tc : Thread Cert.AttnKernelIdeal.nD Cert.AttnKernelIdeal.τ).loc Cert.AttnKernelIdeal.main_arg6))
      ∧ r.2.sem = fun _ => 0)

def preserves_QkvKernel_QkvKernelIdeal : Prop :=
  True

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)
      ∧ m' ((c.tc : Thread Cert.QkvReferenceIdeal.nD Cert.QkvReferenceIdeal.τ).loc Cert.QkvReferenceIdeal.main_arg2) = m ((c.tc : Thread Cert.QkvKernelIdeal.nD Cert.QkvKernelIdeal.τ).loc Cert.QkvKernelIdeal.main_arg2)
      ∧ m' ((c.tc : Thread Cert.QkvReferenceIdeal.nD Cert.QkvReferenceIdeal.τ).loc Cert.QkvReferenceIdeal.main_arg3) = m ((c.tc : Thread Cert.QkvKernelIdeal.nD Cert.QkvKernelIdeal.τ).loc Cert.QkvKernelIdeal.main_arg3)
      ∧ m' ((c.tc : Thread Cert.QkvReferenceIdeal.nD Cert.QkvReferenceIdeal.τ).loc Cert.QkvReferenceIdeal.main_arg4) = m ((c.tc : Thread Cert.QkvKernelIdeal.nD Cert.QkvKernelIdeal.τ).loc Cert.QkvKernelIdeal.main_arg4)
      ∧ m' ((c.tc : Thread Cert.QkvReferenceIdeal.nD Cert.QkvReferenceIdeal.τ).loc Cert.QkvReferenceIdeal.main_arg5) = m ((c.tc : Thread Cert.QkvKernelIdeal.nD Cert.QkvKernelIdeal.τ).loc Cert.QkvKernelIdeal.main_arg5)
      ∧ m' ((c.tc : Thread Cert.QkvReferenceIdeal.nD Cert.QkvReferenceIdeal.τ).loc Cert.QkvReferenceIdeal.main_arg6) = m ((c.tc : Thread Cert.QkvKernelIdeal.nD Cert.QkvKernelIdeal.τ).loc Cert.QkvKernelIdeal.main_arg6)
      ∧ m' ((c.tc : Thread Cert.QkvReferenceIdeal.nD Cert.QkvReferenceIdeal.τ).loc Cert.QkvReferenceIdeal.main_arg7) = m ((c.tc : Thread Cert.QkvKernelIdeal.nD Cert.QkvKernelIdeal.τ).loc Cert.QkvKernelIdeal.main_arg7)) →
    ∃ (v0 : (c : Dev Cert.QkvKernelIdeal.nD) → Buf (Elt Ideal) ((c.tc : Thread Cert.QkvKernelIdeal.nD Cert.QkvKernelIdeal.τ).loc Cert.QkvKernelIdeal.main_v8_0)) (v1 : (c : Dev Cert.QkvKernelIdeal.nD) → Buf (Elt Ideal) ((c.tc : Thread Cert.QkvKernelIdeal.nD Cert.QkvKernelIdeal.τ).loc Cert.QkvKernelIdeal.main_v8_1)) (v2 : (c : Dev Cert.QkvKernelIdeal.nD) → Buf (Elt Ideal) ((c.tc : Thread Cert.QkvKernelIdeal.nD Cert.QkvKernelIdeal.τ).loc Cert.QkvKernelIdeal.main_v8_2)) (v3 : (c : Dev Cert.QkvKernelIdeal.nD) → Buf (Elt Ideal) ((c.tc : Thread Cert.QkvKernelIdeal.nD Cert.QkvKernelIdeal.τ).loc Cert.QkvKernelIdeal.main_v8_3)) (v4 : (c : Dev Cert.QkvKernelIdeal.nD) → Buf (Elt Ideal) ((c.tc : Thread Cert.QkvKernelIdeal.nD Cert.QkvKernelIdeal.τ).loc Cert.QkvKernelIdeal.main_v8_4)) (v5 : (c : Dev Cert.QkvKernelIdeal.nD) → Buf (Elt Ideal) ((c.tc : Thread Cert.QkvKernelIdeal.nD Cert.QkvKernelIdeal.τ).loc Cert.QkvKernelIdeal.main_v8_5)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v8_0) = v0 c
          ∧ r.2.mem ((c.tc : Thread Cert.QkvKernelIdeal.nD Cert.QkvKernelIdeal.τ).loc Cert.QkvKernelIdeal.main_v8_1) = v1 c
          ∧ r.2.mem ((c.tc : Thread Cert.QkvKernelIdeal.nD Cert.QkvKernelIdeal.τ).loc Cert.QkvKernelIdeal.main_v8_2) = v2 c
          ∧ r.2.mem ((c.tc : Thread Cert.QkvKernelIdeal.nD Cert.QkvKernelIdeal.τ).loc Cert.QkvKernelIdeal.main_v8_3) = v3 c
          ∧ r.2.mem ((c.tc : Thread Cert.QkvKernelIdeal.nD Cert.QkvKernelIdeal.τ).loc Cert.QkvKernelIdeal.main_v8_4) = v4 c
          ∧ r.2.mem ((c.tc : Thread Cert.QkvKernelIdeal.nD Cert.QkvKernelIdeal.τ).loc Cert.QkvKernelIdeal.main_v8_5) = v5 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
          ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
          ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
          ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4)
          ∧ r.2.mem ((c.tc : Thread Cert.QkvKernelIdeal.nD Cert.QkvKernelIdeal.τ).loc Cert.QkvKernelIdeal.main_arg5) = m ((c.tc : Thread Cert.QkvKernelIdeal.nD Cert.QkvKernelIdeal.τ).loc Cert.QkvKernelIdeal.main_arg5)
          ∧ r.2.mem ((c.tc : Thread Cert.QkvKernelIdeal.nD Cert.QkvKernelIdeal.τ).loc Cert.QkvKernelIdeal.main_arg6) = m ((c.tc : Thread Cert.QkvKernelIdeal.nD Cert.QkvKernelIdeal.τ).loc Cert.QkvKernelIdeal.main_arg6)
          ∧ r.2.mem ((c.tc : Thread Cert.QkvKernelIdeal.nD Cert.QkvKernelIdeal.τ).loc Cert.QkvKernelIdeal.main_arg7) = m ((c.tc : Thread Cert.QkvKernelIdeal.nD Cert.QkvKernelIdeal.τ).loc Cert.QkvKernelIdeal.main_arg7))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v4_0) = v0 c
          ∧ r.2.mem ((c.tc : Thread Cert.QkvReferenceIdeal.nD Cert.QkvReferenceIdeal.τ).loc Cert.QkvReferenceIdeal.main_v4_1) = v1 c
          ∧ r.2.mem ((c.tc : Thread Cert.QkvReferenceIdeal.nD Cert.QkvReferenceIdeal.τ).loc Cert.QkvReferenceIdeal.main_v4_2) = v2 c
          ∧ r.2.mem ((c.tc : Thread Cert.QkvReferenceIdeal.nD Cert.QkvReferenceIdeal.τ).loc Cert.QkvReferenceIdeal.main_v4_3) = v3 c
          ∧ r.2.mem ((c.tc : Thread Cert.QkvReferenceIdeal.nD Cert.QkvReferenceIdeal.τ).loc Cert.QkvReferenceIdeal.main_v4_4) = v4 c
          ∧ r.2.mem ((c.tc : Thread Cert.QkvReferenceIdeal.nD Cert.QkvReferenceIdeal.τ).loc Cert.QkvReferenceIdeal.main_v4_5) = v5 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5)
          ∧ r.2.mem ((c.tc : Thread Cert.QkvReferenceIdeal.nD Cert.QkvReferenceIdeal.τ).loc Cert.QkvReferenceIdeal.main_arg6) = m' ((c.tc : Thread Cert.QkvReferenceIdeal.nD Cert.QkvReferenceIdeal.τ).loc Cert.QkvReferenceIdeal.main_arg6)
          ∧ r.2.mem ((c.tc : Thread Cert.QkvReferenceIdeal.nD Cert.QkvReferenceIdeal.τ).loc Cert.QkvReferenceIdeal.main_arg7) = m' ((c.tc : Thread Cert.QkvReferenceIdeal.nD Cert.QkvReferenceIdeal.τ).loc Cert.QkvReferenceIdeal.main_arg7))

def preserves_OprojKernel_OprojKernelIdeal : Prop :=
  True

def algebraic_OprojKernelIdeal_OprojReferenceIdeal [hOprojKernelIdeal : Cert.OprojKernelIdeal.Facts] [hOprojReferenceIdeal : Cert.OprojReferenceIdeal.Facts] : Prop :=
  ∀ (m : (ℓ : Loc Cert.OprojKernelIdeal.nD Cert.OprojKernelIdeal.τ Cert.OprojKernelIdeal.sig) → Buf (Elt Ideal) ℓ) (g : Dev Cert.OprojKernelIdeal.nD → PrngReg)
    (m' : (ℓ : Loc Cert.OprojReferenceIdeal.nD Cert.OprojReferenceIdeal.τ Cert.OprojReferenceIdeal.sig) → Buf (Elt Ideal) ℓ) (g' : Dev Cert.OprojReferenceIdeal.nD → PrngReg), Pre_OprojKernelIdeal m →
    (∀ c : Dev Cert.OprojKernelIdeal.nD,
      m' ((c.tc : Thread Cert.OprojReferenceIdeal.nD Cert.OprojReferenceIdeal.τ).loc Cert.OprojReferenceIdeal.main_arg0) = m ((c.tc : Thread Cert.OprojKernelIdeal.nD Cert.OprojKernelIdeal.τ).loc Cert.OprojKernelIdeal.main_arg0)
      ∧ m' ((c.tc : Thread Cert.OprojReferenceIdeal.nD Cert.OprojReferenceIdeal.τ).loc Cert.OprojReferenceIdeal.main_arg1) = m ((c.tc : Thread Cert.OprojKernelIdeal.nD Cert.OprojKernelIdeal.τ).loc Cert.OprojKernelIdeal.main_arg1)
      ∧ m' ((c.tc : Thread Cert.OprojReferenceIdeal.nD Cert.OprojReferenceIdeal.τ).loc Cert.OprojReferenceIdeal.main_arg2) = m ((c.tc : Thread Cert.OprojKernelIdeal.nD Cert.OprojKernelIdeal.τ).loc Cert.OprojKernelIdeal.main_arg2)
      ∧ m' ((c.tc : Thread Cert.OprojReferenceIdeal.nD Cert.OprojReferenceIdeal.τ).loc Cert.OprojReferenceIdeal.main_arg3) = m ((c.tc : Thread Cert.OprojKernelIdeal.nD Cert.OprojKernelIdeal.τ).loc Cert.OprojKernelIdeal.main_arg3)
      ∧ m' ((c.tc : Thread Cert.OprojReferenceIdeal.nD Cert.OprojReferenceIdeal.τ).loc Cert.OprojReferenceIdeal.main_arg4) = m ((c.tc : Thread Cert.OprojKernelIdeal.nD Cert.OprojKernelIdeal.τ).loc Cert.OprojKernelIdeal.main_arg4)
      ∧ m' ((c.tc : Thread Cert.OprojReferenceIdeal.nD Cert.OprojReferenceIdeal.τ).loc Cert.OprojReferenceIdeal.main_arg5) = m ((c.tc : Thread Cert.OprojKernelIdeal.nD Cert.OprojKernelIdeal.τ).loc Cert.OprojKernelIdeal.main_arg5)
      ∧ m' ((c.tc : Thread Cert.OprojReferenceIdeal.nD Cert.OprojReferenceIdeal.τ).loc Cert.OprojReferenceIdeal.main_arg6) = m ((c.tc : Thread Cert.OprojKernelIdeal.nD Cert.OprojKernelIdeal.τ).loc Cert.OprojKernelIdeal.main_arg6)) →
    ∃ (v0 : (c : Dev Cert.OprojKernelIdeal.nD) → Buf (Elt Ideal) ((c.tc : Thread Cert.OprojKernelIdeal.nD Cert.OprojKernelIdeal.τ).loc Cert.OprojKernelIdeal.main_v3_0)) (v1 : (c : Dev Cert.OprojKernelIdeal.nD) → Buf (Elt Ideal) ((c.tc : Thread Cert.OprojKernelIdeal.nD Cert.OprojKernelIdeal.τ).loc Cert.OprojKernelIdeal.main_v3_1)) (v2 : (c : Dev Cert.OprojKernelIdeal.nD) → Buf (Elt Ideal) ((c.tc : Thread Cert.OprojKernelIdeal.nD Cert.OprojKernelIdeal.τ).loc Cert.OprojKernelIdeal.main_v3_2)),
      θ_run (Cert.OprojKernelIdeal.defs (F := Ideal)) (onTc (τ := Cert.OprojKernelIdeal.τ) (Cert.OprojKernelIdeal.main (F := Ideal))) ⟨m, fun _ => 0, g⟩ (fun r => ∀ c : Dev Cert.OprojKernelIdeal.nD,
          r.2.mem ((c.tc : Thread Cert.OprojKernelIdeal.nD Cert.OprojKernelIdeal.τ).loc Cert.OprojKernelIdeal.main_v3_0) = v0 c
          ∧ r.2.mem ((c.tc : Thread Cert.OprojKernelIdeal.nD Cert.OprojKernelIdeal.τ).loc Cert.OprojKernelIdeal.main_v3_1) = v1 c
          ∧ r.2.mem ((c.tc : Thread Cert.OprojKernelIdeal.nD Cert.OprojKernelIdeal.τ).loc Cert.OprojKernelIdeal.main_v3_2) = v2 c
          ∧ r.2.mem ((c.tc : Thread Cert.OprojKernelIdeal.nD Cert.OprojKernelIdeal.τ).loc Cert.OprojKernelIdeal.main_arg0) = m ((c.tc : Thread Cert.OprojKernelIdeal.nD Cert.OprojKernelIdeal.τ).loc Cert.OprojKernelIdeal.main_arg0)
          ∧ r.2.mem ((c.tc : Thread Cert.OprojKernelIdeal.nD Cert.OprojKernelIdeal.τ).loc Cert.OprojKernelIdeal.main_arg1) = m ((c.tc : Thread Cert.OprojKernelIdeal.nD Cert.OprojKernelIdeal.τ).loc Cert.OprojKernelIdeal.main_arg1)
          ∧ r.2.mem ((c.tc : Thread Cert.OprojKernelIdeal.nD Cert.OprojKernelIdeal.τ).loc Cert.OprojKernelIdeal.main_arg2) = m ((c.tc : Thread Cert.OprojKernelIdeal.nD Cert.OprojKernelIdeal.τ).loc Cert.OprojKernelIdeal.main_arg2)
          ∧ r.2.mem ((c.tc : Thread Cert.OprojKernelIdeal.nD Cert.OprojKernelIdeal.τ).loc Cert.OprojKernelIdeal.main_arg3) = m ((c.tc : Thread Cert.OprojKernelIdeal.nD Cert.OprojKernelIdeal.τ).loc Cert.OprojKernelIdeal.main_arg3)
          ∧ r.2.mem ((c.tc : Thread Cert.OprojKernelIdeal.nD Cert.OprojKernelIdeal.τ).loc Cert.OprojKernelIdeal.main_arg4) = m ((c.tc : Thread Cert.OprojKernelIdeal.nD Cert.OprojKernelIdeal.τ).loc Cert.OprojKernelIdeal.main_arg4)
          ∧ r.2.mem ((c.tc : Thread Cert.OprojKernelIdeal.nD Cert.OprojKernelIdeal.τ).loc Cert.OprojKernelIdeal.main_arg5) = m ((c.tc : Thread Cert.OprojKernelIdeal.nD Cert.OprojKernelIdeal.τ).loc Cert.OprojKernelIdeal.main_arg5)
          ∧ r.2.mem ((c.tc : Thread Cert.OprojKernelIdeal.nD Cert.OprojKernelIdeal.τ).loc Cert.OprojKernelIdeal.main_arg6) = m ((c.tc : Thread Cert.OprojKernelIdeal.nD Cert.OprojKernelIdeal.τ).loc Cert.OprojKernelIdeal.main_arg6))
      ∧ θ_run (Cert.OprojReferenceIdeal.defs (F := Ideal)) (onTc (τ := Cert.OprojReferenceIdeal.τ) (Cert.OprojReferenceIdeal.main (F := Ideal))) ⟨m', fun _ => 0, g'⟩ (fun r => ∀ c : Dev Cert.OprojReferenceIdeal.nD,
          r.2.mem ((c.tc : Thread Cert.OprojReferenceIdeal.nD Cert.OprojReferenceIdeal.τ).loc Cert.OprojReferenceIdeal.main_v3_0) = v0 c
          ∧ r.2.mem ((c.tc : Thread Cert.OprojReferenceIdeal.nD Cert.OprojReferenceIdeal.τ).loc Cert.OprojReferenceIdeal.main_v3_1) = v1 c
          ∧ r.2.mem ((c.tc : Thread Cert.OprojReferenceIdeal.nD Cert.OprojReferenceIdeal.τ).loc Cert.OprojReferenceIdeal.main_v3_2) = v2 c
          ∧ r.2.mem ((c.tc : Thread Cert.OprojReferenceIdeal.nD Cert.OprojReferenceIdeal.τ).loc Cert.OprojReferenceIdeal.main_arg0) = m' ((c.tc : Thread Cert.OprojReferenceIdeal.nD Cert.OprojReferenceIdeal.τ).loc Cert.OprojReferenceIdeal.main_arg0)
          ∧ r.2.mem ((c.tc : Thread Cert.OprojReferenceIdeal.nD Cert.OprojReferenceIdeal.τ).loc Cert.OprojReferenceIdeal.main_arg1) = m' ((c.tc : Thread Cert.OprojReferenceIdeal.nD Cert.OprojReferenceIdeal.τ).loc Cert.OprojReferenceIdeal.main_arg1)
          ∧ r.2.mem ((c.tc : Thread Cert.OprojReferenceIdeal.nD Cert.OprojReferenceIdeal.τ).loc Cert.OprojReferenceIdeal.main_arg2) = m' ((c.tc : Thread Cert.OprojReferenceIdeal.nD Cert.OprojReferenceIdeal.τ).loc Cert.OprojReferenceIdeal.main_arg2)
          ∧ r.2.mem ((c.tc : Thread Cert.OprojReferenceIdeal.nD Cert.OprojReferenceIdeal.τ).loc Cert.OprojReferenceIdeal.main_arg3) = m' ((c.tc : Thread Cert.OprojReferenceIdeal.nD Cert.OprojReferenceIdeal.τ).loc Cert.OprojReferenceIdeal.main_arg3)
          ∧ r.2.mem ((c.tc : Thread Cert.OprojReferenceIdeal.nD Cert.OprojReferenceIdeal.τ).loc Cert.OprojReferenceIdeal.main_arg4) = m' ((c.tc : Thread Cert.OprojReferenceIdeal.nD Cert.OprojReferenceIdeal.τ).loc Cert.OprojReferenceIdeal.main_arg4)
          ∧ r.2.mem ((c.tc : Thread Cert.OprojReferenceIdeal.nD Cert.OprojReferenceIdeal.τ).loc Cert.OprojReferenceIdeal.main_arg5) = m' ((c.tc : Thread Cert.OprojReferenceIdeal.nD Cert.OprojReferenceIdeal.τ).loc Cert.OprojReferenceIdeal.main_arg5)
          ∧ r.2.mem ((c.tc : Thread Cert.OprojReferenceIdeal.nD Cert.OprojReferenceIdeal.τ).loc Cert.OprojReferenceIdeal.main_arg6) = m' ((c.tc : Thread Cert.OprojReferenceIdeal.nD Cert.OprojReferenceIdeal.τ).loc Cert.OprojReferenceIdeal.main_arg6))

def preserves_GateupKernel_GateupKernelIdeal : Prop :=
  True

def algebraic_GateupKernelIdeal_GateupReferenceIdeal [hGateupKernelIdeal : Cert.GateupKernelIdeal.Facts] [hGateupReferenceIdeal : Cert.GateupReferenceIdeal.Facts] : Prop :=
  ∀ (m : (ℓ : Loc Cert.GateupKernelIdeal.nD Cert.GateupKernelIdeal.τ Cert.GateupKernelIdeal.sig) → Buf (Elt Ideal) ℓ) (g : Dev Cert.GateupKernelIdeal.nD → PrngReg)
    (m' : (ℓ : Loc Cert.GateupReferenceIdeal.nD Cert.GateupReferenceIdeal.τ Cert.GateupReferenceIdeal.sig) → Buf (Elt Ideal) ℓ) (g' : Dev Cert.GateupReferenceIdeal.nD → PrngReg), Pre_GateupKernelIdeal m →
    (∀ c : Dev Cert.GateupKernelIdeal.nD,
      m' ((c.tc : Thread Cert.GateupReferenceIdeal.nD Cert.GateupReferenceIdeal.τ).loc Cert.GateupReferenceIdeal.main_arg0) = m ((c.tc : Thread Cert.GateupKernelIdeal.nD Cert.GateupKernelIdeal.τ).loc Cert.GateupKernelIdeal.main_arg0)
      ∧ m' ((c.tc : Thread Cert.GateupReferenceIdeal.nD Cert.GateupReferenceIdeal.τ).loc Cert.GateupReferenceIdeal.main_arg1) = m ((c.tc : Thread Cert.GateupKernelIdeal.nD Cert.GateupKernelIdeal.τ).loc Cert.GateupKernelIdeal.main_arg1)
      ∧ m' ((c.tc : Thread Cert.GateupReferenceIdeal.nD Cert.GateupReferenceIdeal.τ).loc Cert.GateupReferenceIdeal.main_arg2) = m ((c.tc : Thread Cert.GateupKernelIdeal.nD Cert.GateupKernelIdeal.τ).loc Cert.GateupKernelIdeal.main_arg2)
      ∧ m' ((c.tc : Thread Cert.GateupReferenceIdeal.nD Cert.GateupReferenceIdeal.τ).loc Cert.GateupReferenceIdeal.main_arg3) = m ((c.tc : Thread Cert.GateupKernelIdeal.nD Cert.GateupKernelIdeal.τ).loc Cert.GateupKernelIdeal.main_arg3)
      ∧ m' ((c.tc : Thread Cert.GateupReferenceIdeal.nD Cert.GateupReferenceIdeal.τ).loc Cert.GateupReferenceIdeal.main_arg4) = m ((c.tc : Thread Cert.GateupKernelIdeal.nD Cert.GateupKernelIdeal.τ).loc Cert.GateupKernelIdeal.main_arg4)
      ∧ m' ((c.tc : Thread Cert.GateupReferenceIdeal.nD Cert.GateupReferenceIdeal.τ).loc Cert.GateupReferenceIdeal.main_arg5) = m ((c.tc : Thread Cert.GateupKernelIdeal.nD Cert.GateupKernelIdeal.τ).loc Cert.GateupKernelIdeal.main_arg5)) →
    ∃ (v0 : (c : Dev Cert.GateupKernelIdeal.nD) → Buf (Elt Ideal) ((c.tc : Thread Cert.GateupKernelIdeal.nD Cert.GateupKernelIdeal.τ).loc Cert.GateupKernelIdeal.main_v2_0)) (v1 : (c : Dev Cert.GateupKernelIdeal.nD) → Buf (Elt Ideal) ((c.tc : Thread Cert.GateupKernelIdeal.nD Cert.GateupKernelIdeal.τ).loc Cert.GateupKernelIdeal.main_v2_1)),
      θ_run (Cert.GateupKernelIdeal.defs (F := Ideal)) (onTc (τ := Cert.GateupKernelIdeal.τ) (Cert.GateupKernelIdeal.main (F := Ideal))) ⟨m, fun _ => 0, g⟩ (fun r => ∀ c : Dev Cert.GateupKernelIdeal.nD,
          r.2.mem ((c.tc : Thread Cert.GateupKernelIdeal.nD Cert.GateupKernelIdeal.τ).loc Cert.GateupKernelIdeal.main_v2_0) = v0 c
          ∧ r.2.mem ((c.tc : Thread Cert.GateupKernelIdeal.nD Cert.GateupKernelIdeal.τ).loc Cert.GateupKernelIdeal.main_v2_1) = v1 c
          ∧ r.2.mem ((c.tc : Thread Cert.GateupKernelIdeal.nD Cert.GateupKernelIdeal.τ).loc Cert.GateupKernelIdeal.main_arg0) = m ((c.tc : Thread Cert.GateupKernelIdeal.nD Cert.GateupKernelIdeal.τ).loc Cert.GateupKernelIdeal.main_arg0)
          ∧ r.2.mem ((c.tc : Thread Cert.GateupKernelIdeal.nD Cert.GateupKernelIdeal.τ).loc Cert.GateupKernelIdeal.main_arg1) = m ((c.tc : Thread Cert.GateupKernelIdeal.nD Cert.GateupKernelIdeal.τ).loc Cert.GateupKernelIdeal.main_arg1)
          ∧ r.2.mem ((c.tc : Thread Cert.GateupKernelIdeal.nD Cert.GateupKernelIdeal.τ).loc Cert.GateupKernelIdeal.main_arg2) = m ((c.tc : Thread Cert.GateupKernelIdeal.nD Cert.GateupKernelIdeal.τ).loc Cert.GateupKernelIdeal.main_arg2)
          ∧ r.2.mem ((c.tc : Thread Cert.GateupKernelIdeal.nD Cert.GateupKernelIdeal.τ).loc Cert.GateupKernelIdeal.main_arg3) = m ((c.tc : Thread Cert.GateupKernelIdeal.nD Cert.GateupKernelIdeal.τ).loc Cert.GateupKernelIdeal.main_arg3)
          ∧ r.2.mem ((c.tc : Thread Cert.GateupKernelIdeal.nD Cert.GateupKernelIdeal.τ).loc Cert.GateupKernelIdeal.main_arg4) = m ((c.tc : Thread Cert.GateupKernelIdeal.nD Cert.GateupKernelIdeal.τ).loc Cert.GateupKernelIdeal.main_arg4)
          ∧ r.2.mem ((c.tc : Thread Cert.GateupKernelIdeal.nD Cert.GateupKernelIdeal.τ).loc Cert.GateupKernelIdeal.main_arg5) = m ((c.tc : Thread Cert.GateupKernelIdeal.nD Cert.GateupKernelIdeal.τ).loc Cert.GateupKernelIdeal.main_arg5))
      ∧ θ_run (Cert.GateupReferenceIdeal.defs (F := Ideal)) (onTc (τ := Cert.GateupReferenceIdeal.τ) (Cert.GateupReferenceIdeal.main (F := Ideal))) ⟨m', fun _ => 0, g'⟩ (fun r => ∀ c : Dev Cert.GateupReferenceIdeal.nD,
          r.2.mem ((c.tc : Thread Cert.GateupReferenceIdeal.nD Cert.GateupReferenceIdeal.τ).loc Cert.GateupReferenceIdeal.main_v2_0) = v0 c
          ∧ r.2.mem ((c.tc : Thread Cert.GateupReferenceIdeal.nD Cert.GateupReferenceIdeal.τ).loc Cert.GateupReferenceIdeal.main_v2_1) = v1 c
          ∧ r.2.mem ((c.tc : Thread Cert.GateupReferenceIdeal.nD Cert.GateupReferenceIdeal.τ).loc Cert.GateupReferenceIdeal.main_arg0) = m' ((c.tc : Thread Cert.GateupReferenceIdeal.nD Cert.GateupReferenceIdeal.τ).loc Cert.GateupReferenceIdeal.main_arg0)
          ∧ r.2.mem ((c.tc : Thread Cert.GateupReferenceIdeal.nD Cert.GateupReferenceIdeal.τ).loc Cert.GateupReferenceIdeal.main_arg1) = m' ((c.tc : Thread Cert.GateupReferenceIdeal.nD Cert.GateupReferenceIdeal.τ).loc Cert.GateupReferenceIdeal.main_arg1)
          ∧ r.2.mem ((c.tc : Thread Cert.GateupReferenceIdeal.nD Cert.GateupReferenceIdeal.τ).loc Cert.GateupReferenceIdeal.main_arg2) = m' ((c.tc : Thread Cert.GateupReferenceIdeal.nD Cert.GateupReferenceIdeal.τ).loc Cert.GateupReferenceIdeal.main_arg2)
          ∧ r.2.mem ((c.tc : Thread Cert.GateupReferenceIdeal.nD Cert.GateupReferenceIdeal.τ).loc Cert.GateupReferenceIdeal.main_arg3) = m' ((c.tc : Thread Cert.GateupReferenceIdeal.nD Cert.GateupReferenceIdeal.τ).loc Cert.GateupReferenceIdeal.main_arg3)
          ∧ r.2.mem ((c.tc : Thread Cert.GateupReferenceIdeal.nD Cert.GateupReferenceIdeal.τ).loc Cert.GateupReferenceIdeal.main_arg4) = m' ((c.tc : Thread Cert.GateupReferenceIdeal.nD Cert.GateupReferenceIdeal.τ).loc Cert.GateupReferenceIdeal.main_arg4)
          ∧ r.2.mem ((c.tc : Thread Cert.GateupReferenceIdeal.nD Cert.GateupReferenceIdeal.τ).loc Cert.GateupReferenceIdeal.main_arg5) = m' ((c.tc : Thread Cert.GateupReferenceIdeal.nD Cert.GateupReferenceIdeal.τ).loc Cert.GateupReferenceIdeal.main_arg5))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)
      ∧ m' ((c.tc : Thread Cert.DownReferenceIdeal.nD Cert.DownReferenceIdeal.τ).loc Cert.DownReferenceIdeal.main_arg4) = m ((c.tc : Thread Cert.DownKernelIdeal.nD Cert.DownKernelIdeal.τ).loc Cert.DownKernelIdeal.main_arg4)
      ∧ m' ((c.tc : Thread Cert.DownReferenceIdeal.nD Cert.DownReferenceIdeal.τ).loc Cert.DownReferenceIdeal.main_arg5) = m ((c.tc : Thread Cert.DownKernelIdeal.nD Cert.DownKernelIdeal.τ).loc Cert.DownKernelIdeal.main_arg5)) →
    ∃ (v0 : (c : Dev Cert.DownKernelIdeal.nD) → Buf (Elt Ideal) ((c.tc : Thread Cert.DownKernelIdeal.nD Cert.DownKernelIdeal.τ).loc Cert.DownKernelIdeal.main_v2_0)) (v1 : (c : Dev Cert.DownKernelIdeal.nD) → Buf (Elt Ideal) ((c.tc : Thread Cert.DownKernelIdeal.nD Cert.DownKernelIdeal.τ).loc Cert.DownKernelIdeal.main_v2_1)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v2_0) = v0 c
          ∧ r.2.mem ((c.tc : Thread Cert.DownKernelIdeal.nD Cert.DownKernelIdeal.τ).loc Cert.DownKernelIdeal.main_v2_1) = v1 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
          ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4)
          ∧ r.2.mem ((c.tc : Thread Cert.DownKernelIdeal.nD Cert.DownKernelIdeal.τ).loc Cert.DownKernelIdeal.main_arg5) = m ((c.tc : Thread Cert.DownKernelIdeal.nD Cert.DownKernelIdeal.τ).loc Cert.DownKernelIdeal.main_arg5))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2_0) = v0 c
          ∧ r.2.mem ((c.tc : Thread Cert.DownReferenceIdeal.nD Cert.DownReferenceIdeal.τ).loc Cert.DownReferenceIdeal.main_v2_1) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4)
          ∧ r.2.mem ((c.tc : Thread Cert.DownReferenceIdeal.nD Cert.DownReferenceIdeal.τ).loc Cert.DownReferenceIdeal.main_arg5) = m' ((c.tc : Thread Cert.DownReferenceIdeal.nD Cert.DownReferenceIdeal.τ).loc Cert.DownReferenceIdeal.main_arg5))

def preserves_AttnKernel_AttnKernelIdeal : Prop :=
  True

def Claim : Prop :=
  ∃ (hQkvKernel : Cert.QkvKernel.Facts) (hQkvKernelIdeal : Cert.QkvKernelIdeal.Facts) (hQkvReferenceIdeal : Cert.QkvReferenceIdeal.Facts) (hOprojKernel : Cert.OprojKernel.Facts) (hOprojKernelIdeal : Cert.OprojKernelIdeal.Facts) (hOprojReferenceIdeal : Cert.OprojReferenceIdeal.Facts) (hGateupKernel : Cert.GateupKernel.Facts) (hGateupKernelIdeal : Cert.GateupKernelIdeal.Facts) (hGateupReferenceIdeal : Cert.GateupReferenceIdeal.Facts) (hDownKernel : Cert.DownKernel.Facts) (hDownKernelIdeal : Cert.DownKernelIdeal.Facts) (hDownReferenceIdeal : Cert.DownReferenceIdeal.Facts) (hAttnKernel : Cert.AttnKernel.Facts) (hAttnKernelIdeal : Cert.AttnKernelIdeal.Facts),
    quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ quiescent_OprojKernel (hOprojKernel := hOprojKernel)
    ∧ quiescent_OprojKernelIdeal (hOprojKernelIdeal := hOprojKernelIdeal)
    ∧ quiescent_OprojReferenceIdeal (hOprojReferenceIdeal := hOprojReferenceIdeal)
    ∧ quiescent_GateupKernel (hGateupKernel := hGateupKernel)
    ∧ quiescent_GateupKernelIdeal (hGateupKernelIdeal := hGateupKernelIdeal)
    ∧ quiescent_GateupReferenceIdeal (hGateupReferenceIdeal := hGateupReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_AttnKernel (hAttnKernel := hAttnKernel)
    ∧ quiescent_AttnKernelIdeal (hAttnKernelIdeal := hAttnKernelIdeal)
    ∧ preserves_QkvKernel_QkvKernelIdeal
    ∧ algebraic_QkvKernelIdeal_QkvReferenceIdeal (hQkvKernelIdeal := hQkvKernelIdeal) (hQkvReferenceIdeal := hQkvReferenceIdeal)
    ∧ preserves_OprojKernel_OprojKernelIdeal
    ∧ algebraic_OprojKernelIdeal_OprojReferenceIdeal (hOprojKernelIdeal := hOprojKernelIdeal) (hOprojReferenceIdeal := hOprojReferenceIdeal)
    ∧ preserves_GateupKernel_GateupKernelIdeal
    ∧ algebraic_GateupKernelIdeal_GateupReferenceIdeal (hGateupKernelIdeal := hGateupKernelIdeal) (hGateupReferenceIdeal := hGateupReferenceIdeal)
    ∧ preserves_DownKernel_DownKernelIdeal
    ∧ algebraic_DownKernelIdeal_DownReferenceIdeal (hDownKernelIdeal := hDownKernelIdeal) (hDownReferenceIdeal := hDownReferenceIdeal)
    ∧ preserves_AttnKernel_AttnKernelIdeal
-- ==== QkvKernel.lean ====
abbrev S14208x4608 : Shape := ⟨2, ![14208, 4608]⟩
abbrev S4608 : Shape := ⟨1, ![4608]⟩
abbrev S4608x4096 : Shape := ⟨2, ![4608, 4096]⟩
abbrev S4096 : Shape := ⟨1, ![4096]⟩
abbrev S14208x64 : Shape := ⟨2, ![14208, 64]⟩
abbrev S8 : Shape := ⟨1, ![8]⟩
abbrev S1x4608 : Shape := ⟨2, ![1, 4608]⟩
abbrev S1x4096 : Shape := ⟨2, ![1, 4096]⟩
abbrev S8x128 : Shape := ⟨2, ![8, 128]⟩
abbrev S1024 : Shape := ⟨1, ![1024]⟩
abbrev S1x1024 : Shape := ⟨2, ![1, 1024]⟩
abbrev S14208x1 : Shape := ⟨2, ![14208, 1]⟩
abbrev S14208x2048 : Shape := ⟨2, ![14208, 2048]⟩
abbrev S14208x16 : Shape := ⟨2, ![14208, 16]⟩
abbrev S14208x1024 : Shape := ⟨2, ![14208, 1024]⟩
abbrev S384x4608 : Shape := ⟨2, ![384, 4608]⟩
abbrev S384x64 : Shape := ⟨2, ![384, 64]⟩
abbrev S384x1 : Shape := ⟨2, ![384, 1]⟩
abbrev S384x2048 : Shape := ⟨2, ![384, 2048]⟩
abbrev S384x16 : Shape := ⟨2, ![384, 16]⟩
abbrev S384x1024 : Shape := ⟨2, ![384, 1024]⟩
abbrev S384 : Shape := ⟨1, ![384]⟩
abbrev S384x128 : Shape := ⟨2, ![384, 128]⟩
abbrev S4608x256 : Shape := ⟨2, ![4608, 256]⟩
abbrev S384x256 : Shape := ⟨2, ![384, 256]⟩
abbrev S1x256 : Shape := ⟨2, ![1, 256]⟩
abbrev S1x128 : Shape := ⟨2, ![1, 128]⟩

abbrev nBuf : Space → Nat
  | .hbm => 22
  | .vmem => 23
  | .smem => 0
  | _ => 0

abbrev bufTy : (tb : Table) → Fin (tcTables nBuf tb) → BufTy
  | .hbm, ⟨0, _⟩ => ⟨S14208x4608, .bf16⟩
  | .hbm, ⟨1, _⟩ => ⟨S4608, .f32⟩
  | .hbm, ⟨2, _⟩ => ⟨S4608x4096, .fp8e4m3⟩
  | .hbm, ⟨3, _⟩ => ⟨S4096, .f32⟩
  | .hbm, ⟨4, _⟩ => ⟨S14208x64, .f32⟩
  | .hbm, ⟨5, _⟩ => ⟨S14208x64, .f32⟩
  | .hbm, ⟨6, _⟩ => ⟨S8, .f32⟩
  | .hbm, ⟨7, _⟩ => ⟨S8, .f32⟩
  | .hbm, ⟨8, _⟩ => ⟨S1x4608, .f32⟩
  | .hbm, ⟨9, _⟩ => ⟨S1x4096, .f32⟩
  | .hbm, ⟨10, _⟩ => ⟨S8x128, .f32⟩
  | .hbm, ⟨11, _⟩ => ⟨S1024, .f32⟩
  | .hbm, ⟨12, _⟩ => ⟨S1x1024, .f32⟩
  | .hbm, ⟨13, _⟩ => ⟨S8x128, .f32⟩
  | .hbm, ⟨14, _⟩ => ⟨S1024, .f32⟩
  | .hbm, ⟨15, _⟩ => ⟨S1x1024, .f32⟩
  | .hbm, ⟨16, _⟩ => ⟨S14208x4608, .fp8e4m3⟩
  | .hbm, ⟨17, _⟩ => ⟨S14208x1, .f32⟩
  | .hbm, ⟨18, _⟩ => ⟨S14208x2048, .fp8e4m3⟩
  | .hbm, ⟨19, _⟩ => ⟨S14208x16, .f32⟩
  | .hbm, ⟨20, _⟩ => ⟨S14208x1024, .fp8e4m3⟩
  | .hbm, ⟨21, _⟩ => ⟨S14208x1024, .fp8e4m3⟩
  | .local _ .vmem, ⟨0, _⟩ => ⟨S384x4608, .bf16⟩
  | .local _ .vmem, ⟨1, _⟩ => ⟨S384x4608, .bf16⟩
  | .local _ .vmem, ⟨2, _⟩ => ⟨S1x4608, .f32⟩
  | .local _ .vmem, ⟨3, _⟩ => ⟨S4608x4096, .fp8e4m3⟩
  | .local _ .vmem, ⟨4, _⟩ => ⟨S1x4096, .f32⟩
  | .local _ .vmem, ⟨5, _⟩ => ⟨S384x64, .f32⟩
  | .local _ .vmem, ⟨6, _⟩ => ⟨S384x64, .f32⟩
  | .local _ .vmem, ⟨7, _⟩ => ⟨S384x64, .f32⟩
  | .local _ .vmem, ⟨8, _⟩ => ⟨S384x64, .f32⟩
  | .local _ .vmem, ⟨9, _⟩ => ⟨S1x1024, .f32⟩
  | .local _ .vmem, ⟨10, _⟩ => ⟨S1x1024, .f32⟩
  | .local _ .vmem, ⟨11, _⟩ => ⟨S384x4608, .fp8e4m3⟩
  | .local _ .vmem, ⟨12, _⟩ => ⟨S384x4608, .fp8e4m3⟩
  | .local _ .vmem, ⟨13, _⟩ => ⟨S384x1, .f32⟩
  | .local _ .vmem, ⟨14, _⟩ => ⟨S384x1, .f32⟩
  | .local _ .vmem, ⟨15, _⟩ => ⟨S384x2048, .fp8e4m3⟩
  | .local _ .vmem, ⟨16, _⟩ => ⟨S384x2048, .fp8e4m3⟩
  | .local _ .vmem, ⟨17, _⟩ => ⟨S384x16, .f32⟩
  | .local _ .vmem, ⟨18, _⟩ => ⟨S384x16, .f32⟩
  | .local _ .vmem, ⟨19, _⟩ => ⟨S384x1024, .fp8e4m3⟩
  | .local _ .vmem, ⟨20, _⟩ => ⟨S384x1024, .fp8e4m3⟩
  | .local _ .vmem, ⟨21, _⟩ => ⟨S384x1024, .fp8e4m3⟩
  | .local _ .vmem, ⟨22, _⟩ => ⟨S384x1024, .fp8e4m3⟩
  | _, _ => ⟨S14208x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4608 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4608x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x4608 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x2048 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x1024 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S384x1024 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== QkvReferenceIdeal.lean ====
abbrev S14208x4608 : Shape := ⟨2, ![14208, 4608]⟩
abbrev S4608 : Shape := ⟨1, ![4608]⟩
abbrev S4608x4096 : Shape := ⟨2, ![4608, 4096]⟩
abbrev S4096 : Shape := ⟨1, ![4096]⟩
abbrev S14208x64 : Shape := ⟨2, ![14208, 64]⟩
abbrev S8 : Shape := ⟨1, ![8]⟩
abbrev S1x4608 : Shape := ⟨2, ![1, 4608]⟩
abbrev S1x4096 : Shape := ⟨2, ![1, 4096]⟩
abbrev S8x1 : Shape := ⟨2, ![8, 1]⟩
abbrev S14208x1 : Shape := ⟨2, ![14208, 1]⟩
abbrev S14208x2048 : Shape := ⟨2, ![14208, 2048]⟩
abbrev S14208x16 : Shape := ⟨2, ![14208, 16]⟩
abbrev S14208x1024 : Shape := ⟨2, ![14208, 1024]⟩
abbrev S14208 : Shape := ⟨1, ![14208]⟩
abbrev S14208x4096 : Shape := ⟨2, ![14208, 4096]⟩
abbrev S14208x16x128 : Shape := ⟨3, ![14208, 16, 128]⟩
abbrev S14208x8x128 : Shape := ⟨3, ![14208, 8, 128]⟩
abbrev S14208x16x64 : Shape := ⟨3, ![14208, 16, 64]⟩
abbrev S14208x1x64 : Shape := ⟨3, ![14208, 1, 64]⟩
abbrev S14208x8x64 : Shape := ⟨3, ![14208, 8, 64]⟩
abbrev S14208x16x1 : Shape := ⟨3, ![14208, 16, 1]⟩
abbrev S1x8x1 : Shape := ⟨3, ![1, 8, 1]⟩

abbrev nBuf : Space → Nat
  | .hbm => 18
  | .vmem => 14
  | .smem => 0
  | _ => 0

abbrev bufTy : (tb : Table) → Fin (tcTables nBuf tb) → BufTy
  | .hbm, ⟨0, _⟩ => ⟨S14208x4608, .bf16⟩
  | .hbm, ⟨1, _⟩ => ⟨S4608, .f32⟩
  | .hbm, ⟨2, _⟩ => ⟨S4608x4096, .fp8e4m3⟩
  | .hbm, ⟨3, _⟩ => ⟨S4096, .f32⟩
  | .hbm, ⟨4, _⟩ => ⟨S14208x64, .f32⟩
  | .hbm, ⟨5, _⟩ => ⟨S14208x64, .f32⟩
  | .hbm, ⟨6, _⟩ => ⟨S8, .f32⟩
  | .hbm, ⟨7, _⟩ => ⟨S8, .f32⟩
  | .hbm, ⟨8, _⟩ => ⟨S1x4608, .f32⟩
  | .hbm, ⟨9, _⟩ => ⟨S1x4096, .f32⟩
  | .hbm, ⟨10, _⟩ => ⟨S8x1, .f32⟩
  | .hbm, ⟨11, _⟩ => ⟨S8x1, .f32⟩
  | .hbm, ⟨12, _⟩ => ⟨S14208x4608, .fp8e4m3⟩
  | .hbm, ⟨13, _⟩ => ⟨S14208x1, .f32⟩
  | .hbm, ⟨14, _⟩ => ⟨S14208x2048, .fp8e4m3⟩
  | .hbm, ⟨15, _⟩ => ⟨S14208x16, .f32⟩
  | .hbm, ⟨16, _⟩ => ⟨S14208x1024, .fp8e4m3⟩
  | .hbm, ⟨17, _⟩ => ⟨S14208x1024, .fp8e4m3⟩
  | .local _ .vmem, ⟨0, _⟩ => ⟨S14208x4608, .bf16⟩
  | .local _ .vmem, ⟨1, _⟩ => ⟨S1x4608, .f32⟩
  | .local _ .vmem, ⟨2, _⟩ => ⟨S4608x4096, .fp8e4m3⟩
  | .local _ .vmem, ⟨3, _⟩ => ⟨S1x4096, .f32⟩
  | .local _ .vmem, ⟨4, _⟩ => ⟨S14208x64, .f32⟩
  | .local _ .vmem, ⟨5, _⟩ => ⟨S14208x64, .f32⟩
  | .local _ .vmem, ⟨6, _⟩ => ⟨S8x1, .f32⟩
  | .local _ .vmem, ⟨7, _⟩ => ⟨S8x1, .f32⟩
  | .local _ .vmem, ⟨8, _⟩ => ⟨S14208x4608, .fp8e4m3⟩
  | .local _ .vmem, ⟨9, _⟩ => ⟨S14208x1, .f32⟩
  | .local _ .vmem, ⟨10, _⟩ => ⟨S14208x2048, .fp8e4m3⟩
  | .local _ .vmem, ⟨11, _⟩ => ⟨S14208x16, .f32⟩
  | .local _ .vmem, ⟨12, _⟩ => ⟨S14208x1024, .fp8e4m3⟩
  | .local _ .vmem, ⟨13, _⟩ => ⟨S14208x1024, .fp8e4m3⟩
  | _, _ => ⟨S14208x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S14208x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4608 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S14208x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S14208x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S14208x4608 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S14208x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S14208x2048 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S14208x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S14208x1024 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S14208x1024 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== OprojKernel.lean ====
abbrev S14208x2048 : Shape := ⟨2, ![14208, 2048]⟩
abbrev S14208x1 : Shape := ⟨2, ![14208, 1]⟩
abbrev S14208x4608 : Shape := ⟨2, ![14208, 4608]⟩
abbrev S2048x4608 : Shape := ⟨2, ![2048, 4608]⟩
abbrev S4608 : Shape := ⟨1, ![4608]⟩
abbrev S1x4608 : Shape := ⟨2, ![1, 4608]⟩
abbrev S384x2048 : Shape := ⟨2, ![384, 2048]⟩
abbrev S384x1 : Shape := ⟨2, ![384, 1]⟩
abbrev S384x4608 : Shape := ⟨2, ![384, 4608]⟩
abbrev S384 : Shape := ⟨1, ![384]⟩

abbrev nBuf : Space → Nat
  | .hbm => 13
  | .vmem => 16
  | .smem => 0
  | _ => 0

abbrev bufTy : (tb : Table) → Fin (tcTables nBuf tb) → BufTy
  | .hbm, ⟨0, _⟩ => ⟨S14208x2048, .fp8e4m3⟩
  | .hbm, ⟨1, _⟩ => ⟨S14208x1, .f32⟩
  | .hbm, ⟨2, _⟩ => ⟨S14208x4608, .bf16⟩
  | .hbm, ⟨3, _⟩ => ⟨S2048x4608, .fp8e4m3⟩
  | .hbm, ⟨4, _⟩ => ⟨S4608, .f32⟩
  | .hbm, ⟨5, _⟩ => ⟨S4608, .f32⟩
  | .hbm, ⟨6, _⟩ => ⟨S4608, .f32⟩
  | .hbm, ⟨7, _⟩ => ⟨S1x4608, .f32⟩
  | .hbm, ⟨8, _⟩ => ⟨S1x4608, .f32⟩
  | .hbm, ⟨9, _⟩ => ⟨S1x4608, .f32⟩
  | .hbm, ⟨10, _⟩ => ⟨S14208x4608, .f32⟩
  | .hbm, ⟨11, _⟩ => ⟨S14208x4608, .fp8e4m3⟩
  | .hbm, ⟨12, _⟩ => ⟨S14208x1, .f32⟩
  | .local _ .vmem, ⟨0, _⟩ => ⟨S384x2048, .fp8e4m3⟩
  | .local _ .vmem, ⟨1, _⟩ => ⟨S384x2048, .fp8e4m3⟩
  | .local _ .vmem, ⟨2, _⟩ => ⟨S384x1, .f32⟩
  | .local _ .vmem, ⟨3, _⟩ => ⟨S384x1, .f32⟩
  | .local _ .vmem, ⟨4, _⟩ => ⟨S384x4608, .bf16⟩
  | .local _ .vmem, ⟨5, _⟩ => ⟨S384x4608, .bf16⟩
  | .local _ .vmem, ⟨6, _⟩ => ⟨S2048x4608, .fp8e4m3⟩
  | .local _ .vmem, ⟨7, _⟩ => ⟨S1x4608, .f32⟩
  | .local _ .vmem, ⟨8, _⟩ => ⟨S1x4608, .f32⟩
  | .local _ .vmem, ⟨9, _⟩ => ⟨S1x4608, .f32⟩
  | .local _ .vmem, ⟨10, _⟩ => ⟨S384x4608, .f32⟩
  | .local _ .vmem, ⟨11, _⟩ => ⟨S384x4608, .f32⟩
  | .local _ .vmem, ⟨12, _⟩ => ⟨S384x4608, .fp8e4m3⟩
  | .local _ .vmem, ⟨13, _⟩ => ⟨S384x4608, .fp8e4m3⟩
  | .local _ .vmem, ⟨14, _⟩ => ⟨S384x1, .f32⟩
  | .local _ .vmem, ⟨15, _⟩ => ⟨S384x1, .f32⟩
  | _, _ => ⟨S14208x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x4608 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4608 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x4608 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x4608 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OprojReferenceIdeal.lean ====
abbrev S14208x2048 : Shape := ⟨2, ![14208, 2048]⟩
abbrev S14208x1 : Shape := ⟨2, ![14208, 1]⟩
abbrev S14208x4608 : Shape := ⟨2, ![14208, 4608]⟩
abbrev S2048x4608 : Shape := ⟨2, ![2048, 4608]⟩
abbrev S4608 : Shape := ⟨1, ![4608]⟩
abbrev S1x4608 : Shape := ⟨2, ![1, 4608]⟩
abbrev S14208 : Shape := ⟨1, ![14208]⟩

abbrev nBuf : Space → Nat
  | .hbm => 13
  | .vmem => 10
  | .smem => 0
  | _ => 0

abbrev bufTy : (tb : Table) → Fin (tcTables nBuf tb) → BufTy
  | .hbm, ⟨0, _⟩ => ⟨S14208x2048, .fp8e4m3⟩
  | .hbm, ⟨1, _⟩ => ⟨S14208x1, .f32⟩
  | .hbm, ⟨2, _⟩ => ⟨S14208x4608, .bf16⟩
  | .hbm, ⟨3, _⟩ => ⟨S2048x4608, .fp8e4m3⟩
  | .hbm, ⟨4, _⟩ => ⟨S4608, .f32⟩
  | .hbm, ⟨5, _⟩ => ⟨S4608, .f32⟩
  | .hbm, ⟨6, _⟩ => ⟨S4608, .f32⟩
  | .hbm, ⟨7, _⟩ => ⟨S1x4608, .f32⟩
  | .hbm, ⟨8, _⟩ => ⟨S1x4608, .f32⟩
  | .hbm, ⟨9, _⟩ => ⟨S1x4608, .f32⟩
  | .hbm, ⟨10, _⟩ => ⟨S14208x4608, .f32⟩
  | .hbm, ⟨11, _⟩ => ⟨S14208x4608, .fp8e4m3⟩
  | .hbm, ⟨12, _⟩ => ⟨S14208x1, .f32⟩
  | .local _ .vmem, ⟨0, _⟩ => ⟨S14208x2048, .fp8e4m3⟩
  | .local _ .vmem, ⟨1, _⟩ => ⟨S14208x1, .f32⟩
  | .local _ .vmem, ⟨2, _⟩ => ⟨S14208x4608, .bf16⟩
  | .local _ .vmem, ⟨3, _⟩ => ⟨S2048x4608, .fp8e4m3⟩
  | .local _ .vmem, ⟨4, _⟩ => ⟨S1x4608, .f32⟩
  | .local _ .vmem, ⟨5, _⟩ => ⟨S1x4608, .f32⟩
  | .local _ .vmem, ⟨6, _⟩ => ⟨S1x4608, .f32⟩
  | .local _ .vmem, ⟨7, _⟩ => ⟨S14208x4608, .f32⟩
  | .local _ .vmem, ⟨8, _⟩ => ⟨S14208x4608, .fp8e4m3⟩
  | .local _ .vmem, ⟨9, _⟩ => ⟨S14208x1, .f32⟩
  | _, _ => ⟨S14208x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S14208x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14208x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14208x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x4608 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S14208x4608 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S14208x4608 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S14208x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== GateupKernel.lean ====
abbrev S14208x4608 : Shape := ⟨2, ![14208, 4608]⟩
abbrev S14208x1 : Shape := ⟨2, ![14208, 1]⟩
abbrev S4608x18432 : Shape := ⟨2, ![4608, 18432]⟩
abbrev S18432 : Shape := ⟨1, ![18432]⟩
abbrev S1x18432 : Shape := ⟨2, ![1, 18432]⟩
abbrev S14208x18432 : Shape := ⟨2, ![14208, 18432]⟩
abbrev S1184x4608 : Shape := ⟨2, ![1184, 4608]⟩
abbrev S1184x1 : Shape := ⟨2, ![1184, 1]⟩
abbrev S4608x512 : Shape := ⟨2, ![4608, 512]⟩
abbrev S1x512 : Shape := ⟨2, ![1, 512]⟩
abbrev S1184x512 : Shape := ⟨2, ![1184, 512]⟩
abbrev S1184x128 : Shape := ⟨2, ![1184, 128]⟩
abbrev S1184 : Shape := ⟨1, ![1184]⟩

abbrev nBuf : Space → Nat
  | .hbm => 10
  | .vmem => 17
  | .smem => 0
  | _ => 0

abbrev bufTy : (tb : Table) → Fin (tcTables nBuf tb) → BufTy
  | .hbm, ⟨0, _⟩ => ⟨S14208x4608, .fp8e4m3⟩
  | .hbm, ⟨1, _⟩ => ⟨S14208x1, .f32⟩
  | .hbm, ⟨2, _⟩ => ⟨S4608x18432, .fp8e4m3⟩
  | .hbm, ⟨3, _⟩ => ⟨S18432, .f32⟩
  | .hbm, ⟨4, _⟩ => ⟨S4608x18432, .fp8e4m3⟩
  | .hbm, ⟨5, _⟩ => ⟨S18432, .f32⟩
  | .hbm, ⟨6, _⟩ => ⟨S1x18432, .f32⟩
  | .hbm, ⟨7, _⟩ => ⟨S1x18432, .f32⟩
  | .hbm, ⟨8, _⟩ => ⟨S14208x18432, .f32⟩
  | .hbm, ⟨9, _⟩ => ⟨S14208x1, .f32⟩
  | .local _ .vmem, ⟨0, _⟩ => ⟨S1184x4608, .fp8e4m3⟩
  | .local _ .vmem, ⟨1, _⟩ => ⟨S1184x4608, .fp8e4m3⟩
  | .local _ .vmem, ⟨2, _⟩ => ⟨S1184x1, .f32⟩
  | .local _ .vmem, ⟨3, _⟩ => ⟨S1184x1, .f32⟩
  | .local _ .vmem, ⟨4, _⟩ => ⟨S4608x512, .fp8e4m3⟩
  | .local _ .vmem, ⟨5, _⟩ => ⟨S4608x512, .fp8e4m3⟩
  | .local _ .vmem, ⟨6, _⟩ => ⟨S1x512, .f32⟩
  | .local _ .vmem, ⟨7, _⟩ => ⟨S1x512, .f32⟩
  | .local _ .vmem, ⟨8, _⟩ => ⟨S4608x512, .fp8e4m3⟩
  | .local _ .vmem, ⟨9, _⟩ => ⟨S4608x512, .fp8e4m3⟩
  | .local _ .vmem, ⟨10, _⟩ => ⟨S1x512, .f32⟩
  | .local _ .vmem, ⟨11, _⟩ => ⟨S1x512, .f32⟩
  | .local _ .vmem, ⟨12, _⟩ => ⟨S1184x512, .f32⟩
  | .local _ .vmem, ⟨13, _⟩ => ⟨S1184x512, .f32⟩
  | .local _ .vmem, ⟨14, _⟩ => ⟨S1184x1, .f32⟩
  | .local _ .vmem, ⟨15, _⟩ => ⟨S1184x1, .f32⟩
  | .local _ .vmem, ⟨16, _⟩ => ⟨S1184x128, .f32⟩
  | _, _ => ⟨S14208x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![12, 36], ![false, false]⟩

def k0_cond2 (i : grid0.Coords) : BitVec 1 :=
  let arg1 : BitVec 32 := BitVec.ofNat 32 (i 1).val
  let c35_i32 : BitVec 32 := 35#32
  let v52 : BitVec 1 := Scalar.cmpi .eq arg1 c35_i32
  let v53 : BitVec 32 := Scalar.extui v52
  let c0_i32_23 : BitVec 32 := 0#32
  let v54 : BitVec 1 := Scalar.cmpi .ne v53 c0_i32_23
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1184x4608 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1184x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4608x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4608x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1184x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1184x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GateupReferenceIdeal.lean ====
abbrev S14208x4608 : Shape := ⟨2, ![14208, 4608]⟩
abbrev S14208x1 : Shape := ⟨2, ![14208, 1]⟩
abbrev S4608x18432 : Shape := ⟨2, ![4608, 18432]⟩
abbrev S18432 : Shape := ⟨1, ![18432]⟩
abbrev S1x18432 : Shape := ⟨2, ![1, 18432]⟩
abbrev S14208x18432 : Shape := ⟨2, ![14208, 18432]⟩
abbrev S14208 : Shape := ⟨1, ![14208]⟩

abbrev nBuf : Space → Nat
  | .hbm => 10
  | .vmem => 8
  | .smem => 0
  | _ => 0

abbrev bufTy : (tb : Table) → Fin (tcTables nBuf tb) → BufTy
  | .hbm, ⟨0, _⟩ => ⟨S14208x4608, .fp8e4m3⟩
  | .hbm, ⟨1, _⟩ => ⟨S14208x1, .f32⟩
  | .hbm, ⟨2, _⟩ => ⟨S4608x18432, .fp8e4m3⟩
  | .hbm, ⟨3, _⟩ => ⟨S18432, .f32⟩
  | .hbm, ⟨4, _⟩ => ⟨S4608x18432, .fp8e4m3⟩
  | .hbm, ⟨5, _⟩ => ⟨S18432, .f32⟩
  | .hbm, ⟨6, _⟩ => ⟨S1x18432, .f32⟩
  | .hbm, ⟨7, _⟩ => ⟨S1x18432, .f32⟩
  | .hbm, ⟨8, _⟩ => ⟨S14208x18432, .f32⟩
  | .hbm, ⟨9, _⟩ => ⟨S14208x1, .f32⟩
  | .local _ .vmem, ⟨0, _⟩ => ⟨S14208x4608, .fp8e4m3⟩
  | .local _ .vmem, ⟨1, _⟩ => ⟨S14208x1, .f32⟩
  | .local _ .vmem, ⟨2, _⟩ => ⟨S4608x18432, .fp8e4m3⟩
  | .local _ .vmem, ⟨3, _⟩ => ⟨S1x18432, .f32⟩
  | .local _ .vmem, ⟨4, _⟩ => ⟨S4608x18432, .fp8e4m3⟩
  | .local _ .vmem, ⟨5, _⟩ => ⟨S1x18432, .f32⟩
  | .local _ .vmem, ⟨6, _⟩ => ⟨S14208x18432, .f32⟩
  | .local _ .vmem, ⟨7, _⟩ => ⟨S14208x1, .f32⟩
  | _, _ => ⟨S14208x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S14208x4608 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14208x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x18432 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x18432 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x18432 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S14208x18432 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S14208x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== DownKernel.lean ====
abbrev S14208x18432 : Shape := ⟨2, ![14208, 18432]⟩
abbrev S14208x1 : Shape := ⟨2, ![14208, 1]⟩
abbrev S18432x4608 : Shape := ⟨2, ![18432, 4608]⟩
abbrev S4608 : Shape := ⟨1, ![4608]⟩
abbrev S14208x4608 : Shape := ⟨2, ![14208, 4608]⟩
abbrev S1x4608 : Shape := ⟨2, ![1, 4608]⟩
abbrev S384x1024 : Shape := ⟨2, ![384, 1024]⟩
abbrev S384x1 : Shape := ⟨2, ![384, 1]⟩
abbrev S1024x4608 : Shape := ⟨2, ![1024, 4608]⟩
abbrev S384x4608 : Shape := ⟨2, ![384, 4608]⟩
abbrev S384 : Shape := ⟨1, ![384]⟩

abbrev nBuf : Space → Nat
  | .hbm => 10
  | .vmem => 15
  | .smem => 0
  | _ => 0

abbrev bufTy : (tb : Table) → Fin (tcTables nBuf tb) → BufTy
  | .hbm, ⟨0, _⟩ => ⟨S14208x18432, .f32⟩
  | .hbm, ⟨1, _⟩ => ⟨S14208x1, .f32⟩
  | .hbm, ⟨2, _⟩ => ⟨S18432x4608, .fp8e4m3⟩
  | .hbm, ⟨3, _⟩ => ⟨S4608, .f32⟩
  | .hbm, ⟨4, _⟩ => ⟨S14208x4608, .f32⟩
  | .hbm, ⟨5, _⟩ => ⟨S4608, .f32⟩
  | .hbm, ⟨6, _⟩ => ⟨S1x4608, .f32⟩
  | .hbm, ⟨7, _⟩ => ⟨S1x4608, .f32⟩
  | .hbm, ⟨8, _⟩ => ⟨S14208x18432, .fp8e4m3⟩
  | .hbm, ⟨9, _⟩ => ⟨S14208x4608, .bf16⟩
  | .local _ .vmem, ⟨0, _⟩ => ⟨S384x1024, .f32⟩
  | .local _ .vmem, ⟨1, _⟩ => ⟨S384x1024, .f32⟩
  | .local _ .vmem, ⟨2, _⟩ => ⟨S384x1, .f32⟩
  | .local _ .vmem, ⟨3, _⟩ => ⟨S384x1, .f32⟩
  | .local _ .vmem, ⟨4, _⟩ => ⟨S1024x4608, .fp8e4m3⟩
  | .local _ .vmem, ⟨5, _⟩ => ⟨S1024x4608, .fp8e4m3⟩
  | .local _ .vmem, ⟨6, _⟩ => ⟨S1x4608, .f32⟩
  | .local _ .vmem, ⟨7, _⟩ => ⟨S384x4608, .f32⟩
  | .local _ .vmem, ⟨8, _⟩ => ⟨S384x4608, .f32⟩
  | .local _ .vmem, ⟨9, _⟩ => ⟨S1x4608, .f32⟩
  | .local _ .vmem, ⟨10, _⟩ => ⟨S384x1024, .fp8e4m3⟩
  | .local _ .vmem, ⟨11, _⟩ => ⟨S384x1024, .fp8e4m3⟩
  | .local _ .vmem, ⟨12, _⟩ => ⟨S384x4608, .bf16⟩
  | .local _ .vmem, ⟨13, _⟩ => ⟨S384x4608, .bf16⟩
  | .local _ .vmem, ⟨14, _⟩ => ⟨S384x4608, .f32⟩
  | _, _ => ⟨S14208x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![37, 18], ![false, false]⟩

def k0_cond2 (i : grid0.Coords) : BitVec 1 :=
  let arg1 : BitVec 32 := BitVec.ofNat 32 (i 1).val
  let c17_i32 : BitVec 32 := 17#32
  let v20 : BitVec 1 := Scalar.cmpi .eq arg1 c17_i32
  let v21 : BitVec 32 := Scalar.extui v20
  let c0_i32_14 : BitVec 32 := 0#32
  let v22 : BitVec 1 := Scalar.cmpi .ne v21 c0_i32_14
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x4608 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S384x4608 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S384x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S384x4608 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DownReferenceIdeal.lean ====
abbrev S14208x18432 : Shape := ⟨2, ![14208, 18432]⟩
abbrev S14208x1 : Shape := ⟨2, ![14208, 1]⟩
abbrev S18432x4608 : Shape := ⟨2, ![18432, 4608]⟩
abbrev S4608 : Shape := ⟨1, ![4608]⟩
abbrev S14208x4608 : Shape := ⟨2, ![14208, 4608]⟩
abbrev S1x4608 : Shape := ⟨2, ![1, 4608]⟩
abbrev S14208 : Shape := ⟨1, ![14208]⟩

abbrev nBuf : Space → Nat
  | .hbm => 10
  | .vmem => 8
  | .smem => 0
  | _ => 0

abbrev bufTy : (tb : Table) → Fin (tcTables nBuf tb) → BufTy
  | .hbm, ⟨0, _⟩ => ⟨S14208x18432, .f32⟩
  | .hbm, ⟨1, _⟩ => ⟨S14208x1, .f32⟩
  | .hbm, ⟨2, _⟩ => ⟨S18432x4608, .fp8e4m3⟩
  | .hbm, ⟨3, _⟩ => ⟨S4608, .f32⟩
  | .hbm, ⟨4, _⟩ => ⟨S14208x4608, .f32⟩
  | .hbm, ⟨5, _⟩ => ⟨S4608, .f32⟩
  | .hbm, ⟨6, _⟩ => ⟨S1x4608, .f32⟩
  | .hbm, ⟨7, _⟩ => ⟨S1x4608, .f32⟩
  | .hbm, ⟨8, _⟩ => ⟨S14208x18432, .fp8e4m3⟩
  | .hbm, ⟨9, _⟩ => ⟨S14208x4608, .bf16⟩
  | .local _ .vmem, ⟨0, _⟩ => ⟨S14208x18432, .f32⟩
  | .local _ .vmem, ⟨1, _⟩ => ⟨S14208x1, .f32⟩
  | .local _ .vmem, ⟨2, _⟩ => ⟨S18432x4608, .fp8e4m3⟩
  | .local _ .vmem, ⟨3, _⟩ => ⟨S1x4608, .f32⟩
  | .local _ .vmem, ⟨4, _⟩ => ⟨S14208x4608, .f32⟩
  | .local _ .vmem, ⟨5, _⟩ => ⟨S1x4608, .f32⟩
  | .local _ .vmem, ⟨6, _⟩ => ⟨S14208x18432, .fp8e4m3⟩
  | .local _ .vmem, ⟨7, _⟩ => ⟨S14208x4608, .bf16⟩
  | _, _ => ⟨S14208x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S14208x18432 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14208x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18432x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S14208x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S14208x18432 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S14208x4608 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== AttnKernel.lean ====
abbrev S4 : Shape := ⟨1, ![4]⟩
abbrev S8 : Shape := ⟨1, ![8]⟩
abbrev S14208x2048 : Shape := ⟨2, ![14208, 2048]⟩
abbrev S14208x16 : Shape := ⟨2, ![14208, 16]⟩
abbrev S14208x1024 : Shape := ⟨2, ![14208, 1024]⟩
abbrev S14208x1 : Shape := ⟨2, ![14208, 1]⟩
abbrev S128x2048 : Shape := ⟨2, ![128, 2048]⟩
abbrev S128x16 : Shape := ⟨2, ![128, 16]⟩
abbrev S128x1 : Shape := ⟨2, ![128, 1]⟩
abbrev S8x256x128 : Shape := ⟨3, ![8, 256, 128]⟩
abbrev S1 : Shape := ⟨1, ![1]⟩
abbrev S128x128 : Shape := ⟨2, ![128, 128]⟩
abbrev S256x128 : Shape := ⟨2, ![256, 128]⟩
abbrev S1x128x128 : Shape := ⟨3, ![1, 128, 128]⟩
abbrev S1x256x128 : Shape := ⟨3, ![1, 256, 128]⟩
abbrev S512x128 : Shape := ⟨2, ![512, 128]⟩
abbrev S256x512 : Shape := ⟨2, ![256, 512]⟩
abbrev S256 : Shape := ⟨1, ![256]⟩
abbrev S256x1 : Shape := ⟨2, ![256, 1]⟩
abbrev S128 : Shape := ⟨1, ![128]⟩

abbrev nBuf : Space → Nat
  | .hbm => 8
  | .vmem => 14
  | .smem => 3
  | _ => 0

abbrev bufTy : (tb : Table) → Fin (tcTables nBuf tb) → BufTy
  | .hbm, ⟨0, _⟩ => ⟨S8, .f32⟩
  | .hbm, ⟨1, _⟩ => ⟨S8, .f32⟩
  | .hbm, ⟨2, _⟩ => ⟨S14208x2048, .fp8e4m3⟩
  | .hbm, ⟨3, _⟩ => ⟨S14208x16, .f32⟩
  | .hbm, ⟨4, _⟩ => ⟨S14208x1024, .fp8e4m3⟩
  | .hbm, ⟨5, _⟩ => ⟨S14208x1024, .fp8e4m3⟩
  | .hbm, ⟨6, _⟩ => ⟨S14208x2048, .fp8e4m3⟩
  | .hbm, ⟨7, _⟩ => ⟨S14208x1, .f32⟩
  | .local _ .vmem, ⟨0, _⟩ => ⟨S128x2048, .fp8e4m3⟩
  | .local _ .vmem, ⟨1, _⟩ => ⟨S128x2048, .fp8e4m3⟩
  | .local _ .vmem, ⟨2, _⟩ => ⟨S128x16, .f32⟩
  | .local _ .vmem, ⟨3, _⟩ => ⟨S128x16, .f32⟩
  | .local _ .vmem, ⟨4, _⟩ => ⟨S14208x1024, .fp8e4m3⟩
  | .local _ .vmem, ⟨5, _⟩ => ⟨S14208x1024, .fp8e4m3⟩
  | .local _ .vmem, ⟨6, _⟩ => ⟨S128x2048, .fp8e4m3⟩
  | .local _ .vmem, ⟨7, _⟩ => ⟨S128x2048, .fp8e4m3⟩
  | .local _ .vmem, ⟨8, _⟩ => ⟨S128x1, .f32⟩
  | .local _ .vmem, ⟨9, _⟩ => ⟨S128x1, .f32⟩
  | .local _ .vmem, ⟨10, _⟩ => ⟨S8x256x128, .f32⟩
  | .local _ .vmem, ⟨11, _⟩ => ⟨S8x256x128, .f32⟩
  | .local _ .vmem, ⟨12, _⟩ => ⟨S8x256x128, .f32⟩
  | .local _ .vmem, ⟨13, _⟩ => ⟨S128x2048, .f32⟩
  | .local _ .smem, ⟨0, _⟩ => ⟨S4, .i32⟩
  | .local _ .smem, ⟨1, _⟩ => ⟨S8, .f32⟩
  | .local _ .smem, ⟨2, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_arg0 : Ref sig .tc := ⟨.smem, 0, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 1, rfl⟩
abbrev cc0_stg1_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![111], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop (i : grid0.Coords) (v2 : BitVec 32) (v4 : BitVec 32) (v7 : BitVec 32) (v9 : BitVec 32) (v12 : BitVec 32) (v14 : BitVec 32) : Scf.Loop 32 :=
  let c0_i32_132 : BitVec 32 := 0#32
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.addi v0 c128_i32_0
  let c0_i32_2 : BitVec 32 := 0#32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let v259 : BitVec 32 := Scalar.subi v258 c0_i32_132
  let c1_i32_133 : BitVec 32 := 1#32
  let v261 : BitVec 32 := Scalar.divsi v259 c1_i32_133
  let v262 : BitVec 32 := Scalar.muli v261 c1_i32_133
  let v263 : BitVec 32 := Scalar.addi c0_i32_132 v262
  let c1_i32_134 : BitVec 32 := 1#32
  ⟨c0_i32_132, v263, c1_i32_134⟩

def k0_mult1 (i : grid0.Coords) (v2 : BitVec 32) (v4 : BitVec 32) (v7 : BitVec 32) (v9 : BitVec 32) (v12 : BitVec 32) (v14 : BitVec 32) (k0_t1 : Fin (k0_t1_loop i v2 v4 v7 v9 v12 v14).trips) : BitVec 32 :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c0_i32_132 : BitVec 32 := 0#32
  let c1_i32_134 : BitVec 32 := 1#32
  let arg14 : BitVec 32 := Scf.iv c0_i32_132 c1_i32_134 k0_t1
  let c128_i32_236 : BitVec 32 := 128#32
  let v442 : BitVec 32 := Scalar.muli arg14 c128_i32_236
  let v443 : BitVec 32 := Scalar.addi v37 v442
  v443
def k0_off1 (i : grid0.Coords) (v2 : BitVec 32) (v4 : BitVec 32) (v7 : BitVec 32) (v9 : BitVec 32) (v12 : BitVec 32) (v14 : BitVec 32) (k0_t1 : Fin (k0_t1_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c0_i32_132 : BitVec 32 := 0#32
  let c1_i32_134 : BitVec 32 := 1#32
  let arg14 : BitVec 32 := Scf.iv c0_i32_132 c1_i32_134 k0_t1
  let c128_i32_236 : BitVec 32 := 128#32
  let v442 : BitVec 32 := Scalar.muli arg14 c128_i32_236
  let v443 : BitVec 32 := Scalar.addi v37 v442
  let v444 : BitVec 32 := v443
  let v457 : Index := Scalar.indexCast v444
  let c0_243 : Index := 0#32
  ![v457.toNat, 0]
def k0_off2 (i : grid0.Coords) (v2 : BitVec 32) (v4 : BitVec 32) (v7 : BitVec 32) (v9 : BitVec 32) (v12 : BitVec 32) (v14 : BitVec 32) (k0_t1 : Fin (k0_t1_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c0_i32_132 : BitVec 32 := 0#32
  let c1_i32_134 : BitVec 32 := 1#32
  let arg14 : BitVec 32 := Scf.iv c0_i32_132 c1_i32_134 k0_t1
  let c128_i32_236 : BitVec 32 := 128#32
  let v442 : BitVec 32 := Scalar.muli arg14 c128_i32_236
  let v443 : BitVec 32 := Scalar.addi v37 v442
  let v444 : BitVec 32 := v443
  let v489 : Index := Scalar.indexCast v444
  let c128_268 : Index := 128#32
  ![v489.toNat, 128]
def k0_off3 (i : grid0.Coords) (v2 : BitVec 32) (v4 : BitVec 32) (v7 : BitVec 32) (v9 : BitVec 32) (v12 : BitVec 32) (v14 : BitVec 32) (k0_t1 : Fin (k0_t1_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c0_i32_132 : BitVec 32 := 0#32
  let c1_i32_134 : BitVec 32 := 1#32
  let arg14 : BitVec 32 := Scf.iv c0_i32_132 c1_i32_134 k0_t1
  let c128_i32_236 : BitVec 32 := 128#32
  let v442 : BitVec 32 := Scalar.muli arg14 c128_i32_236
  let v443 : BitVec 32 := Scalar.addi v37 v442
  let v444 : BitVec 32 := v443
  let v521 : Index := Scalar.indexCast v444
  let c256_293 : Index := 256#32
  ![v521.toNat, 256]
def k0_off4 (i : grid0.Coords) (v2 : BitVec 32) (v4 : BitVec 32) (v7 : BitVec 32) (v9 : BitVec 32) (v12 : BitVec 32) (v14 : BitVec 32) (k0_t1 : Fin (k0_t1_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c0_i32_132 : BitVec 32 := 0#32
  let c1_i32_134 : BitVec 32 := 1#32
  let arg14 : BitVec 32 := Scf.iv c0_i32_132 c1_i32_134 k0_t1
  let c128_i32_236 : BitVec 32 := 128#32
  let v442 : BitVec 32 := Scalar.muli arg14 c128_i32_236
  let v443 : BitVec 32 := Scalar.addi v37 v442
  let v444 : BitVec 32 := v443
  let v553 : Index := Scalar.indexCast v444
  let c384_318 : Index := 384#32
  ![v553.toNat, 384]
def k0_off5 (i : grid0.Coords) (v2 : BitVec 32) (v4 : BitVec 32) (v7 : BitVec 32) (v9 : BitVec 32) (v12 : BitVec 32) (v14 : BitVec 32) (k0_t1 : Fin (k0_t1_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c0_i32_132 : BitVec 32 := 0#32
  let c1_i32_134 : BitVec 32 := 1#32
  let arg14 : BitVec 32 := Scf.iv c0_i32_132 c1_i32_134 k0_t1
  let c128_i32_236 : BitVec 32 := 128#32
  let v442 : BitVec 32 := Scalar.muli arg14 c128_i32_236
  let v443 : BitVec 32 := Scalar.addi v37 v442
  let v444 : BitVec 32 := v443
  let v585 : Index := Scalar.indexCast v444
  let c512_343 : Index := 512#32
  ![v585.toNat, 512]
def k0_off6 (i : grid0.Coords) (v2 : BitVec 32) (v4 : BitVec 32) (v7 : BitVec 32) (v9 : BitVec 32) (v12 : BitVec 32) (v14 : BitVec 32) (k0_t1 : Fin (k0_t1_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c0_i32_132 : BitVec 32 := 0#32
  let c1_i32_134 : BitVec 32 := 1#32
  let arg14 : BitVec 32 := Scf.iv c0_i32_132 c1_i32_134 k0_t1
  let c128_i32_236 : BitVec 32 := 128#32
  let v442 : BitVec 32 := Scalar.muli arg14 c128_i32_236
  let v443 : BitVec 32 := Scalar.addi v37 v442
  let v444 : BitVec 32 := v443
  let v617 : Index := Scalar.indexCast v444
  let c640_368 : Index := 640#32
  ![v617.toNat, 640]
def k0_off7 (i : grid0.Coords) (v2 : BitVec 32) (v4 : BitVec 32) (v7 : BitVec 32) (v9 : BitVec 32) (v12 : BitVec 32) (v14 : BitVec 32) (k0_t1 : Fin (k0_t1_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c0_i32_132 : BitVec 32 := 0#32
  let c1_i32_134 : BitVec 32 := 1#32
  let arg14 : BitVec 32 := Scf.iv c0_i32_132 c1_i32_134 k0_t1
  let c128_i32_236 : BitVec 32 := 128#32
  let v442 : BitVec 32 := Scalar.muli arg14 c128_i32_236
  let v443 : BitVec 32 := Scalar.addi v37 v442
  let v444 : BitVec 32 := v443
  let v649 : Index := Scalar.indexCast v444
  let c768_393 : Index := 768#32
  ![v649.toNat, 768]
def k0_off8 (i : grid0.Coords) (v2 : BitVec 32) (v4 : BitVec 32) (v7 : BitVec 32) (v9 : BitVec 32) (v12 : BitVec 32) (v14 : BitVec 32) (k0_t1 : Fin (k0_t1_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c0_i32_132 : BitVec 32 := 0#32
  let c1_i32_134 : BitVec 32 := 1#32
  let arg14 : BitVec 32 := Scf.iv c0_i32_132 c1_i32_134 k0_t1
  let c128_i32_236 : BitVec 32 := 128#32
  let v442 : BitVec 32 := Scalar.muli arg14 c128_i32_236
  let v443 : BitVec 32 := Scalar.addi v37 v442
  let v444 : BitVec 32 := v443
  let v681 : Index := Scalar.indexCast v444
  let c896_418 : Index := 896#32
  ![v681.toNat, 896]
@[reducible] def k0_t2_loop (i : grid0.Coords) (v2 : BitVec 32) (v4 : BitVec 32) (v7 : BitVec 32) (v9 : BitVec 32) (v12 : BitVec 32) (v14 : BitVec 32) : Scf.Loop 32 :=
  let c0_i32_132 : BitVec 32 := 0#32
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.addi v0 c128_i32_0
  let c0_i32_2 : BitVec 32 := 0#32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let v259 : BitVec 32 := Scalar.subi v258 c0_i32_132
  let c1_i32_133 : BitVec 32 := 1#32
  let v261 : BitVec 32 := Scalar.divsi v259 c1_i32_133
  let v262 : BitVec 32 := Scalar.muli v261 c1_i32_133
  let v263 : BitVec 32 := Scalar.addi c0_i32_132 v262
  let v260 : BitVec 32 := Scalar.addi c0_i32_132 v259
  let c1_i32_135 : BitVec 32 := 1#32
  ⟨v263, v260, c1_i32_135⟩
def k0_mult2 (i : grid0.Coords) (v2 : BitVec 32) (v4 : BitVec 32) (v7 : BitVec 32) (v9 : BitVec 32) (v12 : BitVec 32) (v14 : BitVec 32) (k0_t2 : Fin (k0_t2_loop i v2 v4 v7 v9 v12 v14).trips) : BitVec 32 :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c0_i32_132 : BitVec 32 := 0#32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let v259 : BitVec 32 := Scalar.subi v258 c0_i32_132
  let c1_i32_133 : BitVec 32 := 1#32
  let v261 : BitVec 32 := Scalar.divsi v259 c1_i32_133
  let v262 : BitVec 32 := Scalar.muli v261 c1_i32_133
  let v263 : BitVec 32 := Scalar.addi c0_i32_132 v262
  let c1_i32_135 : BitVec 32 := 1#32
  let arg14 : BitVec 32 := Scf.iv v263 c1_i32_135 k0_t2
  let c128_i32_236 : BitVec 32 := 128#32
  let v442 : BitVec 32 := Scalar.muli arg14 c128_i32_236
  let v443 : BitVec 32 := Scalar.addi v37 v442
  v443
def k0_off9 (i : grid0.Coords) (v2 : BitVec 32) (v4 : BitVec 32) (v7 : BitVec 32) (v9 : BitVec 32) (v12 : BitVec 32) (v14 : BitVec 32) (k0_t2 : Fin (k0_t2_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c0_i32_132 : BitVec 32 := 0#32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let v259 : BitVec 32 := Scalar.subi v258 c0_i32_132
  let c1_i32_133 : BitVec 32 := 1#32
  let v261 : BitVec 32 := Scalar.divsi v259 c1_i32_133
  let v262 : BitVec 32 := Scalar.muli v261 c1_i32_133
  let v263 : BitVec 32 := Scalar.addi c0_i32_132 v262
  let c1_i32_135 : BitVec 32 := 1#32
  let arg14 : BitVec 32 := Scf.iv v263 c1_i32_135 k0_t2
  let c128_i32_236 : BitVec 32 := 128#32
  let v442 : BitVec 32 := Scalar.muli arg14 c128_i32_236
  let v443 : BitVec 32 := Scalar.addi v37 v442
  let v444 : BitVec 32 := v443
  let v457 : Index := Scalar.indexCast v444
  let c0_243 : Index := 0#32
  ![v457.toNat, 0]
def k0_off10 (i : grid0.Coords) (v2 : BitVec 32) (v4 : BitVec 32) (v7 : BitVec 32) (v9 : BitVec 32) (v12 : BitVec 32) (v14 : BitVec 32) (k0_t2 : Fin (k0_t2_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c0_i32_132 : BitVec 32 := 0#32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let v259 : BitVec 32 := Scalar.subi v258 c0_i32_132
  let c1_i32_133 : BitVec 32 := 1#32
  let v261 : BitVec 32 := Scalar.divsi v259 c1_i32_133
  let v262 : BitVec 32 := Scalar.muli v261 c1_i32_133
  let v263 : BitVec 32 := Scalar.addi c0_i32_132 v262
  let c1_i32_135 : BitVec 32 := 1#32
  let arg14 : BitVec 32 := Scf.iv v263 c1_i32_135 k0_t2
  let c128_i32_236 : BitVec 32 := 128#32
  let v442 : BitVec 32 := Scalar.muli arg14 c128_i32_236
  let v443 : BitVec 32 := Scalar.addi v37 v442
  let v444 : BitVec 32 := v443
  let v489 : Index := Scalar.indexCast v444
  let c128_268 : Index := 128#32
  ![v489.toNat, 128]
def k0_off11 (i : grid0.Coords) (v2 : BitVec 32) (v4 : BitVec 32) (v7 : BitVec 32) (v9 : BitVec 32) (v12 : BitVec 32) (v14 : BitVec 32) (k0_t2 : Fin (k0_t2_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c0_i32_132 : BitVec 32 := 0#32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let v259 : BitVec 32 := Scalar.subi v258 c0_i32_132
  let c1_i32_133 : BitVec 32 := 1#32
  let v261 : BitVec 32 := Scalar.divsi v259 c1_i32_133
  let v262 : BitVec 32 := Scalar.muli v261 c1_i32_133
  let v263 : BitVec 32 := Scalar.addi c0_i32_132 v262
  let c1_i32_135 : BitVec 32 := 1#32
  let arg14 : BitVec 32 := Scf.iv v263 c1_i32_135 k0_t2
  let c128_i32_236 : BitVec 32 := 128#32
  let v442 : BitVec 32 := Scalar.muli arg14 c128_i32_236
  let v443 : BitVec 32 := Scalar.addi v37 v442
  let v444 : BitVec 32 := v443
  let v521 : Index := Scalar.indexCast v444
  let c256_293 : Index := 256#32
  ![v521.toNat, 256]
def k0_off12 (i : grid0.Coords) (v2 : BitVec 32) (v4 : BitVec 32) (v7 : BitVec 32) (v9 : BitVec 32) (v12 : BitVec 32) (v14 : BitVec 32) (k0_t2 : Fin (k0_t2_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c0_i32_132 : BitVec 32 := 0#32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let v259 : BitVec 32 := Scalar.subi v258 c0_i32_132
  let c1_i32_133 : BitVec 32 := 1#32
  let v261 : BitVec 32 := Scalar.divsi v259 c1_i32_133
  let v262 : BitVec 32 := Scalar.muli v261 c1_i32_133
  let v263 : BitVec 32 := Scalar.addi c0_i32_132 v262
  let c1_i32_135 : BitVec 32 := 1#32
  let arg14 : BitVec 32 := Scf.iv v263 c1_i32_135 k0_t2
  let c128_i32_236 : BitVec 32 := 128#32
  let v442 : BitVec 32 := Scalar.muli arg14 c128_i32_236
  let v443 : BitVec 32 := Scalar.addi v37 v442
  let v444 : BitVec 32 := v443
  let v553 : Index := Scalar.indexCast v444
  let c384_318 : Index := 384#32
  ![v553.toNat, 384]
def k0_off13 (i : grid0.Coords) (v2 : BitVec 32) (v4 : BitVec 32) (v7 : BitVec 32) (v9 : BitVec 32) (v12 : BitVec 32) (v14 : BitVec 32) (k0_t2 : Fin (k0_t2_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c0_i32_132 : BitVec 32 := 0#32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let v259 : BitVec 32 := Scalar.subi v258 c0_i32_132
  let c1_i32_133 : BitVec 32 := 1#32
  let v261 : BitVec 32 := Scalar.divsi v259 c1_i32_133
  let v262 : BitVec 32 := Scalar.muli v261 c1_i32_133
  let v263 : BitVec 32 := Scalar.addi c0_i32_132 v262
  let c1_i32_135 : BitVec 32 := 1#32
  let arg14 : BitVec 32 := Scf.iv v263 c1_i32_135 k0_t2
  let c128_i32_236 : BitVec 32 := 128#32
  let v442 : BitVec 32 := Scalar.muli arg14 c128_i32_236
  let v443 : BitVec 32 := Scalar.addi v37 v442
  let v444 : BitVec 32 := v443
  let v585 : Index := Scalar.indexCast v444
  let c512_343 : Index := 512#32
  ![v585.toNat, 512]
def k0_off14 (i : grid0.Coords) (v2 : BitVec 32) (v4 : BitVec 32) (v7 : BitVec 32) (v9 : BitVec 32) (v12 : BitVec 32) (v14 : BitVec 32) (k0_t2 : Fin (k0_t2_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c0_i32_132 : BitVec 32 := 0#32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let v259 : BitVec 32 := Scalar.subi v258 c0_i32_132
  let c1_i32_133 : BitVec 32 := 1#32
  let v261 : BitVec 32 := Scalar.divsi v259 c1_i32_133
  let v262 : BitVec 32 := Scalar.muli v261 c1_i32_133
  let v263 : BitVec 32 := Scalar.addi c0_i32_132 v262
  let c1_i32_135 : BitVec 32 := 1#32
  let arg14 : BitVec 32 := Scf.iv v263 c1_i32_135 k0_t2
  let c128_i32_236 : BitVec 32 := 128#32
  let v442 : BitVec 32 := Scalar.muli arg14 c128_i32_236
  let v443 : BitVec 32 := Scalar.addi v37 v442
  let v444 : BitVec 32 := v443
  let v617 : Index := Scalar.indexCast v444
  let c640_368 : Index := 640#32
  ![v617.toNat, 640]
def k0_off15 (i : grid0.Coords) (v2 : BitVec 32) (v4 : BitVec 32) (v7 : BitVec 32) (v9 : BitVec 32) (v12 : BitVec 32) (v14 : BitVec 32) (k0_t2 : Fin (k0_t2_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c0_i32_132 : BitVec 32 := 0#32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let v259 : BitVec 32 := Scalar.subi v258 c0_i32_132
  let c1_i32_133 : BitVec 32 := 1#32
  let v261 : BitVec 32 := Scalar.divsi v259 c1_i32_133
  let v262 : BitVec 32 := Scalar.muli v261 c1_i32_133
  let v263 : BitVec 32 := Scalar.addi c0_i32_132 v262
  let c1_i32_135 : BitVec 32 := 1#32
  let arg14 : BitVec 32 := Scf.iv v263 c1_i32_135 k0_t2
  let c128_i32_236 : BitVec 32 := 128#32
  let v442 : BitVec 32 := Scalar.muli arg14 c128_i32_236
  let v443 : BitVec 32 := Scalar.addi v37 v442
  let v444 : BitVec 32 := v443
  let v649 : Index := Scalar.indexCast v444
  let c768_393 : Index := 768#32
  ![v649.toNat, 768]
def k0_off16 (i : grid0.Coords) (v2 : BitVec 32) (v4 : BitVec 32) (v7 : BitVec 32) (v9 : BitVec 32) (v12 : BitVec 32) (v14 : BitVec 32) (k0_t2 : Fin (k0_t2_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c0_i32_132 : BitVec 32 := 0#32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let v259 : BitVec 32 := Scalar.subi v258 c0_i32_132
  let c1_i32_133 : BitVec 32 := 1#32
  let v261 : BitVec 32 := Scalar.divsi v259 c1_i32_133
  let v262 : BitVec 32 := Scalar.muli v261 c1_i32_133
  let v263 : BitVec 32 := Scalar.addi c0_i32_132 v262
  let c1_i32_135 : BitVec 32 := 1#32
  let arg14 : BitVec 32 := Scf.iv v263 c1_i32_135 k0_t2
  let c128_i32_236 : BitVec 32 := 128#32
  let v442 : BitVec 32 := Scalar.muli arg14 c128_i32_236
  let v443 : BitVec 32 := Scalar.addi v37 v442
  let v444 : BitVec 32 := v443
  let v681 : Index := Scalar.indexCast v444
  let c896_418 : Index := 896#32
  ![v681.toNat, 896]
@[reducible] def k0_t3_loop (i : grid0.Coords) (v2 : BitVec 32) (v4 : BitVec 32) (v7 : BitVec 32) (v9 : BitVec 32) (v12 : BitVec 32) (v14 : BitVec 32) : Scf.Loop 32 :=
  let c0_i32_138 : BitVec 32 := 0#32
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.addi v0 c128_i32_0
  let c0_i32_2 : BitVec 32 := 0#32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let v266 : BitVec 32 := Scalar.subi v256 c0_i32_138
  let c1_i32_139 : BitVec 32 := 1#32
  let v268 : BitVec 32 := Scalar.divsi v266 c1_i32_139
  let v269 : BitVec 32 := Scalar.muli v268 c1_i32_139
  let v270 : BitVec 32 := Scalar.addi c0_i32_138 v269
  let c1_i32_140 : BitVec 32 := 1#32
  ⟨c0_i32_138, v270, c1_i32_140⟩
def k0_mult3 (i : grid0.Coords) (v2 : BitVec 32) (v4 : BitVec 32) (v7 : BitVec 32) (v9 : BitVec 32) (v12 : BitVec 32) (v14 : BitVec 32) (k0_t3 : Fin (k0_t3_loop i v2 v4 v7 v9 v12 v14).trips) : BitVec 32 :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let c1_i32_140 : BitVec 32 := 1#32
  let arg14 : BitVec 32 := Scf.iv c0_i32_138 c1_i32_140 k0_t3
  let c512_i32 : BitVec 32 := 512#32
  let v442 : BitVec 32 := Scalar.muli arg14 c512_i32
  let v443 : BitVec 32 := Scalar.addi v265 v442
  v443
def k0_cond1 (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_t3 : Fin (k0_t3_loop i v2 v4 v7 v9 v12 v14).trips) : BitVec 1 :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let c1_i32_140 : BitVec 32 := 1#32
  let arg14 : BitVec 32 := Scf.iv c0_i32_138 c1_i32_140 k0_t3
  let c512_i32 : BitVec 32 := 512#32
  let v442 : BitVec 32 := Scalar.muli arg14 c512_i32
  let v443 : BitVec 32 := Scalar.addi v265 v442
  let c0_i32_10 : BitVec 32 := 0#32
  let c1_i32 : BitVec 32 := 1#32
  let v19 : BitVec 32 := Scalar.subi v1 c1_i32
  let v21 : BitVec 1 := Scalar.cmpi .sge v19 v20
  let c0_i32_9 : BitVec 32 := 0#32
  let v23 : BitVec 32 := Scalar.select v21 v22 c0_i32_9
  let v24 : BitVec 32 := Scalar.maxsi c0_i32_10 v23
  let v26 : BitVec 1 := Scalar.cmpi .sge v19 v25
  let c0_i32_13 : BitVec 32 := 0#32
  let v28 : BitVec 32 := Scalar.select v26 v27 c0_i32_13
  let v29 : BitVec 32 := Scalar.maxsi v24 v28
  let v31 : BitVec 1 := Scalar.cmpi .sge v19 v30
  let c0_i32_16 : BitVec 32 := 0#32
  let v33 : BitVec 32 := Scalar.select v31 v32 c0_i32_16
  let v34 : BitVec 32 := Scalar.maxsi v29 v33
  let c4095_i32_17 : BitVec 32 := 4095#32
  let v35 : BitVec 32 := Scalar.subi v19 c4095_i32_17
  let v36 : BitVec 32 := Scalar.maxsi v34 v35
  let v444 : BitVec 1 := Scalar.cmpi .slt v443 v36
  let c512_i32_236 : BitVec 32 := 512#32
  let v445 : BitVec 32 := Scalar.addi v443 c512_i32_236
  let v446 : BitVec 1 := Scalar.cmpi .sgt v445 v0
  let v447 : BitVec 1 := Scalar.ori v444 v446
  let v448 : BitVec 32 := Scalar.extui v447
  let c0_i32_237 : BitVec 32 := 0#32
  let v449 : BitVec 1 := Scalar.cmpi .ne v448 c0_i32_237
  v449

def k0_off17 (i : grid0.Coords) (v2 : BitVec 32) (v4 : BitVec 32) (v7 : BitVec 32) (v9 : BitVec 32) (v12 : BitVec 32) (v14 : BitVec 32) (k0_t3 : Fin (k0_t3_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let c1_i32_140 : BitVec 32 := 1#32
  let arg14 : BitVec 32 := Scf.iv c0_i32_138 c1_i32_140 k0_t3
  let c512_i32 : BitVec 32 := 512#32
  let v442 : BitVec 32 := Scalar.muli arg14 c512_i32
  let v443 : BitVec 32 := Scalar.addi v265 v442
  let v453 : BitVec 32 := v443
  let v493 : Index := Scalar.indexCast v453
  let c0_249 : Index := 0#32
  ![v493.toNat, 0]
def k0_off18 (i : grid0.Coords) (v2 : BitVec 32) (v4 : BitVec 32) (v7 : BitVec 32) (v9 : BitVec 32) (v12 : BitVec 32) (v14 : BitVec 32) (k0_t3 : Fin (k0_t3_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let c1_i32_140 : BitVec 32 := 1#32
  let arg14 : BitVec 32 := Scf.iv c0_i32_138 c1_i32_140 k0_t3
  let c512_i32 : BitVec 32 := 512#32
  let v442 : BitVec 32 := Scalar.muli arg14 c512_i32
  let v443 : BitVec 32 := Scalar.addi v265 v442
  let v453 : BitVec 32 := v443
  let v557 : Index := Scalar.indexCast v453
  let c128_280 : Index := 128#32
  ![v557.toNat, 128]
def k0_off19 (i : grid0.Coords) (v2 : BitVec 32) (v4 : BitVec 32) (v7 : BitVec 32) (v9 : BitVec 32) (v12 : BitVec 32) (v14 : BitVec 32) (k0_t3 : Fin (k0_t3_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let c1_i32_140 : BitVec 32 := 1#32
  let arg14 : BitVec 32 := Scf.iv c0_i32_138 c1_i32_140 k0_t3
  let c512_i32 : BitVec 32 := 512#32
  let v442 : BitVec 32 := Scalar.muli arg14 c512_i32
  let v443 : BitVec 32 := Scalar.addi v265 v442
  let v453 : BitVec 32 := v443
  let v621 : Index := Scalar.indexCast v453
  let c256_311 : Index := 256#32
  ![v621.toNat, 256]
def k0_off20 (i : grid0.Coords) (v2 : BitVec 32) (v4 : BitVec 32) (v7 : BitVec 32) (v9 : BitVec 32) (v12 : BitVec 32) (v14 : BitVec 32) (k0_t3 : Fin (k0_t3_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let c1_i32_140 : BitVec 32 := 1#32
  let arg14 : BitVec 32 := Scf.iv c0_i32_138 c1_i32_140 k0_t3
  let c512_i32 : BitVec 32 := 512#32
  let v442 : BitVec 32 := Scalar.muli arg14 c512_i32
  let v443 : BitVec 32 := Scalar.addi v265 v442
  let v453 : BitVec 32 := v443
  let v685 : Index := Scalar.indexCast v453
  let c384_342 : Index := 384#32
  ![v685.toNat, 384]
def k0_off21 (i : grid0.Coords) (v2 : BitVec 32) (v4 : BitVec 32) (v7 : BitVec 32) (v9 : BitVec 32) (v12 : BitVec 32) (v14 : BitVec 32) (k0_t3 : Fin (k0_t3_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let c1_i32_140 : BitVec 32 := 1#32
  let arg14 : BitVec 32 := Scf.iv c0_i32_138 c1_i32_140 k0_t3
  let c512_i32 : BitVec 32 := 512#32
  let v442 : BitVec 32 := Scalar.muli arg14 c512_i32
  let v443 : BitVec 32 := Scalar.addi v265 v442
  let v453 : BitVec 32 := v443
  let v749 : Index := Scalar.indexCast v453
  let c512_373 : Index := 512#32
  ![v749.toNat, 512]
def k0_off22 (i : grid0.Coords) (v2 : BitVec 32) (v4 : BitVec 32) (v7 : BitVec 32) (v9 : BitVec 32) (v12 : BitVec 32) (v14 : BitVec 32) (k0_t3 : Fin (k0_t3_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let c1_i32_140 : BitVec 32 := 1#32
  let arg14 : BitVec 32 := Scf.iv c0_i32_138 c1_i32_140 k0_t3
  let c512_i32 : BitVec 32 := 512#32
  let v442 : BitVec 32 := Scalar.muli arg14 c512_i32
  let v443 : BitVec 32 := Scalar.addi v265 v442
  let v453 : BitVec 32 := v443
  let v813 : Index := Scalar.indexCast v453
  let c640_404 : Index := 640#32
  ![v813.toNat, 640]
def k0_off23 (i : grid0.Coords) (v2 : BitVec 32) (v4 : BitVec 32) (v7 : BitVec 32) (v9 : BitVec 32) (v12 : BitVec 32) (v14 : BitVec 32) (k0_t3 : Fin (k0_t3_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let c1_i32_140 : BitVec 32 := 1#32
  let arg14 : BitVec 32 := Scf.iv c0_i32_138 c1_i32_140 k0_t3
  let c512_i32 : BitVec 32 := 512#32
  let v442 : BitVec 32 := Scalar.muli arg14 c512_i32
  let v443 : BitVec 32 := Scalar.addi v265 v442
  let v453 : BitVec 32 := v443
  let v877 : Index := Scalar.indexCast v453
  let c768_435 : Index := 768#32
  ![v877.toNat, 768]
def k0_off24 (i : grid0.Coords) (v2 : BitVec 32) (v4 : BitVec 32) (v7 : BitVec 32) (v9 : BitVec 32) (v12 : BitVec 32) (v14 : BitVec 32) (k0_t3 : Fin (k0_t3_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let c1_i32_140 : BitVec 32 := 1#32
  let arg14 : BitVec 32 := Scf.iv c0_i32_138 c1_i32_140 k0_t3
  let c512_i32 : BitVec 32 := 512#32
  let v442 : BitVec 32 := Scalar.muli arg14 c512_i32
  let v443 : BitVec 32 := Scalar.addi v265 v442
  let v453 : BitVec 32 := v443
  let v941 : Index := Scalar.indexCast v453
  let c896_466 : Index := 896#32
  ![v941.toNat, 896]
def k0_mult4 (i : grid0.Coords) (v2 : BitVec 32) (v4 : BitVec 32) (v7 : BitVec 32) (v9 : BitVec 32) (v12 : BitVec 32) (v14 : BitVec 32) (k0_t3 : Fin (k0_t3_loop i v2 v4 v7 v9 v12 v14).trips) : BitVec 32 :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let c1_i32_140 : BitVec 32 := 1#32
  let arg14 : BitVec 32 := Scf.iv c0_i32_138 c1_i32_140 k0_t3
  let c512_i32 : BitVec 32 := 512#32
  let v442 : BitVec 32 := Scalar.muli arg14 c512_i32
  let v443 : BitVec 32 := Scalar.addi v265 v442
  v443
def k0_cond2 (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_t3 : Fin (k0_t3_loop i v2 v4 v7 v9 v12 v14).trips) : BitVec 1 :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let c1_i32_140 : BitVec 32 := 1#32
  let arg14 : BitVec 32 := Scf.iv c0_i32_138 c1_i32_140 k0_t3
  let c512_i32 : BitVec 32 := 512#32
  let v442 : BitVec 32 := Scalar.muli arg14 c512_i32
  let v443 : BitVec 32 := Scalar.addi v265 v442
  let c0_i32_10 : BitVec 32 := 0#32
  let c1_i32 : BitVec 32 := 1#32
  let v19 : BitVec 32 := Scalar.subi v1 c1_i32
  let v21 : BitVec 1 := Scalar.cmpi .sge v19 v20
  let c0_i32_9 : BitVec 32 := 0#32
  let v23 : BitVec 32 := Scalar.select v21 v22 c0_i32_9
  let v24 : BitVec 32 := Scalar.maxsi c0_i32_10 v23
  let v26 : BitVec 1 := Scalar.cmpi .sge v19 v25
  let c0_i32_13 : BitVec 32 := 0#32
  let v28 : BitVec 32 := Scalar.select v26 v27 c0_i32_13
  let v29 : BitVec 32 := Scalar.maxsi v24 v28
  let v31 : BitVec 1 := Scalar.cmpi .sge v19 v30
  let c0_i32_16 : BitVec 32 := 0#32
  let v33 : BitVec 32 := Scalar.select v31 v32 c0_i32_16
  let v34 : BitVec 32 := Scalar.maxsi v29 v33
  let c4095_i32_17 : BitVec 32 := 4095#32
  let v35 : BitVec 32 := Scalar.subi v19 c4095_i32_17
  let v36 : BitVec 32 := Scalar.maxsi v34 v35
  let v444 : BitVec 1 := Scalar.cmpi .slt v443 v36
  let c512_i32_236 : BitVec 32 := 512#32
  let v445 : BitVec 32 := Scalar.addi v443 c512_i32_236
  let v446 : BitVec 1 := Scalar.cmpi .sgt v445 v0
  let v447 : BitVec 1 := Scalar.ori v444 v446
  let v_true : BitVec 1 := 1#1
  let v450 : BitVec 1 := Scalar.xori v447 v_true
  let v451 : BitVec 32 := Scalar.extui v450
  let c0_i32_238 : BitVec 32 := 0#32
  let v452 : BitVec 1 := Scalar.cmpi .ne v451 c0_i32_238
  v452

def k0_off25 (i : grid0.Coords) (v2 : BitVec 32) (v4 : BitVec 32) (v7 : BitVec 32) (v9 : BitVec 32) (v12 : BitVec 32) (v14 : BitVec 32) (k0_t3 : Fin (k0_t3_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let c1_i32_140 : BitVec 32 := 1#32
  let arg14 : BitVec 32 := Scf.iv c0_i32_138 c1_i32_140 k0_t3
  let c512_i32 : BitVec 32 := 512#32
  let v442 : BitVec 32 := Scalar.muli arg14 c512_i32
  let v443 : BitVec 32 := Scalar.addi v265 v442
  let v453 : BitVec 32 := v443
  let v457 : Index := Scalar.indexCast v453
  let c0_243 : Index := 0#32
  ![v457.toNat, 0]
def k0_off26 (i : grid0.Coords) (v2 : BitVec 32) (v4 : BitVec 32) (v7 : BitVec 32) (v9 : BitVec 32) (v12 : BitVec 32) (v14 : BitVec 32) (k0_t3 : Fin (k0_t3_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let c1_i32_140 : BitVec 32 := 1#32
  let arg14 : BitVec 32 := Scf.iv c0_i32_138 c1_i32_140 k0_t3
  let c512_i32 : BitVec 32 := 512#32
  let v442 : BitVec 32 := Scalar.muli arg14 c512_i32
  let v443 : BitVec 32 := Scalar.addi v265 v442
  let v453 : BitVec 32 := v443
  let v513 : Index := Scalar.indexCast v453
  let c128_270 : Index := 128#32
  ![v513.toNat, 128]
def k0_off27 (i : grid0.Coords) (v2 : BitVec 32) (v4 : BitVec 32) (v7 : BitVec 32) (v9 : BitVec 32) (v12 : BitVec 32) (v14 : BitVec 32) (k0_t3 : Fin (k0_t3_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let c1_i32_140 : BitVec 32 := 1#32
  let arg14 : BitVec 32 := Scf.iv c0_i32_138 c1_i32_140 k0_t3
  let c512_i32 : BitVec 32 := 512#32
  let v442 : BitVec 32 := Scalar.muli arg14 c512_i32
  let v443 : BitVec 32 := Scalar.addi v265 v442
  let v453 : BitVec 32 := v443
  let v569 : Index := Scalar.indexCast v453
  let c256_297 : Index := 256#32
  ![v569.toNat, 256]
def k0_off28 (i : grid0.Coords) (v2 : BitVec 32) (v4 : BitVec 32) (v7 : BitVec 32) (v9 : BitVec 32) (v12 : BitVec 32) (v14 : BitVec 32) (k0_t3 : Fin (k0_t3_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let c1_i32_140 : BitVec 32 := 1#32
  let arg14 : BitVec 32 := Scf.iv c0_i32_138 c1_i32_140 k0_t3
  let c512_i32 : BitVec 32 := 512#32
  let v442 : BitVec 32 := Scalar.muli arg14 c512_i32
  let v443 : BitVec 32 := Scalar.addi v265 v442
  let v453 : BitVec 32 := v443
  let v625 : Index := Scalar.indexCast v453
  let c384_324 : Index := 384#32
  ![v625.toNat, 384]
def k0_off29 (i : grid0.Coords) (v2 : BitVec 32) (v4 : BitVec 32) (v7 : BitVec 32) (v9 : BitVec 32) (v12 : BitVec 32) (v14 : BitVec 32) (k0_t3 : Fin (k0_t3_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let c1_i32_140 : BitVec 32 := 1#32
  let arg14 : BitVec 32 := Scf.iv c0_i32_138 c1_i32_140 k0_t3
  let c512_i32 : BitVec 32 := 512#32
  let v442 : BitVec 32 := Scalar.muli arg14 c512_i32
  let v443 : BitVec 32 := Scalar.addi v265 v442
  let v453 : BitVec 32 := v443
  let v681 : Index := Scalar.indexCast v453
  let c512_351 : Index := 512#32
  ![v681.toNat, 512]
def k0_off30 (i : grid0.Coords) (v2 : BitVec 32) (v4 : BitVec 32) (v7 : BitVec 32) (v9 : BitVec 32) (v12 : BitVec 32) (v14 : BitVec 32) (k0_t3 : Fin (k0_t3_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let c1_i32_140 : BitVec 32 := 1#32
  let arg14 : BitVec 32 := Scf.iv c0_i32_138 c1_i32_140 k0_t3
  let c512_i32 : BitVec 32 := 512#32
  let v442 : BitVec 32 := Scalar.muli arg14 c512_i32
  let v443 : BitVec 32 := Scalar.addi v265 v442
  let v453 : BitVec 32 := v443
  let v737 : Index := Scalar.indexCast v453
  let c640_378 : Index := 640#32
  ![v737.toNat, 640]
def k0_off31 (i : grid0.Coords) (v2 : BitVec 32) (v4 : BitVec 32) (v7 : BitVec 32) (v9 : BitVec 32) (v12 : BitVec 32) (v14 : BitVec 32) (k0_t3 : Fin (k0_t3_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let c1_i32_140 : BitVec 32 := 1#32
  let arg14 : BitVec 32 := Scf.iv c0_i32_138 c1_i32_140 k0_t3
  let c512_i32 : BitVec 32 := 512#32
  let v442 : BitVec 32 := Scalar.muli arg14 c512_i32
  let v443 : BitVec 32 := Scalar.addi v265 v442
  let v453 : BitVec 32 := v443
  let v793 : Index := Scalar.indexCast v453
  let c768_405 : Index := 768#32
  ![v793.toNat, 768]
def k0_off32 (i : grid0.Coords) (v2 : BitVec 32) (v4 : BitVec 32) (v7 : BitVec 32) (v9 : BitVec 32) (v12 : BitVec 32) (v14 : BitVec 32) (k0_t3 : Fin (k0_t3_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let c1_i32_140 : BitVec 32 := 1#32
  let arg14 : BitVec 32 := Scf.iv c0_i32_138 c1_i32_140 k0_t3
  let c512_i32 : BitVec 32 := 512#32
  let v442 : BitVec 32 := Scalar.muli arg14 c512_i32
  let v443 : BitVec 32 := Scalar.addi v265 v442
  let v453 : BitVec 32 := v443
  let v849 : Index := Scalar.indexCast v453
  let c896_432 : Index := 896#32
  ![v849.toNat, 896]
@[reducible] def k0_t4_loop (i : grid0.Coords) (v2 : BitVec 32) (v4 : BitVec 32) (v7 : BitVec 32) (v9 : BitVec 32) (v12 : BitVec 32) (v14 : BitVec 32) : Scf.Loop 32 :=
  let c0_i32_138 : BitVec 32 := 0#32
  let arg0 : BitVec 32 := BitVec.ofNat 32 (i 0).val
  let c128_i32 : BitVec 32 := 128#32
  let v0 : BitVec 32 := Scalar.muli arg0 c128_i32
  let c128_i32_0 : BitVec 32 := 128#32
  let v1 : BitVec 32 := Scalar.addi v0 c128_i32_0
  let c0_i32_2 : BitVec 32 := 0#32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let v266 : BitVec 32 := Scalar.subi v256 c0_i32_138
  let c1_i32_139 : BitVec 32 := 1#32
  let v268 : BitVec 32 := Scalar.divsi v266 c1_i32_139
  let v269 : BitVec 32 := Scalar.muli v268 c1_i32_139
  let v270 : BitVec 32 := Scalar.addi c0_i32_138 v269
  let v267 : BitVec 32 := Scalar.addi c0_i32_138 v266
  let c1_i32_141 : BitVec 32 := 1#32
  ⟨v270, v267, c1_i32_141⟩

def k0_chk1 (i : grid0.Coords) (v2 : BitVec 32) (v4 : BitVec 32) (v7 : BitVec 32) (v9 : BitVec 32) (v12 : BitVec 32) (v14 : BitVec 32) : Prop :=
  ((k0_t1_loop i v2 v4 v7 v9 v12 v14).OK) ∧
  (∀ k0_t1 : Fin (k0_t1_loop i v2 v4 v7 v9 v12 v14).trips, 128 ∣ (k0_mult1 i v2 v4 v7 v9 v12 v14 k0_t1).toNat) ∧
  (∀ k0_t1 : Fin (k0_t1_loop i v2 v4 v7 v9 v12 v14).trips, ∀ a, (k0_off1 i v2 v4 v7 v9 v12 v14 k0_t1) a + S128x128.size a ≤ S14208x1024.size a) ∧
  (∀ k0_t1 : Fin (k0_t1_loop i v2 v4 v7 v9 v12 v14).trips, ∀ a, (k0_off2 i v2 v4 v7 v9 v12 v14 k0_t1) a + S128x128.size a ≤ S14208x1024.size a) ∧
  (∀ k0_t1 : Fin (k0_t1_loop i v2 v4 v7 v9 v12 v14).trips, ∀ a, (k0_off3 i v2 v4 v7 v9 v12 v14 k0_t1) a + S128x128.size a ≤ S14208x1024.size a) ∧
  (∀ k0_t1 : Fin (k0_t1_loop i v2 v4 v7 v9 v12 v14).trips, ∀ a, (k0_off4 i v2 v4 v7 v9 v12 v14 k0_t1) a + S128x128.size a ≤ S14208x1024.size a) ∧
  (∀ k0_t1 : Fin (k0_t1_loop i v2 v4 v7 v9 v12 v14).trips, ∀ a, (k0_off5 i v2 v4 v7 v9 v12 v14 k0_t1) a + S128x128.size a ≤ S14208x1024.size a) ∧
  (∀ k0_t1 : Fin (k0_t1_loop i v2 v4 v7 v9 v12 v14).trips, ∀ a, (k0_off6 i v2 v4 v7 v9 v12 v14 k0_t1) a + S128x128.size a ≤ S14208x1024.size a) ∧
  (∀ k0_t1 : Fin (k0_t1_loop i v2 v4 v7 v9 v12 v14).trips, ∀ a, (k0_off7 i v2 v4 v7 v9 v12 v14 k0_t1) a + S128x128.size a ≤ S14208x1024.size a) ∧
  (∀ k0_t1 : Fin (k0_t1_loop i v2 v4 v7 v9 v12 v14).trips, ∀ a, (k0_off8 i v2 v4 v7 v9 v12 v14 k0_t1) a + S128x128.size a ≤ S14208x1024.size a) ∧
  ((k0_t2_loop i v2 v4 v7 v9 v12 v14).OK) ∧
  (∀ k0_t2 : Fin (k0_t2_loop i v2 v4 v7 v9 v12 v14).trips, 128 ∣ (k0_mult2 i v2 v4 v7 v9 v12 v14 k0_t2).toNat) ∧
  (∀ k0_t2 : Fin (k0_t2_loop i v2 v4 v7 v9 v12 v14).trips, ∀ a, (k0_off9 i v2 v4 v7 v9 v12 v14 k0_t2) a + S128x128.size a ≤ S14208x1024.size a) ∧
  (∀ k0_t2 : Fin (k0_t2_loop i v2 v4 v7 v9 v12 v14).trips, ∀ a, (k0_off10 i v2 v4 v7 v9 v12 v14 k0_t2) a + S128x128.size a ≤ S14208x1024.size a) ∧
  (∀ k0_t2 : Fin (k0_t2_loop i v2 v4 v7 v9 v12 v14).trips, ∀ a, (k0_off11 i v2 v4 v7 v9 v12 v14 k0_t2) a + S128x128.size a ≤ S14208x1024.size a) ∧
  (∀ k0_t2 : Fin (k0_t2_loop i v2 v4 v7 v9 v12 v14).trips, ∀ a, (k0_off12 i v2 v4 v7 v9 v12 v14 k0_t2) a + S128x128.size a ≤ S14208x1024.size a) ∧
  (∀ k0_t2 : Fin (k0_t2_loop i v2 v4 v7 v9 v12 v14).trips, ∀ a, (k0_off13 i v2 v4 v7 v9 v12 v14 k0_t2) a + S128x128.size a ≤ S14208x1024.size a) ∧
  (∀ k0_t2 : Fin (k0_t2_loop i v2 v4 v7 v9 v12 v14).trips, ∀ a, (k0_off14 i v2 v4 v7 v9 v12 v14 k0_t2) a + S128x128.size a ≤ S14208x1024.size a) ∧
  (∀ k0_t2 : Fin (k0_t2_loop i v2 v4 v7 v9 v12 v14).trips, ∀ a, (k0_off15 i v2 v4 v7 v9 v12 v14 k0_t2) a + S128x128.size a ≤ S14208x1024.size a) ∧
  (∀ k0_t2 : Fin (k0_t2_loop i v2 v4 v7 v9 v12 v14).trips, ∀ a, (k0_off16 i v2 v4 v7 v9 v12 v14 k0_t2) a + S128x128.size a ≤ S14208x1024.size a) ∧
  ((k0_t3_loop i v2 v4 v7 v9 v12 v14).OK) ∧
  ((k0_t4_loop i v2 v4 v7 v9 v12 v14).OK)
theorem k0_t1_ok : ∀ (i : grid0.Coords) (v2 : BitVec 32) (v4 : BitVec 32) (v7 : BitVec 32) (v9 : BitVec 32) (v12 : BitVec 32) (v14 : BitVec 32) (k0_hw1 : k0_chk1 i v2 v4 v7 v9 v12 v14), (k0_t1_loop i v2 v4 v7 v9 v12 v14).OK := fun i v2 v4 v7 v9 v12 v14 k0_hw1 => k0_hw1.1
theorem k0_mult1_dvd : ∀ (i : grid0.Coords) (v2 : BitVec 32) (v4 : BitVec 32) (v7 : BitVec 32) (v9 : BitVec 32) (v12 : BitVec 32) (v14 : BitVec 32) (k0_hw1 : k0_chk1 i v2 v4 v7 v9 v12 v14) (k0_t1 : Fin (k0_t1_loop i v2 v4 v7 v9 v12 v14).trips), 128 ∣ (k0_mult1 i v2 v4 v7 v9 v12 v14 k0_t1).toNat := fun i v2 v4 v7 v9 v12 v14 k0_hw1 k0_t1 => k0_hw1.2.1 k0_t1
theorem k0_off1_inb : ∀ (i : grid0.Coords) (v2 : BitVec 32) (v4 : BitVec 32) (v7 : BitVec 32) (v9 : BitVec 32) (v12 : BitVec 32) (v14 : BitVec 32) (k0_hw1 : k0_chk1 i v2 v4 v7 v9 v12 v14) (k0_t1 : Fin (k0_t1_loop i v2 v4 v7 v9 v12 v14).trips), ∀ a, (k0_off1 i v2 v4 v7 v9 v12 v14 k0_t1) a + S128x128.size a ≤ S14208x1024.size a := fun i v2 v4 v7 v9 v12 v14 k0_hw1 k0_t1 => k0_hw1.2.2.1 k0_t1
theorem k0_off2_inb : ∀ (i : grid0.Coords) (v2 : BitVec 32) (v4 : BitVec 32) (v7 : BitVec 32) (v9 : BitVec 32) (v12 : BitVec 32) (v14 : BitVec 32) (k0_hw1 : k0_chk1 i v2 v4 v7 v9 v12 v14) (k0_t1 : Fin (k0_t1_loop i v2 v4 v7 v9 v12 v14).trips), ∀ a, (k0_off2 i v2 v4 v7 v9 v12 v14 k0_t1) a + S128x128.size a ≤ S14208x1024.size a := fun i v2 v4 v7 v9 v12 v14 k0_hw1 k0_t1 => k0_hw1.2.2.2.1 k0_t1
theorem k0_off3_inb : ∀ (i : grid0.Coords) (v2 : BitVec 32) (v4 : BitVec 32) (v7 : BitVec 32) (v9 : BitVec 32) (v12 : BitVec 32) (v14 : BitVec 32) (k0_hw1 : k0_chk1 i v2 v4 v7 v9 v12 v14) (k0_t1 : Fin (k0_t1_loop i v2 v4 v7 v9 v12 v14).trips), ∀ a, (k0_off3 i v2 v4 v7 v9 v12 v14 k0_t1) a + S128x128.size a ≤ S14208x1024.size a := fun i v2 v4 v7 v9 v12 v14 k0_hw1 k0_t1 => k0_hw1.2.2.2.2.1 k0_t1
theorem k0_off4_inb : ∀ (i : grid0.Coords) (v2 : BitVec 32) (v4 : BitVec 32) (v7 : BitVec 32) (v9 : BitVec 32) (v12 : BitVec 32) (v14 : BitVec 32) (k0_hw1 : k0_chk1 i v2 v4 v7 v9 v12 v14) (k0_t1 : Fin (k0_t1_loop i v2 v4 v7 v9 v12 v14).trips), ∀ a, (k0_off4 i v2 v4 v7 v9 v12 v14 k0_t1) a + S128x128.size a ≤ S14208x1024.size a := fun i v2 v4 v7 v9 v12 v14 k0_hw1 k0_t1 => k0_hw1.2.2.2.2.2.1 k0_t1
theorem k0_off5_inb : ∀ (i : grid0.Coords) (v2 : BitVec 32) (v4 : BitVec 32) (v7 : BitVec 32) (v9 : BitVec 32) (v12 : BitVec 32) (v14 : BitVec 32) (k0_hw1 : k0_chk1 i v2 v4 v7 v9 v12 v14) (k0_t1 : Fin (k0_t1_loop i v2 v4 v7 v9 v12 v14).trips), ∀ a, (k0_off5 i v2 v4 v7 v9 v12 v14 k0_t1) a + S128x128.size a ≤ S14208x1024.size a := fun i v2 v4 v7 v9 v12 v14 k0_hw1 k0_t1 => k0_hw1.2.2.2.2.2.2.1 k0_t1
theorem k0_off6_inb : ∀ (i : grid0.Coords) (v2 : BitVec 32) (v4 : BitVec 32) (v7 : BitVec 32) (v9 : BitVec 32) (v12 : BitVec 32) (v14 : BitVec 32) (k0_hw1 : k0_chk1 i v2 v4 v7 v9 v12 v14) (k0_t1 : Fin (k0_t1_loop i v2 v4 v7 v9 v12 v14).trips), ∀ a, (k0_off6 i v2 v4 v7 v9 v12 v14 k0_t1) a + S128x128.size a ≤ S14208x1024.size a := fun i v2 v4 v7 v9 v12 v14 k0_hw1 k0_t1 => k0_hw1.2.2.2.2.2.2.2.1 k0_t1
theorem k0_off7_inb : ∀ (i : grid0.Coords) (v2 : BitVec 32) (v4 : BitVec 32) (v7 : BitVec 32) (v9 : BitVec 32) (v12 : BitVec 32) (v14 : BitVec 32) (k0_hw1 : k0_chk1 i v2 v4 v7 v9 v12 v14) (k0_t1 : Fin (k0_t1_loop i v2 v4 v7 v9 v12 v14).trips), ∀ a, (k0_off7 i v2 v4 v7 v9 v12 v14 k0_t1) a + S128x128.size a ≤ S14208x1024.size a := fun i v2 v4 v7 v9 v12 v14 k0_hw1 k0_t1 => k0_hw1.2.2.2.2.2.2.2.2.1 k0_t1
theorem k0_off8_inb : ∀ (i : grid0.Coords) (v2 : BitVec 32) (v4 : BitVec 32) (v7 : BitVec 32) (v9 : BitVec 32) (v12 : BitVec 32) (v14 : BitVec 32) (k0_hw1 : k0_chk1 i v2 v4 v7 v9 v12 v14) (k0_t1 : Fin (k0_t1_loop i v2 v4 v7 v9 v12 v14).trips), ∀ a, (k0_off8 i v2 v4 v7 v9 v12 v14 k0_t1) a + S128x128.size a ≤ S14208x1024.size a := fun i v2 v4 v7 v9 v12 v14 k0_hw1 k0_t1 => k0_hw1.2.2.2.2.2.2.2.2.2.1 k0_t1
theorem k0_t2_ok : ∀ (i : grid0.Coords) (v2 : BitVec 32) (v4 : BitVec 32) (v7 : BitVec 32) (v9 : BitVec 32) (v12 : BitVec 32) (v14 : BitVec 32) (k0_hw1 : k0_chk1 i v2 v4 v7 v9 v12 v14), (k0_t2_loop i v2 v4 v7 v9 v12 v14).OK := fun i v2 v4 v7 v9 v12 v14 k0_hw1 => k0_hw1.2.2.2.2.2.2.2.2.2.2.1
theorem k0_mult2_dvd : ∀ (i : grid0.Coords) (v2 : BitVec 32) (v4 : BitVec 32) (v7 : BitVec 32) (v9 : BitVec 32) (v12 : BitVec 32) (v14 : BitVec 32) (k0_hw1 : k0_chk1 i v2 v4 v7 v9 v12 v14) (k0_t2 : Fin (k0_t2_loop i v2 v4 v7 v9 v12 v14).trips), 128 ∣ (k0_mult2 i v2 v4 v7 v9 v12 v14 k0_t2).toNat := fun i v2 v4 v7 v9 v12 v14 k0_hw1 k0_t2 => k0_hw1.2.2.2.2.2.2.2.2.2.2.2.1 k0_t2
theorem k0_off9_inb : ∀ (i : grid0.Coords) (v2 : BitVec 32) (v4 : BitVec 32) (v7 : BitVec 32) (v9 : BitVec 32) (v12 : BitVec 32) (v14 : BitVec 32) (k0_hw1 : k0_chk1 i v2 v4 v7 v9 v12 v14) (k0_t2 : Fin (k0_t2_loop i v2 v4 v7 v9 v12 v14).trips), ∀ a, (k0_off9 i v2 v4 v7 v9 v12 v14 k0_t2) a + S128x128.size a ≤ S14208x1024.size a := fun i v2 v4 v7 v9 v12 v14 k0_hw1 k0_t2 => k0_hw1.2.2.2.2.2.2.2.2.2.2.2.2.1 k0_t2
theorem k0_off10_inb : ∀ (i : grid0.Coords) (v2 : BitVec 32) (v4 : BitVec 32) (v7 : BitVec 32) (v9 : BitVec 32) (v12 : BitVec 32) (v14 : BitVec 32) (k0_hw1 : k0_chk1 i v2 v4 v7 v9 v12 v14) (k0_t2 : Fin (k0_t2_loop i v2 v4 v7 v9 v12 v14).trips), ∀ a, (k0_off10 i v2 v4 v7 v9 v12 v14 k0_t2) a + S128x128.size a ≤ S14208x1024.size a := fun i v2 v4 v7 v9 v12 v14 k0_hw1 k0_t2 => k0_hw1.2.2.2.2.2.2.2.2.2.2.2.2.2.1 k0_t2
theorem k0_off11_inb : ∀ (i : grid0.Coords) (v2 : BitVec 32) (v4 : BitVec 32) (v7 : BitVec 32) (v9 : BitVec 32) (v12 : BitVec 32) (v14 : BitVec 32) (k0_hw1 : k0_chk1 i v2 v4 v7 v9 v12 v14) (k0_t2 : Fin (k0_t2_loop i v2 v4 v7 v9 v12 v14).trips), ∀ a, (k0_off11 i v2 v4 v7 v9 v12 v14 k0_t2) a + S128x128.size a ≤ S14208x1024.size a := fun i v2 v4 v7 v9 v12 v14 k0_hw1 k0_t2 => k0_hw1.2.2.2.2.2.2.2.2.2.2.2.2.2.2.1 k0_t2
theorem k0_off12_inb : ∀ (i : grid0.Coords) (v2 : BitVec 32) (v4 : BitVec 32) (v7 : BitVec 32) (v9 : BitVec 32) (v12 : BitVec 32) (v14 : BitVec 32) (k0_hw1 : k0_chk1 i v2 v4 v7 v9 v12 v14) (k0_t2 : Fin (k0_t2_loop i v2 v4 v7 v9 v12 v14).trips), ∀ a, (k0_off12 i v2 v4 v7 v9 v12 v14 k0_t2) a + S128x128.size a ≤ S14208x1024.size a := fun i v2 v4 v7 v9 v12 v14 k0_hw1 k0_t2 => k0_hw1.2.2.2.2.2.2.2.2.2.2.2.2.2.2.2.1 k0_t2
theorem k0_off13_inb : ∀ (i : grid0.Coords) (v2 : BitVec 32) (v4 : BitVec 32) (v7 : BitVec 32) (v9 : BitVec 32) (v12 : BitVec 32) (v14 : BitVec 32) (k0_hw1 : k0_chk1 i v2 v4 v7 v9 v12 v14) (k0_t2 : Fin (k0_t2_loop i v2 v4 v7 v9 v12 v14).trips), ∀ a, (k0_off13 i v2 v4 v7 v9 v12 v14 k0_t2) a + S128x128.size a ≤ S14208x1024.size a := fun i v2 v4 v7 v9 v12 v14 k0_hw1 k0_t2 => k0_hw1.2.2.2.2.2.2.2.2.2.2.2.2.2.2.2.2.1 k0_t2
theorem k0_off14_inb : ∀ (i : grid0.Coords) (v2 : BitVec 32) (v4 : BitVec 32) (v7 : BitVec 32) (v9 : BitVec 32) (v12 : BitVec 32) (v14 : BitVec 32) (k0_hw1 : k0_chk1 i v2 v4 v7 v9 v12 v14) (k0_t2 : Fin (k0_t2_loop i v2 v4 v7 v9 v12 v14).trips), ∀ a, (k0_off14 i v2 v4 v7 v9 v12 v14 k0_t2) a + S128x128.size a ≤ S14208x1024.size a := fun i v2 v4 v7 v9 v12 v14 k0_hw1 k0_t2 => k0_hw1.2.2.2.2.2.2.2.2.2.2.2.2.2.2.2.2.2.1 k0_t2
theorem k0_off15_inb : ∀ (i : grid0.Coords) (v2 : BitVec 32) (v4 : BitVec 32) (v7 : BitVec 32) (v9 : BitVec 32) (v12 : BitVec 32) (v14 : BitVec 32) (k0_hw1 : k0_chk1 i v2 v4 v7 v9 v12 v14) (k0_t2 : Fin (k0_t2_loop i v2 v4 v7 v9 v12 v14).trips), ∀ a, (k0_off15 i v2 v4 v7 v9 v12 v14 k0_t2) a + S128x128.size a ≤ S14208x1024.size a := fun i v2 v4 v7 v9 v12 v14 k0_hw1 k0_t2 => k0_hw1.2.2.2.2.2.2.2.2.2.2.2.2.2.2.2.2.2.2.1 k0_t2
theorem k0_off16_inb : ∀ (i : grid0.Coords) (v2 : BitVec 32) (v4 : BitVec 32) (v7 : BitVec 32) (v9 : BitVec 32) (v12 : BitVec 32) (v14 : BitVec 32) (k0_hw1 : k0_chk1 i v2 v4 v7 v9 v12 v14) (k0_t2 : Fin (k0_t2_loop i v2 v4 v7 v9 v12 v14).trips), ∀ a, (k0_off16 i v2 v4 v7 v9 v12 v14 k0_t2) a + S128x128.size a ≤ S14208x1024.size a := fun i v2 v4 v7 v9 v12 v14 k0_hw1 k0_t2 => k0_hw1.2.2.2.2.2.2.2.2.2.2.2.2.2.2.2.2.2.2.2.1 k0_t2
theorem k0_t3_ok : ∀ (i : grid0.Coords) (v2 : BitVec 32) (v4 : BitVec 32) (v7 : BitVec 32) (v9 : BitVec 32) (v12 : BitVec 32) (v14 : BitVec 32) (k0_hw1 : k0_chk1 i v2 v4 v7 v9 v12 v14), (k0_t3_loop i v2 v4 v7 v9 v12 v14).OK := fun i v2 v4 v7 v9 v12 v14 k0_hw1 => k0_hw1.2.2.2.2.2.2.2.2.2.2.2.2.2.2.2.2.2.2.2.2.1
theorem k0_t4_ok : ∀ (i : grid0.Coords) (v2 : BitVec 32) (v4 : BitVec 32) (v7 : BitVec 32) (v9 : BitVec 32) (v12 : BitVec 32) (v14 : BitVec 32) (k0_hw1 : k0_chk1 i v2 v4 v7 v9 v12 v14), (k0_t4_loop i v2 v4 v7 v9 v12 v14).OK := fun i v2 v4 v7 v9 v12 v14 k0_hw1 => k0_hw1.2.2.2.2.2.2.2.2.2.2.2.2.2.2.2.2.2.2.2.2.2

def k0_mult5 (i : grid0.Coords) (v2 : BitVec 32) (v4 : BitVec 32) (v7 : BitVec 32) (v9 : BitVec 32) (v12 : BitVec 32) (v14 : BitVec 32) (k0_t4 : Fin (k0_t4_loop i v2 v4 v7 v9 v12 v14).trips) : BitVec 32 :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let v266 : BitVec 32 := Scalar.subi v256 c0_i32_138
  let c1_i32_139 : BitVec 32 := 1#32
  let v268 : BitVec 32 := Scalar.divsi v266 c1_i32_139
  let v269 : BitVec 32 := Scalar.muli v268 c1_i32_139
  let v270 : BitVec 32 := Scalar.addi c0_i32_138 v269
  let c1_i32_141 : BitVec 32 := 1#32
  let arg14 : BitVec 32 := Scf.iv v270 c1_i32_141 k0_t4
  let c512_i32 : BitVec 32 := 512#32
  let v442 : BitVec 32 := Scalar.muli arg14 c512_i32
  let v443 : BitVec 32 := Scalar.addi v265 v442
  v443
def k0_cond3 (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_t4 : Fin (k0_t4_loop i v2 v4 v7 v9 v12 v14).trips) : BitVec 1 :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let v266 : BitVec 32 := Scalar.subi v256 c0_i32_138
  let c1_i32_139 : BitVec 32 := 1#32
  let v268 : BitVec 32 := Scalar.divsi v266 c1_i32_139
  let v269 : BitVec 32 := Scalar.muli v268 c1_i32_139
  let v270 : BitVec 32 := Scalar.addi c0_i32_138 v269
  let c1_i32_141 : BitVec 32 := 1#32
  let arg14 : BitVec 32 := Scf.iv v270 c1_i32_141 k0_t4
  let c512_i32 : BitVec 32 := 512#32
  let v442 : BitVec 32 := Scalar.muli arg14 c512_i32
  let v443 : BitVec 32 := Scalar.addi v265 v442
  let c0_i32_10 : BitVec 32 := 0#32
  let c1_i32 : BitVec 32 := 1#32
  let v19 : BitVec 32 := Scalar.subi v1 c1_i32
  let v21 : BitVec 1 := Scalar.cmpi .sge v19 v20
  let c0_i32_9 : BitVec 32 := 0#32
  let v23 : BitVec 32 := Scalar.select v21 v22 c0_i32_9
  let v24 : BitVec 32 := Scalar.maxsi c0_i32_10 v23
  let v26 : BitVec 1 := Scalar.cmpi .sge v19 v25
  let c0_i32_13 : BitVec 32 := 0#32
  let v28 : BitVec 32 := Scalar.select v26 v27 c0_i32_13
  let v29 : BitVec 32 := Scalar.maxsi v24 v28
  let v31 : BitVec 1 := Scalar.cmpi .sge v19 v30
  let c0_i32_16 : BitVec 32 := 0#32
  let v33 : BitVec 32 := Scalar.select v31 v32 c0_i32_16
  let v34 : BitVec 32 := Scalar.maxsi v29 v33
  let c4095_i32_17 : BitVec 32 := 4095#32
  let v35 : BitVec 32 := Scalar.subi v19 c4095_i32_17
  let v36 : BitVec 32 := Scalar.maxsi v34 v35
  let v444 : BitVec 1 := Scalar.cmpi .slt v443 v36
  let c512_i32_236 : BitVec 32 := 512#32
  let v445 : BitVec 32 := Scalar.addi v443 c512_i32_236
  let v446 : BitVec 1 := Scalar.cmpi .sgt v445 v0
  let v447 : BitVec 1 := Scalar.ori v444 v446
  let v448 : BitVec 32 := Scalar.extui v447
  let c0_i32_237 : BitVec 32 := 0#32
  let v449 : BitVec 1 := Scalar.cmpi .ne v448 c0_i32_237
  v449

def k0_off33 (i : grid0.Coords) (v2 : BitVec 32) (v4 : BitVec 32) (v7 : BitVec 32) (v9 : BitVec 32) (v12 : BitVec 32) (v14 : BitVec 32) (k0_t4 : Fin (k0_t4_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let v266 : BitVec 32 := Scalar.subi v256 c0_i32_138
  let c1_i32_139 : BitVec 32 := 1#32
  let v268 : BitVec 32 := Scalar.divsi v266 c1_i32_139
  let v269 : BitVec 32 := Scalar.muli v268 c1_i32_139
  let v270 : BitVec 32 := Scalar.addi c0_i32_138 v269
  let c1_i32_141 : BitVec 32 := 1#32
  let arg14 : BitVec 32 := Scf.iv v270 c1_i32_141 k0_t4
  let c512_i32 : BitVec 32 := 512#32
  let v442 : BitVec 32 := Scalar.muli arg14 c512_i32
  let v443 : BitVec 32 := Scalar.addi v265 v442
  let v453 : BitVec 32 := v443
  let v493 : Index := Scalar.indexCast v453
  let c0_249 : Index := 0#32
  ![v493.toNat, 0]
def k0_off34 (i : grid0.Coords) (v2 : BitVec 32) (v4 : BitVec 32) (v7 : BitVec 32) (v9 : BitVec 32) (v12 : BitVec 32) (v14 : BitVec 32) (k0_t4 : Fin (k0_t4_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let v266 : BitVec 32 := Scalar.subi v256 c0_i32_138
  let c1_i32_139 : BitVec 32 := 1#32
  let v268 : BitVec 32 := Scalar.divsi v266 c1_i32_139
  let v269 : BitVec 32 := Scalar.muli v268 c1_i32_139
  let v270 : BitVec 32 := Scalar.addi c0_i32_138 v269
  let c1_i32_141 : BitVec 32 := 1#32
  let arg14 : BitVec 32 := Scf.iv v270 c1_i32_141 k0_t4
  let c512_i32 : BitVec 32 := 512#32
  let v442 : BitVec 32 := Scalar.muli arg14 c512_i32
  let v443 : BitVec 32 := Scalar.addi v265 v442
  let v453 : BitVec 32 := v443
  let v557 : Index := Scalar.indexCast v453
  let c128_280 : Index := 128#32
  ![v557.toNat, 128]
def k0_off35 (i : grid0.Coords) (v2 : BitVec 32) (v4 : BitVec 32) (v7 : BitVec 32) (v9 : BitVec 32) (v12 : BitVec 32) (v14 : BitVec 32) (k0_t4 : Fin (k0_t4_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let v266 : BitVec 32 := Scalar.subi v256 c0_i32_138
  let c1_i32_139 : BitVec 32 := 1#32
  let v268 : BitVec 32 := Scalar.divsi v266 c1_i32_139
  let v269 : BitVec 32 := Scalar.muli v268 c1_i32_139
  let v270 : BitVec 32 := Scalar.addi c0_i32_138 v269
  let c1_i32_141 : BitVec 32 := 1#32
  let arg14 : BitVec 32 := Scf.iv v270 c1_i32_141 k0_t4
  let c512_i32 : BitVec 32 := 512#32
  let v442 : BitVec 32 := Scalar.muli arg14 c512_i32
  let v443 : BitVec 32 := Scalar.addi v265 v442
  let v453 : BitVec 32 := v443
  let v621 : Index := Scalar.indexCast v453
  let c256_311 : Index := 256#32
  ![v621.toNat, 256]
def k0_off36 (i : grid0.Coords) (v2 : BitVec 32) (v4 : BitVec 32) (v7 : BitVec 32) (v9 : BitVec 32) (v12 : BitVec 32) (v14 : BitVec 32) (k0_t4 : Fin (k0_t4_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let v266 : BitVec 32 := Scalar.subi v256 c0_i32_138
  let c1_i32_139 : BitVec 32 := 1#32
  let v268 : BitVec 32 := Scalar.divsi v266 c1_i32_139
  let v269 : BitVec 32 := Scalar.muli v268 c1_i32_139
  let v270 : BitVec 32 := Scalar.addi c0_i32_138 v269
  let c1_i32_141 : BitVec 32 := 1#32
  let arg14 : BitVec 32 := Scf.iv v270 c1_i32_141 k0_t4
  let c512_i32 : BitVec 32 := 512#32
  let v442 : BitVec 32 := Scalar.muli arg14 c512_i32
  let v443 : BitVec 32 := Scalar.addi v265 v442
  let v453 : BitVec 32 := v443
  let v685 : Index := Scalar.indexCast v453
  let c384_342 : Index := 384#32
  ![v685.toNat, 384]
def k0_off37 (i : grid0.Coords) (v2 : BitVec 32) (v4 : BitVec 32) (v7 : BitVec 32) (v9 : BitVec 32) (v12 : BitVec 32) (v14 : BitVec 32) (k0_t4 : Fin (k0_t4_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let v266 : BitVec 32 := Scalar.subi v256 c0_i32_138
  let c1_i32_139 : BitVec 32 := 1#32
  let v268 : BitVec 32 := Scalar.divsi v266 c1_i32_139
  let v269 : BitVec 32 := Scalar.muli v268 c1_i32_139
  let v270 : BitVec 32 := Scalar.addi c0_i32_138 v269
  let c1_i32_141 : BitVec 32 := 1#32
  let arg14 : BitVec 32 := Scf.iv v270 c1_i32_141 k0_t4
  let c512_i32 : BitVec 32 := 512#32
  let v442 : BitVec 32 := Scalar.muli arg14 c512_i32
  let v443 : BitVec 32 := Scalar.addi v265 v442
  let v453 : BitVec 32 := v443
  let v749 : Index := Scalar.indexCast v453
  let c512_373 : Index := 512#32
  ![v749.toNat, 512]
def k0_off38 (i : grid0.Coords) (v2 : BitVec 32) (v4 : BitVec 32) (v7 : BitVec 32) (v9 : BitVec 32) (v12 : BitVec 32) (v14 : BitVec 32) (k0_t4 : Fin (k0_t4_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let v266 : BitVec 32 := Scalar.subi v256 c0_i32_138
  let c1_i32_139 : BitVec 32 := 1#32
  let v268 : BitVec 32 := Scalar.divsi v266 c1_i32_139
  let v269 : BitVec 32 := Scalar.muli v268 c1_i32_139
  let v270 : BitVec 32 := Scalar.addi c0_i32_138 v269
  let c1_i32_141 : BitVec 32 := 1#32
  let arg14 : BitVec 32 := Scf.iv v270 c1_i32_141 k0_t4
  let c512_i32 : BitVec 32 := 512#32
  let v442 : BitVec 32 := Scalar.muli arg14 c512_i32
  let v443 : BitVec 32 := Scalar.addi v265 v442
  let v453 : BitVec 32 := v443
  let v813 : Index := Scalar.indexCast v453
  let c640_404 : Index := 640#32
  ![v813.toNat, 640]
def k0_off39 (i : grid0.Coords) (v2 : BitVec 32) (v4 : BitVec 32) (v7 : BitVec 32) (v9 : BitVec 32) (v12 : BitVec 32) (v14 : BitVec 32) (k0_t4 : Fin (k0_t4_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let v266 : BitVec 32 := Scalar.subi v256 c0_i32_138
  let c1_i32_139 : BitVec 32 := 1#32
  let v268 : BitVec 32 := Scalar.divsi v266 c1_i32_139
  let v269 : BitVec 32 := Scalar.muli v268 c1_i32_139
  let v270 : BitVec 32 := Scalar.addi c0_i32_138 v269
  let c1_i32_141 : BitVec 32 := 1#32
  let arg14 : BitVec 32 := Scf.iv v270 c1_i32_141 k0_t4
  let c512_i32 : BitVec 32 := 512#32
  let v442 : BitVec 32 := Scalar.muli arg14 c512_i32
  let v443 : BitVec 32 := Scalar.addi v265 v442
  let v453 : BitVec 32 := v443
  let v877 : Index := Scalar.indexCast v453
  let c768_435 : Index := 768#32
  ![v877.toNat, 768]
def k0_off40 (i : grid0.Coords) (v2 : BitVec 32) (v4 : BitVec 32) (v7 : BitVec 32) (v9 : BitVec 32) (v12 : BitVec 32) (v14 : BitVec 32) (k0_t4 : Fin (k0_t4_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let v266 : BitVec 32 := Scalar.subi v256 c0_i32_138
  let c1_i32_139 : BitVec 32 := 1#32
  let v268 : BitVec 32 := Scalar.divsi v266 c1_i32_139
  let v269 : BitVec 32 := Scalar.muli v268 c1_i32_139
  let v270 : BitVec 32 := Scalar.addi c0_i32_138 v269
  let c1_i32_141 : BitVec 32 := 1#32
  let arg14 : BitVec 32 := Scf.iv v270 c1_i32_141 k0_t4
  let c512_i32 : BitVec 32 := 512#32
  let v442 : BitVec 32 := Scalar.muli arg14 c512_i32
  let v443 : BitVec 32 := Scalar.addi v265 v442
  let v453 : BitVec 32 := v443
  let v941 : Index := Scalar.indexCast v453
  let c896_466 : Index := 896#32
  ![v941.toNat, 896]
def k0_mult6 (i : grid0.Coords) (v2 : BitVec 32) (v4 : BitVec 32) (v7 : BitVec 32) (v9 : BitVec 32) (v12 : BitVec 32) (v14 : BitVec 32) (k0_t4 : Fin (k0_t4_loop i v2 v4 v7 v9 v12 v14).trips) : BitVec 32 :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let v266 : BitVec 32 := Scalar.subi v256 c0_i32_138
  let c1_i32_139 : BitVec 32 := 1#32
  let v268 : BitVec 32 := Scalar.divsi v266 c1_i32_139
  let v269 : BitVec 32 := Scalar.muli v268 c1_i32_139
  let v270 : BitVec 32 := Scalar.addi c0_i32_138 v269
  let c1_i32_141 : BitVec 32 := 1#32
  let arg14 : BitVec 32 := Scf.iv v270 c1_i32_141 k0_t4
  let c512_i32 : BitVec 32 := 512#32
  let v442 : BitVec 32 := Scalar.muli arg14 c512_i32
  let v443 : BitVec 32 := Scalar.addi v265 v442
  v443
def k0_cond4 (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_t4 : Fin (k0_t4_loop i v2 v4 v7 v9 v12 v14).trips) : BitVec 1 :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let v266 : BitVec 32 := Scalar.subi v256 c0_i32_138
  let c1_i32_139 : BitVec 32 := 1#32
  let v268 : BitVec 32 := Scalar.divsi v266 c1_i32_139
  let v269 : BitVec 32 := Scalar.muli v268 c1_i32_139
  let v270 : BitVec 32 := Scalar.addi c0_i32_138 v269
  let c1_i32_141 : BitVec 32 := 1#32
  let arg14 : BitVec 32 := Scf.iv v270 c1_i32_141 k0_t4
  let c512_i32 : BitVec 32 := 512#32
  let v442 : BitVec 32 := Scalar.muli arg14 c512_i32
  let v443 : BitVec 32 := Scalar.addi v265 v442
  let c0_i32_10 : BitVec 32 := 0#32
  let c1_i32 : BitVec 32 := 1#32
  let v19 : BitVec 32 := Scalar.subi v1 c1_i32
  let v21 : BitVec 1 := Scalar.cmpi .sge v19 v20
  let c0_i32_9 : BitVec 32 := 0#32
  let v23 : BitVec 32 := Scalar.select v21 v22 c0_i32_9
  let v24 : BitVec 32 := Scalar.maxsi c0_i32_10 v23
  let v26 : BitVec 1 := Scalar.cmpi .sge v19 v25
  let c0_i32_13 : BitVec 32 := 0#32
  let v28 : BitVec 32 := Scalar.select v26 v27 c0_i32_13
  let v29 : BitVec 32 := Scalar.maxsi v24 v28
  let v31 : BitVec 1 := Scalar.cmpi .sge v19 v30
  let c0_i32_16 : BitVec 32 := 0#32
  let v33 : BitVec 32 := Scalar.select v31 v32 c0_i32_16
  let v34 : BitVec 32 := Scalar.maxsi v29 v33
  let c4095_i32_17 : BitVec 32 := 4095#32
  let v35 : BitVec 32 := Scalar.subi v19 c4095_i32_17
  let v36 : BitVec 32 := Scalar.maxsi v34 v35
  let v444 : BitVec 1 := Scalar.cmpi .slt v443 v36
  let c512_i32_236 : BitVec 32 := 512#32
  let v445 : BitVec 32 := Scalar.addi v443 c512_i32_236
  let v446 : BitVec 1 := Scalar.cmpi .sgt v445 v0
  let v447 : BitVec 1 := Scalar.ori v444 v446
  let v_true : BitVec 1 := 1#1
  let v450 : BitVec 1 := Scalar.xori v447 v_true
  let v451 : BitVec 32 := Scalar.extui v450
  let c0_i32_238 : BitVec 32 := 0#32
  let v452 : BitVec 1 := Scalar.cmpi .ne v451 c0_i32_238
  v452

def k0_off41 (i : grid0.Coords) (v2 : BitVec 32) (v4 : BitVec 32) (v7 : BitVec 32) (v9 : BitVec 32) (v12 : BitVec 32) (v14 : BitVec 32) (k0_t4 : Fin (k0_t4_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let v266 : BitVec 32 := Scalar.subi v256 c0_i32_138
  let c1_i32_139 : BitVec 32 := 1#32
  let v268 : BitVec 32 := Scalar.divsi v266 c1_i32_139
  let v269 : BitVec 32 := Scalar.muli v268 c1_i32_139
  let v270 : BitVec 32 := Scalar.addi c0_i32_138 v269
  let c1_i32_141 : BitVec 32 := 1#32
  let arg14 : BitVec 32 := Scf.iv v270 c1_i32_141 k0_t4
  let c512_i32 : BitVec 32 := 512#32
  let v442 : BitVec 32 := Scalar.muli arg14 c512_i32
  let v443 : BitVec 32 := Scalar.addi v265 v442
  let v453 : BitVec 32 := v443
  let v457 : Index := Scalar.indexCast v453
  let c0_243 : Index := 0#32
  ![v457.toNat, 0]
def k0_off42 (i : grid0.Coords) (v2 : BitVec 32) (v4 : BitVec 32) (v7 : BitVec 32) (v9 : BitVec 32) (v12 : BitVec 32) (v14 : BitVec 32) (k0_t4 : Fin (k0_t4_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let v266 : BitVec 32 := Scalar.subi v256 c0_i32_138
  let c1_i32_139 : BitVec 32 := 1#32
  let v268 : BitVec 32 := Scalar.divsi v266 c1_i32_139
  let v269 : BitVec 32 := Scalar.muli v268 c1_i32_139
  let v270 : BitVec 32 := Scalar.addi c0_i32_138 v269
  let c1_i32_141 : BitVec 32 := 1#32
  let arg14 : BitVec 32 := Scf.iv v270 c1_i32_141 k0_t4
  let c512_i32 : BitVec 32 := 512#32
  let v442 : BitVec 32 := Scalar.muli arg14 c512_i32
  let v443 : BitVec 32 := Scalar.addi v265 v442
  let v453 : BitVec 32 := v443
  let v513 : Index := Scalar.indexCast v453
  let c128_270 : Index := 128#32
  ![v513.toNat, 128]
def k0_off43 (i : grid0.Coords) (v2 : BitVec 32) (v4 : BitVec 32) (v7 : BitVec 32) (v9 : BitVec 32) (v12 : BitVec 32) (v14 : BitVec 32) (k0_t4 : Fin (k0_t4_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let v266 : BitVec 32 := Scalar.subi v256 c0_i32_138
  let c1_i32_139 : BitVec 32 := 1#32
  let v268 : BitVec 32 := Scalar.divsi v266 c1_i32_139
  let v269 : BitVec 32 := Scalar.muli v268 c1_i32_139
  let v270 : BitVec 32 := Scalar.addi c0_i32_138 v269
  let c1_i32_141 : BitVec 32 := 1#32
  let arg14 : BitVec 32 := Scf.iv v270 c1_i32_141 k0_t4
  let c512_i32 : BitVec 32 := 512#32
  let v442 : BitVec 32 := Scalar.muli arg14 c512_i32
  let v443 : BitVec 32 := Scalar.addi v265 v442
  let v453 : BitVec 32 := v443
  let v569 : Index := Scalar.indexCast v453
  let c256_297 : Index := 256#32
  ![v569.toNat, 256]
def k0_off44 (i : grid0.Coords) (v2 : BitVec 32) (v4 : BitVec 32) (v7 : BitVec 32) (v9 : BitVec 32) (v12 : BitVec 32) (v14 : BitVec 32) (k0_t4 : Fin (k0_t4_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let v266 : BitVec 32 := Scalar.subi v256 c0_i32_138
  let c1_i32_139 : BitVec 32 := 1#32
  let v268 : BitVec 32 := Scalar.divsi v266 c1_i32_139
  let v269 : BitVec 32 := Scalar.muli v268 c1_i32_139
  let v270 : BitVec 32 := Scalar.addi c0_i32_138 v269
  let c1_i32_141 : BitVec 32 := 1#32
  let arg14 : BitVec 32 := Scf.iv v270 c1_i32_141 k0_t4
  let c512_i32 : BitVec 32 := 512#32
  let v442 : BitVec 32 := Scalar.muli arg14 c512_i32
  let v443 : BitVec 32 := Scalar.addi v265 v442
  let v453 : BitVec 32 := v443
  let v625 : Index := Scalar.indexCast v453
  let c384_324 : Index := 384#32
  ![v625.toNat, 384]
def k0_off45 (i : grid0.Coords) (v2 : BitVec 32) (v4 : BitVec 32) (v7 : BitVec 32) (v9 : BitVec 32) (v12 : BitVec 32) (v14 : BitVec 32) (k0_t4 : Fin (k0_t4_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let v266 : BitVec 32 := Scalar.subi v256 c0_i32_138
  let c1_i32_139 : BitVec 32 := 1#32
  let v268 : BitVec 32 := Scalar.divsi v266 c1_i32_139
  let v269 : BitVec 32 := Scalar.muli v268 c1_i32_139
  let v270 : BitVec 32 := Scalar.addi c0_i32_138 v269
  let c1_i32_141 : BitVec 32 := 1#32
  let arg14 : BitVec 32 := Scf.iv v270 c1_i32_141 k0_t4
  let c512_i32 : BitVec 32 := 512#32
  let v442 : BitVec 32 := Scalar.muli arg14 c512_i32
  let v443 : BitVec 32 := Scalar.addi v265 v442
  let v453 : BitVec 32 := v443
  let v681 : Index := Scalar.indexCast v453
  let c512_351 : Index := 512#32
  ![v681.toNat, 512]
def k0_off46 (i : grid0.Coords) (v2 : BitVec 32) (v4 : BitVec 32) (v7 : BitVec 32) (v9 : BitVec 32) (v12 : BitVec 32) (v14 : BitVec 32) (k0_t4 : Fin (k0_t4_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let v266 : BitVec 32 := Scalar.subi v256 c0_i32_138
  let c1_i32_139 : BitVec 32 := 1#32
  let v268 : BitVec 32 := Scalar.divsi v266 c1_i32_139
  let v269 : BitVec 32 := Scalar.muli v268 c1_i32_139
  let v270 : BitVec 32 := Scalar.addi c0_i32_138 v269
  let c1_i32_141 : BitVec 32 := 1#32
  let arg14 : BitVec 32 := Scf.iv v270 c1_i32_141 k0_t4
  let c512_i32 : BitVec 32 := 512#32
  let v442 : BitVec 32 := Scalar.muli arg14 c512_i32
  let v443 : BitVec 32 := Scalar.addi v265 v442
  let v453 : BitVec 32 := v443
  let v737 : Index := Scalar.indexCast v453
  let c640_378 : Index := 640#32
  ![v737.toNat, 640]
def k0_off47 (i : grid0.Coords) (v2 : BitVec 32) (v4 : BitVec 32) (v7 : BitVec 32) (v9 : BitVec 32) (v12 : BitVec 32) (v14 : BitVec 32) (k0_t4 : Fin (k0_t4_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let v266 : BitVec 32 := Scalar.subi v256 c0_i32_138
  let c1_i32_139 : BitVec 32 := 1#32
  let v268 : BitVec 32 := Scalar.divsi v266 c1_i32_139
  let v269 : BitVec 32 := Scalar.muli v268 c1_i32_139
  let v270 : BitVec 32 := Scalar.addi c0_i32_138 v269
  let c1_i32_141 : BitVec 32 := 1#32
  let arg14 : BitVec 32 := Scf.iv v270 c1_i32_141 k0_t4
  let c512_i32 : BitVec 32 := 512#32
  let v442 : BitVec 32 := Scalar.muli arg14 c512_i32
  let v443 : BitVec 32 := Scalar.addi v265 v442
  let v453 : BitVec 32 := v443
  let v793 : Index := Scalar.indexCast v453
  let c768_405 : Index := 768#32
  ![v793.toNat, 768]
def k0_off48 (i : grid0.Coords) (v2 : BitVec 32) (v4 : BitVec 32) (v7 : BitVec 32) (v9 : BitVec 32) (v12 : BitVec 32) (v14 : BitVec 32) (k0_t4 : Fin (k0_t4_loop i v2 v4 v7 v9 v12 v14).trips) : Fin 2 → Nat :=
  let c0_i32_2 : BitVec 32 := 0#32
  let arg0 : BitVec 32 := BitVec.ofNat 32 (i 0).val
  let c128_i32 : BitVec 32 := 128#32
  let v0 : BitVec 32 := Scalar.muli arg0 c128_i32
  let v3 : BitVec 1 := Scalar.cmpi .sge v0 v2
  let c0_i32 : BitVec 32 := 0#32
  let v5 : BitVec 32 := Scalar.select v3 v4 c0_i32
  let v6 : BitVec 32 := Scalar.maxsi c0_i32_2 v5
  let v8 : BitVec 1 := Scalar.cmpi .sge v0 v7
  let c0_i32_4 : BitVec 32 := 0#32
  let v10 : BitVec 32 := Scalar.select v8 v9 c0_i32_4
  let v11 : BitVec 32 := Scalar.maxsi v6 v10
  let v13 : BitVec 1 := Scalar.cmpi .sge v0 v12
  let c0_i32_6 : BitVec 32 := 0#32
  let v15 : BitVec 32 := Scalar.select v13 v14 c0_i32_6
  let v16 : BitVec 32 := Scalar.maxsi v11 v15
  let c4095_i32 : BitVec 32 := 4095#32
  let v17 : BitVec 32 := Scalar.subi v0 c4095_i32
  let v18 : BitVec 32 := Scalar.maxsi v16 v17
  let c_m128_i32 : BitVec 32 := 4294967168#32
  let v37 : BitVec 32 := Scalar.andi v18 c_m128_i32
  let c128_i32_0 : BitVec 32 := 128#32
  let v1 : BitVec 32 := Scalar.addi v0 c128_i32_0
  let v222 : BitVec 32 := Scalar.subi v1 v37
  let c0_i32_118 : BitVec 32 := 0#32
  let v224 : BitVec 1 := Scalar.cmpi .sgt v222 c0_i32_118
  let v225 : BitVec 32 := Scalar.extui v224
  let c0_i32_119 : BitVec 32 := 0#32
  let v226 : BitVec 1 := Scalar.cmpi .slt v222 c0_i32_119
  let v227 : BitVec 32 := Scalar.extui v226
  let v228 : BitVec 32 := Scalar.subi v225 v227
  let c128_i32_117 : BitVec 32 := 128#32
  let c0_i32_120 : BitVec 32 := 0#32
  let v229 : BitVec 1 := Scalar.cmpi .sgt c128_i32_117 c0_i32_120
  let v230 : BitVec 32 := Scalar.extui v229
  let c0_i32_121 : BitVec 32 := 0#32
  let v231 : BitVec 1 := Scalar.cmpi .slt c128_i32_117 c0_i32_121
  let v232 : BitVec 32 := Scalar.extui v231
  let v233 : BitVec 32 := Scalar.subi v230 v232
  let v234 : BitVec 1 := Scalar.cmpi .ne v228 v233
  let v235 : BitVec 32 := Scalar.remsi v222 c128_i32_117
  let c0_i32_122 : BitVec 32 := 0#32
  let v236 : BitVec 1 := Scalar.cmpi .ne v235 c0_i32_122
  let v237 : BitVec 1 := Scalar.andi v234 v236
  let v223 : BitVec 32 := Scalar.divsi v222 c128_i32_117
  let c1_i32_123 : BitVec 32 := 1#32
  let v238 : BitVec 32 := Scalar.subi v223 c1_i32_123
  let v239 : BitVec 32 := Scalar.select v237 v238 v223
  let c0_i32_124 : BitVec 32 := 0#32
  let v241 : BitVec 1 := Scalar.cmpi .sgt v239 c0_i32_124
  let v242 : BitVec 32 := Scalar.extui v241
  let c0_i32_125 : BitVec 32 := 0#32
  let v243 : BitVec 1 := Scalar.cmpi .slt v239 c0_i32_125
  let v244 : BitVec 32 := Scalar.extui v243
  let v245 : BitVec 32 := Scalar.subi v242 v244
  let c4_i32 : BitVec 32 := 4#32
  let c0_i32_126 : BitVec 32 := 0#32
  let v246 : BitVec 1 := Scalar.cmpi .sgt c4_i32 c0_i32_126
  let v247 : BitVec 32 := Scalar.extui v246
  let c0_i32_127 : BitVec 32 := 0#32
  let v248 : BitVec 1 := Scalar.cmpi .slt c4_i32 c0_i32_127
  let v249 : BitVec 32 := Scalar.extui v248
  let v250 : BitVec 32 := Scalar.subi v247 v249
  let v251 : BitVec 1 := Scalar.cmpi .ne v245 v250
  let v252 : BitVec 32 := Scalar.remsi v239 c4_i32
  let c0_i32_128 : BitVec 32 := 0#32
  let v253 : BitVec 1 := Scalar.cmpi .ne v252 c0_i32_128
  let v254 : BitVec 1 := Scalar.andi v251 v253
  let v240 : BitVec 32 := Scalar.divsi v239 c4_i32
  let c1_i32_129 : BitVec 32 := 1#32
  let v255 : BitVec 32 := Scalar.subi v240 c1_i32_129
  let v256 : BitVec 32 := Scalar.select v254 v255 v240
  let c4_i32_130 : BitVec 32 := 4#32
  let v257 : BitVec 32 := Scalar.muli v256 c4_i32_130
  let v258 : BitVec 32 := Scalar.subi v239 v257
  let c128_i32_136 : BitVec 32 := 128#32
  let v264 : BitVec 32 := Scalar.muli v258 c128_i32_136
  let v265 : BitVec 32 := Scalar.addi v37 v264
  let c0_i32_138 : BitVec 32 := 0#32
  let v266 : BitVec 32 := Scalar.subi v256 c0_i32_138
  let c1_i32_139 : BitVec 32 := 1#32
  let v268 : BitVec 32 := Scalar.divsi v266 c1_i32_139
  let v269 : BitVec 32 := Scalar.muli v268 c1_i32_139
  let v270 : BitVec 32 := Scalar.addi c0_i32_138 v269
  let c1_i32_141 : BitVec 32 := 1#32
  let arg14 : BitVec 32 := Scf.iv v270 c1_i32_141 k0_t4
  let c512_i32 : BitVec 32 := 512#32
  let v442 : BitVec 32 := Scalar.muli arg14 c512_i32
  let v443 : BitVec 32 := Scalar.addi v265 v442
  let v453 : BitVec 32 := v443
  let v849 : Index := Scalar.indexCast v453
  let c896_432 : Index := 896#32
  ![v849.toNat, 896]

def k0_chk2_0 (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) : Prop :=
  (∀ k0_t3 : Fin (k0_t3_loop i v2 v4 v7 v9 v12 v14).trips, ∀ (k0_h1 : k0_cond1 i v2 v4 v7 v9 v12 v14 v20 v22 v25 v27 v30 v32 k0_t3 = 1#1), 128 ∣ (k0_mult3 i v2 v4 v7 v9 v12 v14 k0_t3).toNat) ∧
  (∀ k0_t3 : Fin (k0_t3_loop i v2 v4 v7 v9 v12 v14).trips, ∀ (k0_h1 : k0_cond1 i v2 v4 v7 v9 v12 v14 v20 v22 v25 v27 v30 v32 k0_t3 = 1#1), ∀ a, (k0_off17 i v2 v4 v7 v9 v12 v14 k0_t3) a + S512x128.size a ≤ S14208x1024.size a) ∧
  (∀ k0_t3 : Fin (k0_t3_loop i v2 v4 v7 v9 v12 v14).trips, ∀ (k0_h1 : k0_cond1 i v2 v4 v7 v9 v12 v14 v20 v22 v25 v27 v30 v32 k0_t3 = 1#1), ∀ a, (k0_off18 i v2 v4 v7 v9 v12 v14 k0_t3) a + S512x128.size a ≤ S14208x1024.size a) ∧
  (∀ k0_t3 : Fin (k0_t3_loop i v2 v4 v7 v9 v12 v14).trips, ∀ (k0_h1 : k0_cond1 i v2 v4 v7 v9 v12 v14 v20 v22 v25 v27 v30 v32 k0_t3 = 1#1), ∀ a, (k0_off19 i v2 v4 v7 v9 v12 v14 k0_t3) a + S512x128.size a ≤ S14208x1024.size a) ∧
  (∀ k0_t3 : Fin (k0_t3_loop i v2 v4 v7 v9 v12 v14).trips, ∀ (k0_h1 : k0_cond1 i v2 v4 v7 v9 v12 v14 v20 v22 v25 v27 v30 v32 k0_t3 = 1#1), ∀ a, (k0_off20 i v2 v4 v7 v9 v12 v14 k0_t3) a + S512x128.size a ≤ S14208x1024.size a) ∧
  (∀ k0_t3 : Fin (k0_t3_loop i v2 v4 v7 v9 v12 v14).trips, ∀ (k0_h1 : k0_cond1 i v2 v4 v7 v9 v12 v14 v20 v22 v25 v27 v30 v32 k0_t3 = 1#1), ∀ a, (k0_off21 i v2 v4 v7 v9 v12 v14 k0_t3) a + S512x128.size a ≤ S14208x1024.size a) ∧
  (∀ k0_t3 : Fin (k0_t3_loop i v2 v4 v7 v9 v12 v14).trips, ∀ (k0_h1 : k0_cond1 i v2 v4 v7 v9 v12 v14 v20 v22 v25 v27 v30 v32 k0_t3 = 1#1), ∀ a, (k0_off22 i v2 v4 v7 v9 v12 v14 k0_t3) a + S512x128.size a ≤ S14208x1024.size a) ∧
  (∀ k0_t3 : Fin (k0_t3_loop i v2 v4 v7 v9 v12 v14).trips, ∀ (k0_h1 : k0_cond1 i v2 v4 v7 v9 v12 v14 v20 v22 v25 v27 v30 v32 k0_t3 = 1#1), ∀ a, (k0_off23 i v2 v4 v7 v9 v12 v14 k0_t3) a + S512x128.size a ≤ S14208x1024.size a) ∧
  (∀ k0_t3 : Fin (k0_t3_loop i v2 v4 v7 v9 v12 v14).trips, ∀ (k0_h1 : k0_cond1 i v2 v4 v7 v9 v12 v14 v20 v22 v25 v27 v30 v32 k0_t3 = 1#1), ∀ a, (k0_off24 i v2 v4 v7 v9 v12 v14 k0_t3) a + S512x128.size a ≤ S14208x1024.size a) ∧
  (∀ k0_t3 : Fin (k0_t3_loop i v2 v4 v7 v9 v12 v14).trips, ∀ (k0_h2 : k0_cond2 i v2 v4 v7 v9 v12 v14 v20 v22 v25 v27 v30 v32 k0_t3 = 1#1), 128 ∣ (k0_mult4 i v2 v4 v7 v9 v12 v14 k0_t3).toNat) ∧
  (∀ k0_t3 : Fin (k0_t3_loop i v2 v4 v7 v9 v12 v14).trips, ∀ (k0_h2 : k0_cond2 i v2 v4 v7 v9 v12 v14 v20 v22 v25 v27 v30 v32 k0_t3 = 1#1), ∀ a, (k0_off25 i v2 v4 v7 v9 v12 v14 k0_t3) a + S512x128.size a ≤ S14208x1024.size a) ∧
  (∀ k0_t3 : Fin (k0_t3_loop i v2 v4 v7 v9 v12 v14).trips, ∀ (k0_h2 : k0_cond2 i v2 v4 v7 v9 v12 v14 v20 v22 v25 v27 v30 v32 k0_t3 = 1#1), ∀ a, (k0_off26 i v2 v4 v7 v9 v12 v14 k0_t3) a + S512x128.size a ≤ S14208x1024.size a) ∧
  (∀ k0_t3 : Fin (k0_t3_loop i v2 v4 v7 v9 v12 v14).trips, ∀ (k0_h2 : k0_cond2 i v2 v4 v7 v9 v12 v14 v20 v22 v25 v27 v30 v32 k0_t3 = 1#1), ∀ a, (k0_off27 i v2 v4 v7 v9 v12 v14 k0_t3) a + S512x128.size a ≤ S14208x1024.size a) ∧
  (∀ k0_t3 : Fin (k0_t3_loop i v2 v4 v7 v9 v12 v14).trips, ∀ (k0_h2 : k0_cond2 i v2 v4 v7 v9 v12 v14 v20 v22 v25 v27 v30 v32 k0_t3 = 1#1), ∀ a, (k0_off28 i v2 v4 v7 v9 v12 v14 k0_t3) a + S512x128.size a ≤ S14208x1024.size a) ∧
  (∀ k0_t3 : Fin (k0_t3_loop i v2 v4 v7 v9 v12 v14).trips, ∀ (k0_h2 : k0_cond2 i v2 v4 v7 v9 v12 v14 v20 v22 v25 v27 v30 v32 k0_t3 = 1#1), ∀ a, (k0_off29 i v2 v4 v7 v9 v12 v14 k0_t3) a + S512x128.size a ≤ S14208x1024.size a) ∧
  (∀ k0_t3 : Fin (k0_t3_loop i v2 v4 v7 v9 v12 v14).trips, ∀ (k0_h2 : k0_cond2 i v2 v4 v7 v9 v12 v14 v20 v22 v25 v27 v30 v32 k0_t3 = 1#1), ∀ a, (k0_off30 i v2 v4 v7 v9 v12 v14 k0_t3) a + S512x128.size a ≤ S14208x1024.size a) ∧
  (∀ k0_t3 : Fin (k0_t3_loop i v2 v4 v7 v9 v12 v14).trips, ∀ (k0_h2 : k0_cond2 i v2 v4 v7 v9 v12 v14 v20 v22 v25 v27 v30 v32 k0_t3 = 1#1), ∀ a, (k0_off31 i v2 v4 v7 v9 v12 v14 k0_t3) a + S512x128.size a ≤ S14208x1024.size a) ∧
  (∀ k0_t3 : Fin (k0_t3_loop i v2 v4 v7 v9 v12 v14).trips, ∀ (k0_h2 : k0_cond2 i v2 v4 v7 v9 v12 v14 v20 v22 v25 v27 v30 v32 k0_t3 = 1#1), ∀ a, (k0_off32 i v2 v4 v7 v9 v12 v14 k0_t3) a + S512x128.size a ≤ S14208x1024.size a) ∧
  (∀ k0_t4 : Fin (k0_t4_loop i v2 v4 v7 v9 v12 v14).trips, ∀ (k0_h3 : k0_cond3 i v2 v4 v7 v9 v12 v14 v20 v22 v25 v27 v30 v32 k0_t4 = 1#1), 128 ∣ (k0_mult5 i v2 v4 v7 v9 v12 v14 k0_t4).toNat) ∧
  (∀ k0_t4 : Fin (k0_t4_loop i v2 v4 v7 v9 v12 v14).trips, ∀ (k0_h3 : k0_cond3 i v2 v4 v7 v9 v12 v14 v20 v22 v25 v27 v30 v32 k0_t4 = 1#1), ∀ a, (k0_off33 i v2 v4 v7 v9 v12 v14 k0_t4) a + S512x128.size a ≤ S14208x1024.size a) ∧
  (∀ k0_t4 : Fin (k0_t4_loop i v2 v4 v7 v9 v12 v14).trips, ∀ (k0_h3 : k0_cond3 i v2 v4 v7 v9 v12 v14 v20 v22 v25 v27 v30 v32 k0_t4 = 1#1), ∀ a, (k0_off34 i v2 v4 v7 v9 v12 v14 k0_t4) a + S512x128.size a ≤ S14208x1024.size a) ∧
  (∀ k0_t4 : Fin (k0_t4_loop i v2 v4 v7 v9 v12 v14).trips, ∀ (k0_h3 : k0_cond3 i v2 v4 v7 v9 v12 v14 v20 v22 v25 v27 v30 v32 k0_t4 = 1#1), ∀ a, (k0_off35 i v2 v4 v7 v9 v12 v14 k0_t4) a + S512x128.size a ≤ S14208x1024.size a) ∧
  (∀ k0_t4 : Fin (k0_t4_loop i v2 v4 v7 v9 v12 v14).trips, ∀ (k0_h3 : k0_cond3 i v2 v4 v7 v9 v12 v14 v20 v22 v25 v27 v30 v32 k0_t4 = 1#1), ∀ a, (k0_off36 i v2 v4 v7 v9 v12 v14 k0_t4) a + S512x128.size a ≤ S14208x1024.size a) ∧
  (∀ k0_t4 : Fin (k0_t4_loop i v2 v4 v7 v9 v12 v14).trips, ∀ (k0_h3 : k0_cond3 i v2 v4 v7 v9 v12 v14 v20 v22 v25 v27 v30 v32 k0_t4 = 1#1), ∀ a, (k0_off37 i v2 v4 v7 v9 v12 v14 k0_t4) a + S512x128.size a ≤ S14208x1024.size a) ∧
  (∀ k0_t4 : Fin (k0_t4_loop i v2 v4 v7 v9 v12 v14).trips, ∀ (k0_h3 : k0_cond3 i v2 v4 v7 v9 v12 v14 v20 v22 v25 v27 v30 v32 k0_t4 = 1#1), ∀ a, (k0_off38 i v2 v4 v7 v9 v12 v14 k0_t4) a + S512x128.size a ≤ S14208x1024.size a) ∧
  (∀ k0_t4 : Fin (k0_t4_loop i v2 v4 v7 v9 v12 v14).trips, ∀ (k0_h3 : k0_cond3 i v2 v4 v7 v9 v12 v14 v20 v22 v25 v27 v30 v32 k0_t4 = 1#1), ∀ a, (k0_off39 i v2 v4 v7 v9 v12 v14 k0_t4) a + S512x128.size a ≤ S14208x1024.size a) ∧
  (∀ k0_t4 : Fin (k0_t4_loop i v2 v4 v7 v9 v12 v14).trips, ∀ (k0_h3 : k0_cond3 i v2 v4 v7 v9 v12 v14 v20 v22 v25 v27 v30 v32 k0_t4 = 1#1), ∀ a, (k0_off40 i v2 v4 v7 v9 v12 v14 k0_t4) a + S512x128.size a ≤ S14208x1024.size a) ∧
  (∀ k0_t4 : Fin (k0_t4_loop i v2 v4 v7 v9 v12 v14).trips, ∀ (k0_h4 : k0_cond4 i v2 v4 v7 v9 v12 v14 v20 v22 v25 v27 v30 v32 k0_t4 = 1#1), 128 ∣ (k0_mult6 i v2 v4 v7 v9 v12 v14 k0_t4).toNat) ∧
  (∀ k0_t4 : Fin (k0_t4_loop i v2 v4 v7 v9 v12 v14).trips, ∀ (k0_h4 : k0_cond4 i v2 v4 v7 v9 v12 v14 v20 v22 v25 v27 v30 v32 k0_t4 = 1#1), ∀ a, (k0_off41 i v2 v4 v7 v9 v12 v14 k0_t4) a + S512x128.size a ≤ S14208x1024.size a) ∧
  (∀ k0_t4 : Fin (k0_t4_loop i v2 v4 v7 v9 v12 v14).trips, ∀ (k0_h4 : k0_cond4 i v2 v4 v7 v9 v12 v14 v20 v22 v25 v27 v30 v32 k0_t4 = 1#1), ∀ a, (k0_off42 i v2 v4 v7 v9 v12 v14 k0_t4) a + S512x128.size a ≤ S14208x1024.size a) ∧
  (∀ k0_t4 : Fin (k0_t4_loop i v2 v4 v7 v9 v12 v14).trips, ∀ (k0_h4 : k0_cond4 i v2 v4 v7 v9 v12 v14 v20 v22 v25 v27 v30 v32 k0_t4 = 1#1), ∀ a, (k0_off43 i v2 v4 v7 v9 v12 v14 k0_t4) a + S512x128.size a ≤ S14208x1024.size a) ∧
  (∀ k0_t4 : Fin (k0_t4_loop i v2 v4 v7 v9 v12 v14).trips, ∀ (k0_h4 : k0_cond4 i v2 v4 v7 v9 v12 v14 v20 v22 v25 v27 v30 v32 k0_t4 = 1#1), ∀ a, (k0_off44 i v2 v4 v7 v9 v12 v14 k0_t4) a + S512x128.size a ≤ S14208x1024.size a)
def k0_chk2_1 (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) : Prop :=
  (∀ k0_t4 : Fin (k0_t4_loop i v2 v4 v7 v9 v12 v14).trips, ∀ (k0_h4 : k0_cond4 i v2 v4 v7 v9 v12 v14 v20 v22 v25 v27 v30 v32 k0_t4 = 1#1), ∀ a, (k0_off45 i v2 v4 v7 v9 v12 v14 k0_t4) a + S512x128.size a ≤ S14208x1024.size a) ∧
  (∀ k0_t4 : Fin (k0_t4_loop i v2 v4 v7 v9 v12 v14).trips, ∀ (k0_h4 : k0_cond4 i v2 v4 v7 v9 v12 v14 v20 v22 v25 v27 v30 v32 k0_t4 = 1#1), ∀ a, (k0_off46 i v2 v4 v7 v9 v12 v14 k0_t4) a + S512x128.size a ≤ S14208x1024.size a) ∧
  (∀ k0_t4 : Fin (k0_t4_loop i v2 v4 v7 v9 v12 v14).trips, ∀ (k0_h4 : k0_cond4 i v2 v4 v7 v9 v12 v14 v20 v22 v25 v27 v30 v32 k0_t4 = 1#1), ∀ a, (k0_off47 i v2 v4 v7 v9 v12 v14 k0_t4) a + S512x128.size a ≤ S14208x1024.size a) ∧
  (∀ k0_t4 : Fin (k0_t4_loop i v2 v4 v7 v9 v12 v14).trips, ∀ (k0_h4 : k0_cond4 i v2 v4 v7 v9 v12 v14 v20 v22 v25 v27 v30 v32 k0_t4 = 1#1), ∀ a, (k0_off48 i v2 v4 v7 v9 v12 v14 k0_t4) a + S512x128.size a ≤ S14208x1024.size a)
def k0_chk2 (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) : Prop :=
  k0_chk2_0 i v2 v4 v7 v9 v12 v14 v20 v22 v25 v27 v30 v32 ∧
  k0_chk2_1 i v2 v4 v7 v9 v12 v14 v20 v22 v25 v27 v30 v32
theorem k0_mult3_dvd : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t3 : Fin (k0_t3_loop i v2 v4 v7 v9 v12 v14).trips), ∀ (k0_h1 : k0_cond1 i v2 v4 v7 v9 v12 v14 v20 v22 v25 v27 v30 v32 k0_t3 = 1#1), 128 ∣ (k0_mult3 i v2 v4 v7 v9 v12 v14 k0_t3).toNat := fun i v2 v4 v7 v9 v12 v14 v20 v22 v25 v27 v30 v32 k0_hw2 k0_t3 k0_h1 => k0_hw2.1.1 k0_t3 k0_h1
theorem k0_off17_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t3 : Fin (k0_t3_loop i v2 v4 v7 v9 v12 v14).trips), ∀ (k0_h1 : k0_cond1 i v2 v4 v7 v9 v12 v14 v20 v22 v25 v27 v30 v32 k0_t3 = 1#1), ∀ a, (k0_off17 i v2 v4 v7 v9 v12 v14 k0_t3) a + S512x128.size a ≤ S14208x1024.size a := fun i v2 v4 v7 v9 v12 v14 v20 v22 v25 v27 v30 v32 k0_hw2 k0_t3 k0_h1 => k0_hw2.1.2.1 k0_t3 k0_h1
theorem k0_off18_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t3 : Fin (k0_t3_loop i v2 v4 v7 v9 v12 v14).trips), ∀ (k0_h1 : k0_cond1 i v2 v4 v7 v9 v12 v14 v20 v22 v25 v27 v30 v32 k0_t3 = 1#1), ∀ a, (k0_off18 i v2 v4 v7 v9 v12 v14 k0_t3) a + S512x128.size a ≤ S14208x1024.size a := fun i v2 v4 v7 v9 v12 v14 v20 v22 v25 v27 v30 v32 k0_hw2 k0_t3 k0_h1 => k0_hw2.1.2.2.1 k0_t3 k0_h1
theorem k0_off19_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t3 : Fin (k0_t3_loop i v2 v4 v7 v9 v12 v14).trips), ∀ (k0_h1 : k0_cond1 i v2 v4 v7 v9 v12 v14 v20 v22 v25 v27 v30 v32 k0_t3 = 1#1), ∀ a, (k0_off19 i v2 v4 v7 v9 v12 v14 k0_t3) a + S512x128.size a ≤ S14208x1024.size a := fun i v2 v4 v7 v9 v12 v14 v20 v22 v25 v27 v30 v32 k0_hw2 k0_t3 k0_h1 => k0_hw2.1.2.2.2.1 k0_t3 k0_h1
theorem k0_off20_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t3 : Fin (k0_t3_loop i v2 v4 v7 v9 v12 v14).trips), ∀ (k0_h1 : k0_cond1 i v2 v4 v7 v9 v12 v14 v20 v22 v25 v27 v30 v32 k0_t3 = 1#1), ∀ a, (k0_off20 i v2 v4 v7 v9 v12 v14 k0_t3) a + S512x128.size a ≤ S14208x1024.size a := fun i v2 v4 v7 v9 v12 v14 v20 v22 v25 v27 v30 v32 k0_hw2 k0_t3 k0_h1 => k0_hw2.1.2.2.2.2.1 k0_t3 k0_h1
theorem k0_off21_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t3 : Fin (k0_t3_loop i v2 v4 v7 v9 v12 v14).trips), ∀ (k0_h1 : k0_cond1 i v2 v4 v7 v9 v12 v14 v20 v22 v25 v27 v30 v32 k0_t3 = 1#1), ∀ a, (k0_off21 i v2 v4 v7 v9 v12 v14 k0_t3) a + S512x128.size a ≤ S14208x1024.size a := fun i v2 v4 v7 v9 v12 v14 v20 v22 v25 v27 v30 v32 k0_hw2 k0_t3 k0_h1 => k0_hw2.1.2.2.2.2.2.1 k0_t3 k0_h1
theorem k0_off22_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t3 : Fin (k0_t3_loop i v2 v4 v7 v9 v12 v14).trips), ∀ (k0_h1 : k0_cond1 i v2 v4 v7 v9 v12 v14 v20 v22 v25 v27 v30 v32 k0_t3 = 1#1), ∀ a, (k0_off22 i v2 v4 v7 v9 v12 v14 k0_t3) a + S512x128.size a ≤ S14208x1024.size a := fun i v2 v4 v7 v9 v12 v14 v20 v22 v25 v27 v30 v32 k0_hw2 k0_t3 k0_h1 => k0_hw2.1.2.2.2.2.2.2.1 k0_t3 k0_h1
theorem k0_off23_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t3 : Fin (k0_t3_loop i v2 v4 v7 v9 v12 v14).trips), ∀ (k0_h1 : k0_cond1 i v2 v4 v7 v9 v12 v14 v20 v22 v25 v27 v30 v32 k0_t3 = 1#1), ∀ a, (k0_off23 i v2 v4 v7 v9 v12 v14 k0_t3) a + S512x128.size a ≤ S14208x1024.size a := fun i v2 v4 v7 v9 v12 v14 v20 v22 v25 v27 v30 v32 k0_hw2 k0_t3 k0_h1 => k0_hw2.1.2.2.2.2.2.2.2.1 k0_t3 k0_h1
theorem k0_off24_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t3 : Fin (k0_t3_loop i v2 v4 v7 v9 v12 v14).trips), ∀ (k0_h1 : k0_cond1 i v2 v4 v7 v9 v12 v14 v20 v22 v25 v27 v30 v32 k0_t3 = 1#1), ∀ a, (k0_off24 i v2 v4 v7 v9 v12 v14 k0_t3) a + S512x128.size a ≤ S14208x1024.size a := fun i v2 v4 v7 v9 v12 v14 v20 v22 v25 v27 v30 v32 k0_hw2 k0_t3 k0_h1 => k0_hw2.1.2.2.2.2.2.2.2.2.1 k0_t3 k0_h1
theorem k0_mult4_dvd : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t3 : Fin (k0_t3_loop i v2 v4 v7 v9 v12 v14).trips), ∀ (k0_h2 : k0_cond2 i v2 v4 v7 v9 v12 v14 v20 v22 v25 v27 v30 v32 k0_t3 = 1#1), 128 ∣ (k0_mult4 i v2 v4 v7 v9 v12 v14 k0_t3).toNat := fun i v2 v4 v7 v9 v12 v14 v20 v22 v25 v27 v30 v32 k0_hw2 k0_t3 k0_h2 => k0_hw2.1.2.2.2.2.2.2.2.2.2.1 k0_t3 k0_h2
theorem k0_off25_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t3 : Fin (k0_t3_loop i v2 v4 v7 v9 v12 v14).trips), ∀ (k0_h2 : k0_cond2 i v2 v4 v7 v9 v12 v14 v20 v22 v25 v27 v30 v32 k0_t3 = 1#1), ∀ a, (k0_off25 i v2 v4 v7 v9 v12 v14 k0_t3) a + S512x128.size a ≤ S14208x1024.size a := fun i v2 v4 v7 v9 v12 v14 v20 v22 v25 v27 v30 v32 k0_hw2 k0_t3 k0_h2 => k0_hw2.1.2.2.2.2.2.2.2.2.2.2.1 k0_t3 k0_h2
theorem k0_off26_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t3 : Fin (k0_t3_loop i v2 v4 v7 v9 v12 v14).trips), ∀ (k0_h2 : k0_cond2 i v2 v4 v7 v9 v12 v14 v20 v22 v25 v27 v30 v32 k0_t3 = 1#1), ∀ a, (k0_off26 i v2 v4 v7 v9 v12 v14 k0_t3) a + S512x128.size a ≤ S14208x1024.size a := fun i v2 v4 v7 v9 v12 v14 v20 v22 v25 v27 v30 v32 k0_hw2 k0_t3 k0_h2 => k0_hw2.1.2.2.2.2.2.2.2.2.2.2.2.1 k0_t3 k0_h2
theorem k0_off27_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t3 : Fin (k0_t3_loop i v2 v4 v7 v9 v12 v14).trips), ∀ (k0_h2 : k0_cond2 i v2 v4 v7 v9 v12 v14 v20 v22 v25 v27 v30 v32 k0_t3 = 1#1), ∀ a, (k0_off27 i v2 v4 v7 v9 v12 v14 k0_t3) a + S512x128.size a ≤ S14208x1024.size a := fun i v2 v4 v7 v9 v12 v14 v20 v22 v25 v27 v30 v32 k0_hw2 k0_t3 k0_h2 => k0_hw2.1.2.2.2.2.2.2.2.2.2.2.2.2.1 k0_t3 k0_h2
theorem k0_off28_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t3 : Fin (k0_t3_loop i v2 v4 v7 v9 v12 v14).trips), ∀ (k0_h2 : k0_cond2 i v2 v4 v7 v9 v12 v14 v20 v22 v25 v27 v30 v32 k0_t3 = 1#1), ∀ a, (k0_off28 i v2 v4 v7 v9 v12 v14 k0_t3) a + S512x128.size a ≤ S14208x1024.size a := fun i v2 v4 v7 v9 v12 v14 v20 v22 v25 v27 v30 v32 k0_hw2 k0_t3 k0_h2 => k0_hw2.1.2.2.2.2.2.2.2.2.2.2.2.2.2.1 k0_t3 k0_h2
theorem k0_off29_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t3 : Fin (k0_t3_loop i v2 v4 v7 v9 v12 v14).trips), ∀ (k0_h2 : k0_cond2 i v2 v4 v7 v9 v12 v14 v20 v22 v25 v27 v30 v32 k0_t3 = 1#1), ∀ a, (k0_off29 i v2 v4 v7 v9 v12 v14 k0_t3) a + S512x128.size a ≤ S14208x1024.size a := fun i v2 v4 v7 v9 v12 v14 v20 v22 v25 v27 v30 v32 k0_hw2 k0_t3 k0_h2 => k0_hw2.1.2.2.2.2.2.2.2.2.2.2.2.2.2.2.1 k0_t3 k0_h2
theorem k0_off30_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t3 : Fin (k0_t3_loop i v2 v4 v7 v9 v12 v14).trips), ∀ (k0_h2 : k0_cond2 i v2 v4 v7 v9 v12 v14 v20 v22 v25 v27 v30 v32 k0_t3 = 1#1), ∀ a, (k0_off30 i v2 v4 v7 v9 v12 v14 k0_t3) a + S512x128.size a ≤ S14208x1024.size a := fun i v2 v4 v7 v9 v12 v14 v20 v22 v25 v27 v30 v32 k0_hw2 k0_t3 k0_h2 => k0_hw2.1.2.2.2.2.2.2.2.2.2.2.2.2.2.2.2.1 k0_t3 k0_h2
theorem k0_off31_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t3 : Fin (k0_t3_loop i v2 v4 v7 v9 v12 v14).trips), ∀ (k0_h2 : k0_cond2 i v2 v4 v7 v9 v12 v14 v20 v22 v25 v27 v30 v32 k0_t3 = 1#1), ∀ a, (k0_off31 i v2 v4 v7 v9 v12 v14 k0_t3) a + S512x128.size a ≤ S14208x1024.size a := fun i v2 v4 v7 v9 v12 v14 v20 v22 v25 v27 v30 v32 k0_hw2 k0_t3 k0_h2 => k0_hw2.1.2.2.2.2.2.2.2.2.2.2.2.2.2.2.2.2.1 k0_t3 k0_h2
theorem k0_off32_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t3 : Fin (k0_t3_loop i v2 v4 v7 v9 v12 v14).trips), ∀ (k0_h2 : k0_cond2 i v2 v4 v7 v9 v12 v14 v20 v22 v25 v27 v30 v32 k0_t3 = 1#1), ∀ a, (k0_off32 i v2 v4 v7 v9 v12 v14 k0_t3) a + S512x128.size a ≤ S14208x1024.size a := fun i v2 v4 v7 v9 v12 v14 v20 v22 v25 v27 v30 v32 k0_hw2 k0_t3 k0_h2 => k0_hw2.1.2.2.2.2.2.2.2.2.2.2.2.2.2.2.2.2.2.1 k0_t3 k0_h2
theorem k0_mult5_dvd : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t4 : Fin (k0_t4_loop i v2 v4 v7 v9 v12 v14).trips), ∀ (k0_h3 : k0_cond3 i v2 v4 v7 v9 v12 v14 v20 v22 v25 v27 v30 v32 k0_t4 = 1#1), 128 ∣ (k0_mult5 i v2 v4 v7 v9 v12 v14 k0_t4).toNat := fun i v2 v4 v7 v9 v12 v14 v20 v22 v25 v27 v30 v32 k0_hw2 k0_t4 k0_h3 => k0_hw2.1.2.2.2.2.2.2.2.2.2.2.2.2.2.2.2.2.2.2.1 k0_t4 k0_h3
theorem k0_off33_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t4 : Fin (k0_t4_loop i v2 v4 v7 v9 v12 v14).trips), ∀ (k0_h3 : k0_cond3 i v2 v4 v7 v9 v12 v14 v20 v22 v25 v27 v30 v32 k0_t4 = 1#1), ∀ a, (k0_off33 i v2 v4 v7 v9 v12 v14 k0_t4) a + S512x128.size a ≤ S14208x1024.size a := fun i v2 v4 v7 v9 v12 v14 v20 v22 v25 v27 v30 v32 k0_hw2 k0_t4 k0_h3 => k0_hw2.1.2.2.2.2.2.2.2.2.2.2.2.2.2.2.2.2.2.2.2.1 k0_t4 k0_h3
theorem k0_off34_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t4 : Fin (k0_t4_loop i v2 v4 v7 v9 v12 v14).trips), ∀ (k0_h3 : k0_cond3 i v2 v4 v7 v9 v12 v14 v20 v22 v25 v27 v30 v32 k0_t4 = 1#1), ∀ a, (k0_off34 i v2 v4 v7 v9 v12 v14 k0_t4) a + S512x128.size a ≤ S14208x1024.size a := fun i v2 v4 v7 v9 v12 v14 v20 v22 v25 v27 v30 v32 k0_hw2 k0_t4 k0_h3 => k0_hw2.1.2.2.2.2.2.2.2.2.2.2.2.2.2.2.2.2.2.2.2.2.1 k0_t4 k0_h3
theorem k0_off35_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t4 : Fin (k0_t4_loop i v2 v4 v7 v9 v12 v14).trips), ∀ (k0_h3 : k0_cond3 i v2 v4 v7 v9 v12 v14 v20 v22 v25 v27 v30 v32 k0_t4 = 1#1), ∀ a, (k0_off35 i v2 v4 v7 v9 v12 v14 k0_t4) a + S512x128.size a ≤ S14208x1024.size a := fun i v2 v4 v7 v9 v12 v14 v20 v22 v25 v27 v30 v32 k0_hw2 k0_t4 k0_h3 => k0_hw2.1.2.2.2.2.2.2.2.2.2.2.2.2.2.2.2.2.2.2.2.2.2.1 k0_t4 k0_h3
theorem k0_off36_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t4 : Fin (k0_t4_loop i v2 v4 v7 v9 v12 v14).trips), ∀ (k0_h3 : k0_cond3 i v2 v4 v7 v9 v12 v14 v20 v22 v25 v27 v30 v32 k0_t4 = 1#1), ∀ a, (k0_off36 i v2 v4 v7 v9 v12 v14 k0_t4) a + S512x128.size a ≤ S14208x1024.size a := fun i v2 v4 v7 v9 v12 v14 v20 v22 v25 v27 v30 v32 k0_hw2 k0_t4 k0_h3 => k0_hw2.1.2.2.2.2.2.2.2.2.2.2.2.2.2.2.2.2.2.2.2.2.2.2.1 k0_t4 k0_h3
theorem k0_off37_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t4 : Fin (k0_t4_loop i v2 v4 v7 v9 v12 v14).trips), ∀ (k0_h3 : k0_cond3 i v2 v4 v7 v9 v12 v14 v20 v22 v25 v27 v30 v32 k0_t4 = 1#1), ∀ a, (k0_off37 i v2 v4 v7 v9 v12 v14 k0_t4) a + S512x128.size a ≤ S14208x1024.size a := fun i v2 v4 v7 v9 v12 v14 v20 v22 v25 v27 v30 v32 k0_hw2 k0_t4 k0_h3 => k0_hw2.1.2.2.2.2.2.2.2.2.2.2.2.2.2.2.2.2.2.2.2.2.2.2.2.1 k0_t4 k0_h3
theorem k0_off38_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t4 : Fin (k0_t4_loop i v2 v4 v7 v9 v12 v14).trips), ∀ (k0_h3 : k0_cond3 i v2 v4 v7 v9 v12 v14 v20 v22 v25 v27 v30 v32 k0_t4 = 1#1), ∀ a, (k0_off38 i v2 v4 v7 v9 v12 v14 k0_t4) a + S512x128.size a ≤ S14208x1024.size a := fun i v2 v4 v7 v9 v12 v14 v20 v22 v25 v27 v30 v32 k0_hw2 k0_t4 k0_h3 => k0_hw2.1.2.2.2.2.2.2.2.2.2.2.2.2.2.2.2.2.2.2.2.2.2.2.2.2.1 k0_t4 k0_h3
theorem k0_off39_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t4 : Fin (k0_t4_loop i v2 v4 v7 v9 v12 v14).trips), ∀ (k0_h3 : k0_cond3 i v2 v4 v7 v9 v12 v14 v20 v22 v25 v27 v30 v32 k0_t4 = 1#1), ∀ a, (k0_off39 i v2 v4 v7 v9 v12 v14 k0_t4) a + S512x128.size a ≤ S14208x1024.size a := fun i v2 v4 v7 v9 v12 v14 v20 v22 v25 v27 v30 v32 k0_hw2 k0_t4 k0_h3 => k0_hw2.1.2.2.2.2.2.2.2.2.2.2.2.2.2.2.2.2.2.2.2.2.2.2.2.2.2.1 k0_t4 k0_h3
theorem k0_off40_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t4 : Fin (k0_t4_loop i v2 v4 v7 v9 v12 v14).trips), ∀ (k0_h3 : k0_cond3 i v2 v4 v7 v9 v12 v14 v20 v22 v25 v27 v30 v32 k0_t4 = 1#1), ∀ a, (k0_off40 i v2 v4 v7 v9 v12 v14 k0_t4) a + S512x128.size a ≤ S14208x1024.size a := fun i v2 v4 v7 v9 v12 v14 v20 v22 v25 v27 v30 v32 k0_hw2 k0_t4 k0_h3 => k0_hw2.1.2.2.2.2.2.2.2.2.2.2.2.2.2.2.2.2.2.2.2.2.2.2.2.2.2.2.1 k0_t4 k0_h3
theorem k0_mult6_dvd : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t4 : Fin (k0_t4_loop i v2 v4 v7 v9 v12 v14).trips), ∀ (k0_h4 : k0_cond4 i v2 v4 v7 v9 v12 v14 v20 v22 v25 v27 v30 v32 k0_t4 = 1#1), 128 ∣ (k0_mult6 i v2 v4 v7 v9 v12 v14 k0_t4).toNat := fun i v2 v4 v7 v9 v12 v14 v20 v22 v25 v27 v30 v32 k0_hw2 k0_t4 k0_h4 => k0_hw2.1.2.2.2.2.2.2.2.2.2.2.2.2.2.2.2.2.2.2.2.2.2.2.2.2.2.2.2.1 k0_t4 k0_h4
theorem k0_off41_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t4 : Fin (k0_t4_loop i v2 v4 v7 v9 v12 v14).trips), ∀ (k0_h4 : k0_cond4 i v2 v4 v7 v9 v12 v14 v20 v22 v25 v27 v30 v32 k0_t4 = 1#1), ∀ a, (k0_off41 i v2 v4 v7 v9 v12 v14 k0_t4) a + S512x128.size a ≤ S14208x1024.size a := fun i v2 v4 v7 v9 v12 v14 v20 v22 v25 v27 v30 v32 k0_hw2 k0_t4 k0_h4 => k0_hw2.1.2.2.2.2.2.2.2.2.2.2.2.2.2.2.2.2.2.2.2.2.2.2.2.2.2.2.2.2.1 k0_t4 k0_h4
theorem k0_off42_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t4 : Fin (k0_t4_loop i v2 v4 v7 v9 v12 v14).trips), ∀ (k0_h4 : k0_cond4 i v2 v4 v7 v9 v12 v14 v20 v22 v25 v27 v30 v32 k0_t4 = 1#1), ∀ a, (k0_off42 i v2 v4 v7 v9 v12 v14 k0_t4) a + S512x128.size a ≤ S14208x1024.size a := fun i v2 v4 v7 v9 v12 v14 v20 v22 v25 v27 v30 v32 k0_hw2 k0_t4 k0_h4 => k0_hw2.1.2.2.2.2.2.2.2.2.2.2.2.2.2.2.2.2.2.2.2.2.2.2.2.2.2.2.2.2.2.1 k0_t4 k0_h4
theorem k0_off43_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t4 : Fin (k0_t4_loop i v2 v4 v7 v9 v12 v14).trips), ∀ (k0_h4 : k0_cond4 i v2 v4 v7 v9 v12 v14 v20 v22 v25 v27 v30 v32 k0_t4 = 1#1), ∀ a, (k0_off43 i v2 v4 v7 v9 v12 v14 k0_t4) a + S512x128.size a ≤ S14208x1024.size a := fun i v2 v4 v7 v9 v12 v14 v20 v22 v25 v27 v30 v32 k0_hw2 k0_t4 k0_h4 => k0_hw2.1.2.2.2.2.2.2.2.2.2.2.2.2.2.2.2.2.2.2.2.2.2.2.2.2.2.2.2.2.2.2.1 k0_t4 k0_h4
theorem k0_off44_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t4 : Fin (k0_t4_loop i v2 v4 v7 v9 v12 v14).trips), ∀ (k0_h4 : k0_cond4 i v2 v4 v7 v9 v12 v14 v20 v22 v25 v27 v30 v32 k0_t4 = 1#1), ∀ a, (k0_off44 i v2 v4 v7 v9 v12 v14 k0_t4) a + S512x128.size a ≤ S14208x1024.size a := fun i v2 v4 v7 v9 v12 v14 v20 v22 v25 v27 v30 v32 k0_hw2 k0_t4 k0_h4 => k0_hw2.1.2.2.2.2.2.2.2.2.2.2.2.2.2.2.2.2.2.2.2.2.2.2.2.2.2.2.2.2.2.2.2 k0_t4 k0_h4
theorem k0_off45_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t4 : Fin (k0_t4_loop i v2 v4 v7 v9 v12 v14).trips), ∀ (k0_h4 : k0_cond4 i v2 v4 v7 v9 v12 v14 v20 v22 v25 v27 v30 v32 k0_t4 = 1#1), ∀ a, (k0_off45 i v2 v4 v7 v9 v12 v14 k0_t4) a + S512x128.size a ≤ S14208x1024.size a := fun i v2 v4 v7 v9 v12 v14 v20 v22 v25 v27 v30 v32 k0_hw2 k0_t4 k0_h4 => k0_hw2.2.1 k0_t4 k0_h4
theorem k0_off46_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t4 : Fin (k0_t4_loop i v2 v4 v7 v9 v12 v14).trips), ∀ (k0_h4 : k0_cond4 i v2 v4 v7 v9 v12 v14 v20 v22 v25 v27 v30 v32 k0_t4 = 1#1), ∀ a, (k0_off46 i v2 v4 v7 v9 v12 v14 k0_t4) a + S512x128.size a ≤ S14208x1024.size a := fun i v2 v4 v7 v9 v12 v14 v20 v22 v25 v27 v30 v32 k0_hw2 k0_t4 k0_h4 => k0_hw2.2.2.1 k0_t4 k0_h4
theorem k0_off47_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t4 : Fin (k0_t4_loop i v2 v4 v7 v9 v12 v14).trips), ∀ (k0_h4 : k0_cond4 i v2 v4 v7 v9 v12 v14 v20 v22 v25 v27 v30 v32 k0_t4 = 1#1), ∀ a, (k0_off47 i v2 v4 v7 v9 v12 v14 k0_t4) a + S512x128.size a ≤ S14208x1024.size a := fun i v2 v4 v7 v9 v12 v14 v20 v22 v25 v27 v30 v32 k0_hw2 k0_t4 k0_h4 => k0_hw2.2.2.2.1 k0_t4 k0_h4
theorem k0_off48_inb : ∀ (i : grid0.Coords) (v2 : BitVec 32) (v4 : BitVec 32) (v7 : BitVec 32) (v9 : BitVec 32) (v12 : BitVec 32) (v14 : BitVec 32) (v20 : BitVec 32) (v22 : BitVec 32) (v25 : BitVec 32) (v27 : BitVec 32) (v30 : BitVec 32) (v32 : BitVec 32) (k0_hw2 : k0_chk2 i v2 v4 v7 v9 v12 v14 v20 v22 v25 v27 v30 v32) (k0_t4 : Fin (k0_t4_loop i v2 v4 v7 v9 v12 v14).trips), ∀ (k0_h4 : k0_cond4 i v2 v4 v7 v9 v12 v14 v20 v22 v25 v27 v30 v32 k0_t4 = 1#1), ∀ a, (k0_off48 i v2 v4 v7 v9 v12 v14 k0_t4) a + S512x128.size a ≤ S14208x1024.size a := fun i v2 v4 v7 v9 v12 v14 v20 v22 v25 v27 v30 v32 k0_hw2 k0_t4 k0_h4 => k0_hw2.2.2.2.2 k0_t4 k0_h4

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S14208x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S14208x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Proof.AttnRange.lean ====
/- The attention call's key ranges as words: where a block's rows start reading, how many blocks they read, and that every
   read they name lies inside the arrays, for every content of the table of sequence starts. -/
module

public import Idealize.ShloMosaic.Lib.LoopRemainder

@[expose] public section

set_option maxRecDepth 16384

namespace Cert.AttnRange

open Idealize.ShloMosaic

/-- The start of the sequence row `p` is in, or of its window if that is later, from the three table entries. -/
def first (p a b c : BitVec 32) : BitVec 32 :=
  Scalar.maxsi
    (Scalar.maxsi
      (Scalar.maxsi (Scalar.maxsi 0#32 (Scalar.select (Scalar.cmpi .sge p a) a 0#32)) (Scalar.select (Scalar.cmpi .sge p b) b 0#32))
      (Scalar.select (Scalar.cmpi .sge p c) c 0#32))
    (Scalar.subi p 4095#32)

/-- That start, rounded down to a whole block of 128 keys. -/
def start (p a b c : BitVec 32) : BitVec 32 := Scalar.andi (first p a b c) 4294967168#32

/-- The quotient rounded down, as the kernel computes it from the quotient rounded toward zero. -/
def fdiv (x d : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

/-- The steps of 512 keys and the steps of 128 keys left over, of `x` keys. -/
def big (x : BitVec 32) : BitVec 32 := fdiv (fdiv x 128#32) 4#32
def small (x : BitVec 32) : BitVec 32 := Scalar.subi (fdiv x 128#32) (Scalar.muli (big x) 4#32)

/-- A count as the upper bound of the counted loop from zero. -/
def upto (x : BitVec 32) : BitVec 32 := Scalar.addi 0#32 (Scalar.muli (Scalar.divsi (Scalar.subi x 0#32) 1#32) 1#32)

theorem big_eq : ∀ n < 112, big (BitVec.ofNat 32 (128 * n)) = BitVec.ofNat 32 (n / 4) := by decide +kernel
theorem small_eq : ∀ n < 112, small (BitVec.ofNat 32 (128 * n)) = BitVec.ofNat 32 (n % 4) := by decide +kernel
theorem upto_trips : ∀ n < 112, Scf.trips 0#32 (upto (BitVec.ofNat 32 n)) 1#32 = n := by decide +kernel
theorem upto_ok : ∀ n < 112, Scf.OK 0#32 (upto (BitVec.ofNat 32 n)) 1#32 := by decide +kernel

/-- A word between zero and `p`, signed. -/
def Within (p x : BitVec 32) : Prop := 0 ≤ x.toInt ∧ x.toInt ≤ p.toInt

theorem maxsi_toInt (x y : BitVec 32) : (Scalar.maxsi x y).toInt = max x.toInt y.toInt := by
  unfold Scalar.maxsi IntOp.maxsi
  by_cases h : y.toInt < x.toInt
  · rw [if_pos (by simpa [BitVec.slt] using h), max_eq_left h.le]
  · rw [if_neg (by simpa [BitVec.slt] using h), max_eq_right (not_lt.1 h)]

/-- A table entry taken only where row `p` is at or past it is at most `p`. -/
theorem taken_le (p a : BitVec 32) (hp : 0 ≤ p.toInt) : (Scalar.select (Scalar.cmpi .sge p a) a 0#32).toInt ≤ p.toInt := by
  unfold Scalar.select Scalar.cmpi IntOp.cmpi
  by_cases h : a.toInt ≤ p.toInt
  · have : a.sle p = true := by simpa [BitVec.sle] using h
    simp only [this]
    exact h
  · have : a.sle p = false := by simpa [BitVec.sle] using h
    simp only [this]
    exact hp

theorem first_within (p a b c : BitVec 32) (hp : p.toNat < 14208) : Within p (first p a b c) := by
  have hp0 : p.toInt = p.toNat := by rw [BitVec.toInt_eq_toNat_cond, if_pos (by omega)]
  have h0 : 0 ≤ p.toInt := by omega
  have hs : (Scalar.subi p 4095#32).toInt ≤ p.toInt := by
    have : Scalar.subi p 4095#32 = p - 4095#32 := rfl
    rw [this, BitVec.toInt_sub, hp0, show (4095#32 : BitVec 32).toInt = 4095 from by decide, Int.bmod_def]
    split <;> omega
  have hz : (0#32 : BitVec 32).toInt = 0 := by decide
  unfold Within first
  simp only [maxsi_toInt, hz]
  have ha := taken_le p a h0
  have hb := taken_le p b h0
  have hc := taken_le p c h0
  omega

/-- Clearing the seven low bits rounds down to a multiple of 128. -/
theorem clear_toNat (x : BitVec 32) : (Scalar.andi x 4294967168#32).toNat = x.toNat / 128 * 128 := by
  have h : Scalar.andi x 4294967168#32 = (x >>> 7) <<< 7 := by
    show x &&& 4294967168#32 = _
    apply BitVec.eq_of_getLsbD_eq
    intro i hi
    rw [BitVec.getLsbD_and, BitVec.getLsbD_shiftLeft, BitVec.getLsbD_ushiftRight]
    have hc : ∀ i < 32, (4294967168#32 : BitVec 32).getLsbD i = decide (7 ≤ i) := by decide
    rw [hc i hi]
    by_cases h7 : 7 ≤ i
    · rw [show 7 + (i - 7) = i from by omega]
      simp [h7, hi, Nat.not_lt.2 h7]
    · simp [h7, Nat.lt_of_not_le h7]
  rw [h, BitVec.toNat_shiftLeft, BitVec.toNat_ushiftRight, Nat.shiftRight_eq_div_pow, Nat.shiftLeft_eq]
  have := x.isLt
  omega

/-- Row block `i`'s first row. -/
def row (i : Nat) : BitVec 32 := Scalar.muli (BitVec.ofNat 32 i) 128#32

theorem row_toNat : ∀ i < 111, (row i).toNat = 128 * i := by decide

/-- The start is a whole number of blocks, and no later than the row block. -/
theorem start_eq (i : Nat) (hi : i < 111) (a b c : BitVec 32) : ∃ k, k ≤ i ∧ start (row i) a b c = BitVec.ofNat 32 (128 * k) := by
  have hr := row_toNat i hi
  obtain ⟨h0, h1⟩ := first_within (row i) a b c (by omega)
  have hf := BitVec.toInt_eq_toNat_cond (first (row i) a b c)
  have hrI : (row i).toInt = (row i).toNat := by rw [BitVec.toInt_eq_toNat_cond, if_pos (by omega)]
  have hfl := (first (row i) a b c).isLt
  have hle : (first (row i) a b c).toNat ≤ 128 * i := by split at hf <;> omega
  refine ⟨(first (row i) a b c).toNat / 128, by omega, ?_⟩
  apply BitVec.eq_of_toNat_eq
  unfold start
  rw [clear_toNat, BitVec.toNat_ofNat]
  omega

/-- The keys from the start to the row block's end. -/
theorem keys_eq (i k : Nat) (hi : i < 111) (hk : k ≤ i) :
    Scalar.subi (Scalar.addi (row i) 128#32) (BitVec.ofNat 32 (128 * k)) = BitVec.ofNat 32 (128 * (i + 1 - k)) := by
  apply BitVec.eq_of_toNat_eq
  show ((row i + 128#32) - BitVec.ofNat 32 (128 * k)).toNat = _
  have hr := row_toNat i hi
  rw [BitVec.toNat_sub, BitVec.toNat_add, hr]
  simp only [BitVec.toNat_ofNat]
  omega

/-- The keys of row block `i`. -/
def keys (i : Nat) (a b c : BitVec 32) : BitVec 32 := Scalar.subi (Scalar.addi (row i) 128#32) (start (row i) a b c)

/-- The first key of step `t` of the steps of 128, and of the steps of 512 behind them. -/
def offS (i : Nat) (a b c : BitVec 32) (t : Nat) : BitVec 32 :=
  Scalar.addi (start (row i) a b c) (Scalar.muli (Scf.iv 0#32 1#32 t) 128#32)
def offB (i : Nat) (a b c : BitVec 32) (t : Nat) : BitVec 32 :=
  Scalar.addi (Scalar.addi (start (row i) a b c) (Scalar.muli (small (keys i a b c)) 128#32)) (Scalar.muli (Scf.iv 0#32 1#32 t) 512#32)

theorem iv_toNat (t : Nat) (ht : t < 112) : (Scf.iv (0#32 : BitVec 32) 1#32 t).toNat = t := by
  unfold Scf.iv
  simp only [BitVec.mul_one, BitVec.zero_add, BitVec.toNat_ofNat]
  omega

theorem okS (i : Nat) (hi : i < 111) (a b c : BitVec 32) : Scf.OK 0#32 (upto (small (keys i a b c))) 1#32 := by
  obtain ⟨k, hk, e⟩ := start_eq i hi a b c
  rw [keys, e, keys_eq i k hi hk, small_eq _ (by omega)]
  exact upto_ok _ (by omega)

theorem okB (i : Nat) (hi : i < 111) (a b c : BitVec 32) : Scf.OK 0#32 (upto (big (keys i a b c))) 1#32 := by
  obtain ⟨k, hk, e⟩ := start_eq i hi a b c
  rw [keys, e, keys_eq i k hi hk, big_eq _ (by omega)]
  exact upto_ok _ (by omega)

theorem offS_spec (i : Nat) (hi : i < 111) (a b c : BitVec 32) (t : Nat)
    (ht : t < Scf.trips 0#32 (upto (small (keys i a b c))) 1#32) :
    128 ∣ (offS i a b c t).toNat ∧ (offS i a b c t).toNat + 128 ≤ 14208 := by
  obtain ⟨k, hk, e⟩ := start_eq i hi a b c
  rw [keys, e, keys_eq i k hi hk, small_eq _ (by omega), upto_trips _ (by omega)] at ht
  have hv : (offS i a b c t).toNat = 128 * (k + t) := by
    unfold offS
    rw [e]
    show (BitVec.ofNat 32 (128 * k) + Scf.iv 0#32 1#32 t * 128#32).toNat = _
    rw [BitVec.toNat_add, BitVec.toNat_mul, iv_toNat t (by omega)]
    simp only [BitVec.toNat_ofNat]
    omega
  rw [hv]
  exact ⟨⟨_, rfl⟩, by omega⟩

theorem offB_spec (i : Nat) (hi : i < 111) (a b c : BitVec 32) (t : Nat)
    (ht : t < Scf.trips 0#32 (upto (big (keys i a b c))) 1#32) :
    128 ∣ (offB i a b c t).toNat ∧ (offB i a b c t).toNat + 512 ≤ 14208 := by
  obtain ⟨k, hk, e⟩ := start_eq i hi a b c
  have hs : small (keys i a b c) = BitVec.ofNat 32 ((i + 1 - k) % 4) := by
    rw [keys, e, keys_eq i k hi hk, small_eq _ (by omega)]
  rw [keys, e, keys_eq i k hi hk, big_eq _ (by omega), upto_trips _ (by omega)] at ht
  have hv : (offB i a b c t).toNat = 128 * (k + (i + 1 - k) % 4 + 4 * t) := by
    unfold offB
    rw [hs, e]
    show (BitVec.ofNat 32 (128 * k) + BitVec.ofNat 32 ((i + 1 - k) % 4) * 128#32 + Scf.iv 0#32 1#32 t * 512#32).toNat = _
    rw [BitVec.toNat_add, BitVec.toNat_add, BitVec.toNat_mul, BitVec.toNat_mul, iv_toNat t (by omega)]
    simp only [BitVec.toNat_ofNat]
    omega
  rw [hv]
  exact ⟨⟨_, rfl⟩, by omega⟩

end Cert.AttnRange

end
-- ==== Proof.AttnWords.lean ====
/- The attention call over the formats' words: every read its loops make lies inside the arrays, for every content of the table
   of sequence starts, so the program's frame holds with no precondition. -/
module

public import proofs.«01_k».proof.Proof.AttnRange
public import proofs.«01_k».proof.Proof.Gen.AttnKernel.Frame.Runs

@[expose] public section

set_option maxRecDepth 16384

noncomputable section

namespace Cert.AttnKernel.Hyp

open Idealize.ShloMosaic Cert.AttnKernel Cert.AttnKernel.Gen Cert.AttnRange

/-- A block of `n` rows and 128 columns inside the keys' array. -/
theorem inb (n x c : Nat) (o : Fin 2 → Nat) (e : o = ![x, c]) (hx : x + n ≤ 14208) (hc : c + 128 ≤ 1024) :
    ∀ a : Fin 2, o a + ![n, 128] a ≤ ![14208, 1024] a := by
  subst e
  rw [Fin.forall_fin_two]
  exact ⟨hx, hc⟩

variable (i : grid0.Coords) (a b c : BitVec 32)

theorem lt_row : (i 0).val < 111 := (i 0).isLt

theorem readS (t : Fin (k0_t1_loop i a a b b c c).trips) :
    128 ∣ (offS (i 0).val a b c t).toNat ∧ (offS (i 0).val a b c t).toNat + 128 ≤ 14208 :=
  offS_spec _ (lt_row i) a b c t.val t.isLt

theorem readB (t : Fin (k0_t3_loop i a a b b c c).trips) :
    128 ∣ (offB (i 0).val a b c t).toNat ∧ (offB (i 0).val a b c t).toNat + 512 ≤ 14208 :=
  offB_spec _ (lt_row i) a b c t.val t.isLt

theorem none2 (t : Fin (k0_t2_loop i a a b b c c).trips) : False := Scf.rem_no_trip _ _ t

theorem none4 (t : Fin (k0_t4_loop i a a b b c c).trips) : False := Scf.rem_no_trip _ _ t

/-- What the body assumes once it has read the table. -/
theorem chk1 : k0_chk1 i a a b b c c :=
  ⟨okS _ (lt_row i) a b c,
   fun t => (readS i a b c t).1,
   fun t => inb 128 _ 0 _ rfl (readS i a b c t).2 (by decide),
   fun t => inb 128 _ 128 _ rfl (readS i a b c t).2 (by decide),
   fun t => inb 128 _ 256 _ rfl (readS i a b c t).2 (by decide),
   fun t => inb 128 _ 384 _ rfl (readS i a b c t).2 (by decide),
   fun t => inb 128 _ 512 _ rfl (readS i a b c t).2 (by decide),
   fun t => inb 128 _ 640 _ rfl (readS i a b c t).2 (by decide),
   fun t => inb 128 _ 768 _ rfl (readS i a b c t).2 (by decide),
   fun t => inb 128 _ 896 _ rfl (readS i a b c t).2 (by decide),
   Scf.rem_ok _ _,
   fun t => (none2 i a b c t).elim,
   fun t => (none2 i a b c t).elim,
   fun t => (none2 i a b c t).elim,
   fun t => (none2 i a b c t).elim,
   fun t => (none2 i a b c t).elim,
   fun t => (none2 i a b c t).elim,
   fun t => (none2 i a b c t).elim,
   fun t => (none2 i a b c t).elim,
   fun t => (none2 i a b c t).elim,
   okB _ (lt_row i) a b c,
   Scf.rem_ok _ _⟩

/-- What the body assumes once it has read the table again. -/
theorem chk2 (d e f g h k : BitVec 32) : k0_chk2 i a a b b c c d e f g h k :=
  ⟨⟨fun t _ => (readB i a b c t).1,
   fun t _ => inb 512 _ 0 _ rfl (readB i a b c t).2 (by decide),
   fun t _ => inb 512 _ 128 _ rfl (readB i a b c t).2 (by decide),
   fun t _ => inb 512 _ 256 _ rfl (readB i a b c t).2 (by decide),
   fun t _ => inb 512 _ 384 _ rfl (readB i a b c t).2 (by decide),
   fun t _ => inb 512 _ 512 _ rfl (readB i a b c t).2 (by decide),
   fun t _ => inb 512 _ 640 _ rfl (readB i a b c t).2 (by decide),
   fun t _ => inb 512 _ 768 _ rfl (readB i a b c t).2 (by decide),
   fun t _ => inb 512 _ 896 _ rfl (readB i a b c t).2 (by decide),
   fun t _ => (readB i a b c t).1,
   fun t _ => inb 512 _ 0 _ rfl (readB i a b c t).2 (by decide),
   fun t _ => inb 512 _ 128 _ rfl (readB i a b c t).2 (by decide),
   fun t _ => inb 512 _ 256 _ rfl (readB i a b c t).2 (by decide),
   fun t _ => inb 512 _ 384 _ rfl (readB i a b c t).2 (by decide),
   fun t _ => inb 512 _ 512 _ rfl (readB i a b c t).2 (by decide),
   fun t _ => inb 512 _ 640 _ rfl (readB i a b c t).2 (by decide),
   fun t _ => inb 512 _ 768 _ rfl (readB i a b c t).2 (by decide),
   fun t _ => inb 512 _ 896 _ rfl (readB i a b c t).2 (by decide),
   fun t _ => (none4 i a b c t).elim,
   fun t _ => (none4 i a b c t).elim,
   fun t _ => (none4 i a b c t).elim,
   fun t _ => (none4 i a b c t).elim,
   fun t _ => (none4 i a b c t).elim,
   fun t _ => (none4 i a b c t).elim,
   fun t _ => (none4 i a b c t).elim,
   fun t _ => (none4 i a b c t).elim,
   fun t _ => (none4 i a b c t).elim,
   fun t _ => (none4 i a b c t).elim,
   fun t _ => (none4 i a b c t).elim,
   fun t _ => (none4 i a b c t).elim,
   fun t _ => (none4 i a b c t).elim,
   fun t _ => (none4 i a b c t).elim⟩,
   ⟨fun t _ => (none4 i a b c t).elim,
   fun t _ => (none4 i a b c t).elim,
   fun t _ => (none4 i a b c t).elim,
   fun t _ => (none4 i a b c t).elim⟩⟩

variable {F : FTy → Type} [FloatOps F]

theorem ok (m : (ℓ : Loc nD τ sig) → Buf (Elt F) ℓ) : Ok m := trivial

theorem hyps (m : (ℓ : Loc nD τ sig) → Buf (Elt F) ℓ) : Hyps m (ok m) :=
  Hyps.of (fun _ t => chk1 (grid0.coords t) _ _ _) (fun _ t => chk2 (grid0.coords t) _ _ _ _ _ _ _ _ _)

end Cert.AttnKernel.Hyp

end
-- ==== Proof.AttnReals.lean ====
/- The attention call over the reals: every read its loops make lies inside the arrays, for every content of the table
   of sequence starts, so the program's frame holds with no precondition. -/
module

public import proofs.«01_k».proof.Proof.AttnRange
public import proofs.«01_k».proof.Proof.Gen.AttnKernelIdeal.Frame.Runs

@[expose] public section

set_option maxRecDepth 16384

noncomputable section

namespace Cert.AttnKernelIdeal.Hyp

open Idealize.ShloMosaic Cert.AttnKernelIdeal Cert.AttnKernelIdeal.Gen Cert.AttnRange

/-- A block of `n` rows and 128 columns inside the keys' array. -/
theorem inb (n x c : Nat) (o : Fin 2 → Nat) (e : o = ![x, c]) (hx : x + n ≤ 14208) (hc : c + 128 ≤ 1024) :
    ∀ a : Fin 2, o a + ![n, 128] a ≤ ![14208, 1024] a := by
  subst e
  rw [Fin.forall_fin_two]
  exact ⟨hx, hc⟩

variable (i : grid0.Coords) (a b c : BitVec 32)

theorem lt_row : (i 0).val < 111 := (i 0).isLt

theorem readS (t : Fin (k0_t1_loop i a a b b c c).trips) :
    128 ∣ (offS (i 0).val a b c t).toNat ∧ (offS (i 0).val a b c t).toNat + 128 ≤ 14208 :=
  offS_spec _ (lt_row i) a b c t.val t.isLt

theorem readB (t : Fin (k0_t3_loop i a a b b c c).trips) :
    128 ∣ (offB (i 0).val a b c t).toNat ∧ (offB (i 0).val a b c t).toNat + 512 ≤ 14208 :=
  offB_spec _ (lt_row i) a b c t.val t.isLt

theorem none2 (t : Fin (k0_t2_loop i a a b b c c).trips) : False := Scf.rem_no_trip _ _ t

theorem none4 (t : Fin (k0_t4_loop i a a b b c c).trips) : False := Scf.rem_no_trip _ _ t

/-- What the body assumes once it has read the table. -/
theorem chk1 : k0_chk1 i a a b b c c :=
  ⟨okS _ (lt_row i) a b c,
   fun t => (readS i a b c t).1,
   fun t => inb 128 _ 0 _ rfl (readS i a b c t).2 (by decide),
   fun t => inb 128 _ 128 _ rfl (readS i a b c t).2 (by decide),
   fun t => inb 128 _ 256 _ rfl (readS i a b c t).2 (by decide),
   fun t => inb 128 _ 384 _ rfl (readS i a b c t).2 (by decide),
   fun t => inb 128 _ 512 _ rfl (readS i a b c t).2 (by decide),
   fun t => inb 128 _ 640 _ rfl (readS i a b c t).2 (by decide),
   fun t => inb 128 _ 768 _ rfl (readS i a b c t).2 (by decide),
   fun t => inb 128 _ 896 _ rfl (readS i a b c t).2 (by decide),
   Scf.rem_ok _ _,
   fun t => (none2 i a b c t).elim,
   fun t => (none2 i a b c t).elim,
   fun t => (none2 i a b c t).elim,
   fun t => (none2 i a b c t).elim,
   fun t => (none2 i a b c t).elim,
   fun t => (none2 i a b c t).elim,
   fun t => (none2 i a b c t).elim,
   fun t => (none2 i a b c t).elim,
   fun t => (none2 i a b c t).elim,
   okB _ (lt_row i) a b c,
   Scf.rem_ok _ _⟩

/-- What the body assumes once it has read the table again. -/
theorem chk2 (d e f g h k : BitVec 32) : k0_chk2 i a a b b c c d e f g h k :=
  ⟨⟨fun t _ => (readB i a b c t).1,
   fun t _ => inb 512 _ 0 _ rfl (readB i a b c t).2 (by decide),
   fun t _ => inb 512 _ 128 _ rfl (readB i a b c t).2 (by decide),
   fun t _ => inb 512 _ 256 _ rfl (readB i a b c t).2 (by decide),
   fun t _ => inb 512 _ 384 _ rfl (readB i a b c t).2 (by decide),
   fun t _ => inb 512 _ 512 _ rfl (readB i a b c t).2 (by decide),
   fun t _ => inb 512 _ 640 _ rfl (readB i a b c t).2 (by decide),
   fun t _ => inb 512 _ 768 _ rfl (readB i a b c t).2 (by decide),
   fun t _ => inb 512 _ 896 _ rfl (readB i a b c t).2 (by decide),
   fun t _ => (readB i a b c t).1,
   fun t _ => inb 512 _ 0 _ rfl (readB i a b c t).2 (by decide),
   fun t _ => inb 512 _ 128 _ rfl (readB i a b c t).2 (by decide),
   fun t _ => inb 512 _ 256 _ rfl (readB i a b c t).2 (by decide),
   fun t _ => inb 512 _ 384 _ rfl (readB i a b c t).2 (by decide),
   fun t _ => inb 512 _ 512 _ rfl (readB i a b c t).2 (by decide),
   fun t _ => inb 512 _ 640 _ rfl (readB i a b c t).2 (by decide),
   fun t _ => inb 512 _ 768 _ rfl (readB i a b c t).2 (by decide),
   fun t _ => inb 512 _ 896 _ rfl (readB i a b c t).2 (by decide),
   fun t _ => (none4 i a b c t).elim,
   fun t _ => (none4 i a b c t).elim,
   fun t _ => (none4 i a b c t).elim,
   fun t _ => (none4 i a b c t).elim,
   fun t _ => (none4 i a b c t).elim,
   fun t _ => (none4 i a b c t).elim,
   fun t _ => (none4 i a b c t).elim,
   fun t _ => (none4 i a b c t).elim,
   fun t _ => (none4 i a b c t).elim,
   fun t _ => (none4 i a b c t).elim,
   fun t _ => (none4 i a b c t).elim,
   fun t _ => (none4 i a b c t).elim,
   fun t _ => (none4 i a b c t).elim,
   fun t _ => (none4 i a b c t).elim⟩,
   ⟨fun t _ => (none4 i a b c t).elim,
   fun t _ => (none4 i a b c t).elim,
   fun t _ => (none4 i a b c t).elim,
   fun t _ => (none4 i a b c t).elim⟩⟩

variable {F : FTy → Type} [FloatOps F]

theorem ok (m : (ℓ : Loc nD τ sig) → Buf (Elt F) ℓ) : Ok m := trivial

theorem hyps (m : (ℓ : Loc nD τ sig) → Buf (Elt F) ℓ) : Hyps m (ok m) :=
  Hyps.of (fun _ t => chk1 (grid0.coords t) _ _ _) (fun _ t => chk2 (grid0.coords t) _ _ _ _ _ _ _ _ _)

end Cert.AttnKernelIdeal.Hyp

end
-- ==== Proof.Quant.lean ====
/- The row quantiser over the reals, at any number of rows and columns: a row's largest magnitude, its scale, its codes. -/
module

public import Idealize.ShloMosaic.Lib.Pipeline.ValueKit

@[expose] public section

set_option maxRecDepth 16384

noncomputable section

open Idealize.ShloMosaic Idealize.ShloMosaic.TcCoe Idealize.SL.Sem

namespace Cert.Quant

abbrev Mat (M N : Nat) : Shape := ⟨2, ![M, N]⟩
abbrev Col (M : Nat) : Shape := ⟨1, ![M]⟩

/-- A column of a matrix with one column is the vector it was reshaped from. -/
theorem col_idx {M : Nat} (h : (Col M).numel = (Mat M 1).numel) (r : Fin M) (z : Fin 1) :
    Shape.reshapeEquiv h.symm (ix2 r z) = ix1 r :=
  Shape.reshapeEquiv_eq_of_rowMajor _ (by
    rw [Shape.rowMajor_val_two, Shape.rowMajor_val_one]
    show r.val = r.val * 1 + z.val
    omega)

/-- The largest magnitude of each row, as a column. -/
def amax {M N : Nat} (hr : (Mat M N).Reduces [1] (Col M)) (hc : (Col M).ShapeCasts (Mat M 1)) (n : FVec Ideal (Mat M N) .f32) :
    FVec Ideal (Mat M 1) .f32 :=
  shapeCast (Mat M 1) (multiReduction .maximumf [1] (Col M) (absf n) 0xFF800000#32 hr (.inl rfl) rfl) hc

/-- The largest magnitude of one row. -/
def rowMax {N : Nat} (v : Fin N → EReal) : EReal :=
  Finset.fold max (Ideal.ofBits .f32 0xFF800000#32) (fun k => FloatOps.absf (F := Ideal) (φ := .f32) (v k)) Finset.univ

theorem amax_apply {M N : Nat} (hr : (Mat M N).Reduces [1] (Col M)) (hc : (Col M).ShapeCasts (Mat M 1)) (n : FVec Ideal (Mat M N) .f32)
    (r : Fin M) : amax hr hc n (ix2 r 0) = rowMax fun k => n (ix2 r k) := by
  have e := col_idx (M := M) hc.symm r 0
  pointwise [amax, rowMax]
  rw [e]
  rfl

/-- The sum of each row, as a column. -/
def rsum {M N : Nat} (hr : (Mat M N).Reduces [1] (Col M)) (hc : (Col M).ShapeCasts (Mat M 1)) (n : FVec Ideal (Mat M N) .f32) :
    FVec Ideal (Mat M 1) .f32 :=
  shapeCast (Mat M 1) (multiReduction .add [1] (Col M) n 0x00000000#32 hr (.inl rfl) rfl) hc

theorem rsum_apply {M N : Nat} (hr : (Mat M N).Reduces [1] (Col M)) (hc : (Col M).ShapeCasts (Mat M 1)) (n : FVec Ideal (Mat M N) .f32)
    (r : Fin M) : rsum hr hc n (ix2 r 0) = ∑ k : Fin N, n (ix2 r k) := by
  have e := col_idx (M := M) hc.symm r 0
  pointwise [rsum]
  rw [e]
  rfl

/-- The scale of a row whose largest magnitude is `a`. -/
def scale {M N : Nat} (a : FVec Ideal (Mat M N) .f32) : FVec Ideal (Mat M N) .f32 :=
  select (cmpf .oeq a (broadcast (Mat M N) (Scalar.ofBits .f32 0x00000000#32))) (broadcast (Mat M N) (Scalar.ofBits .f32 0x3F800000#32))
    (divf a (broadcast (Mat M N) (Scalar.ofBits .f32 0x43E00000#32)))

/-- The scale of one magnitude. -/
def scale1 (a : EReal) : EReal := if a = 0 then 1 else Ideal.div a (Ideal.ofBits .f32 0x43E00000#32)

theorem scale_apply {M N : Nat} (a : FVec Ideal (Mat M N) .f32) (r : Fin M) (j : Fin N) : scale a (ix2 r j) = scale1 (a (ix2 r j)) := by
  pointwise [scale, scale1]

/-- A column spread along the rows. -/
theorem bc_col {M N : Nat} {α : Type} (hb : (Mat M 1).Broadcasts (Mat M N)) (s : (Mat M 1).Idx → α) (r : Fin M) (j : Fin N) :
    broadcastTo (Mat M N) s hb (ix2 r j) = s (ix2 r 0) := by
  refine congrArg s (funext fun a => ?_)
  match a with
  | ⟨0, _⟩ =>
    refine Fin.ext ?_
    by_cases h : M = 1
    · subst h; have := r.isLt; simp
    · simp [h]
  | ⟨1, _⟩ => refine Fin.ext ?_; simp

/-- The codes of rows at their scales. -/
def code {M N : Nat} (hb : (Mat M 1).Broadcasts (Mat M N)) (n : FVec Ideal (Mat M N) .f32) (s : FVec Ideal (Mat M 1) .f32) :
    FVec Ideal (Mat M N) .fp8e4m3 :=
  truncf .fp8e4m3 (minimumf (broadcast (Mat M N) (Scalar.ofBits .f32 0x43E00000#32))
    (maximumf (broadcast (Mat M N) (Scalar.ofBits .f32 0xC3E00000#32)) (divf n (broadcastTo (Mat M N) s hb)))) (by decide)

/-- The code of one number at a scale. -/
def code1 (v s : EReal) : EReal :=
  min (Ideal.ofBits .f32 0x43E00000#32) (max (Ideal.ofBits .f32 0xC3E00000#32) (Ideal.div v s))

theorem code_apply {M N : Nat} (hb : (Mat M 1).Broadcasts (Mat M N)) (n : FVec Ideal (Mat M N) .f32) (s : FVec Ideal (Mat M 1) .f32)
    (r : Fin M) (j : Fin N) : code hb n s (ix2 r j) = code1 (n (ix2 r j)) (s (ix2 r 0)) := by
  have e := bc_col hb s r j
  unfold code
  generalize broadcastTo (Mat M N) s hb = sb at e ⊢
  rw [← e]
  pointwise [code1]

end Cert.Quant

end
-- ==== Proof.QkvShape.lean ====
/- The attention input's payloads, row by row and head by head. -/
module

public import proofs.«01_k».proof.Proof.Gen.QkvKernelIdeal.Skeleton
public import proofs.«01_k».proof.Proof.Gen.QkvReferenceIdeal.Skeleton
public import proofs.«01_k».proof.Proof.Quant

@[expose] public section

set_option maxRecDepth 16384

noncomputable section

open Idealize.ShloMosaic Idealize.ShloMosaic.TcCoe Idealize.SL.Sem

namespace Cert.QkvRows

open Cert.QkvKernelIdeal (S384x4608 S384x1 S384x64 S384x128 S384x256 S4608x256 S1x256 S1x128 S1x4608)
open Cert.QkvReferenceIdeal (S14208x4608 S14208x1 S14208x64 S14208x4096 S14208x2048 S14208x1024 S14208x16 S4608x4096 S1x4096 S8x1
  S14208x16x128 S14208x8x128 S14208x16x1)

/-! ## Codes and scales at any shape -/

/-- The codes of an array at an array of scales. -/
def codeS {s : Shape} (n sb : FVec Ideal s .f32) : FVec Ideal s .fp8e4m3 :=
  truncf .fp8e4m3 (minimumf (broadcast s (Scalar.ofBits .f32 0x43E00000#32))
    (maximumf (broadcast s (Scalar.ofBits .f32 0xC3E00000#32)) (divf n sb))) (by decide)

theorem codeS_apply {s : Shape} (n sb : FVec Ideal s .f32) (i : s.Idx) : codeS n sb i = Quant.code1 (n i) (sb i) := by
  pointwise [codeS, Quant.code1]

/-- The scales of an array of magnitudes. -/
def scaleS {s : Shape} (a : FVec Ideal s .f32) : FVec Ideal s .f32 :=
  select (cmpf .oeq a (broadcast s (Scalar.ofBits .f32 0x00000000#32))) (broadcast s (Scalar.ofBits .f32 0x3F800000#32))
    (divf a (broadcast s (Scalar.ofBits .f32 0x43E00000#32)))

theorem scaleS_apply {s : Shape} (a : FVec Ideal s .f32) (i : s.Idx) : scaleS a i = Quant.scale1 (a i) := by
  pointwise [scaleS, Quant.scale1]

abbrev Ten (M H N : Nat) : Shape := ⟨3, ![M, H, N]⟩

/-- The largest magnitude of each head. -/
def amax3 {M H N : Nat} (hr : (Ten M H N).Reduces [2] (Quant.Mat M H)) (hc : (Quant.Mat M H).ShapeCasts (Ten M H 1))
    (n : FVec Ideal (Ten M H N) .f32) : FVec Ideal (Ten M H 1) .f32 :=
  shapeCast (Ten M H 1) (multiReduction .maximumf [2] (Quant.Mat M H) (absf n) 0xFF800000#32 hr (.inl rfl) rfl) hc

/-- A head of a tensor with one column per head is the entry of the matrix it was reshaped from. -/
theorem head_idx {M H : Nat} (h : (Quant.Mat M H).numel = (Ten M H 1).numel) (r : Fin M) (g : Fin H) (z : Fin 1) :
    Shape.reshapeEquiv h.symm (ix3 r g z) = ix2 r g :=
  Shape.reshapeEquiv_eq_of_rowMajor _ (by
    rw [Shape.rowMajor_val_two, Shape.rowMajor_val_three]
    show r.val * H + g.val = (r.val * H + g.val) * 1 + z.val
    omega)

theorem amax3_apply {M H N : Nat} (hr : (Ten M H N).Reduces [2] (Quant.Mat M H)) (hc : (Quant.Mat M H).ShapeCasts (Ten M H 1))
    (n : FVec Ideal (Ten M H N) .f32) (r : Fin M) (g : Fin H) :
    amax3 hr hc n (ix3 r g 0) = Quant.rowMax fun k => n (ix3 r g k) := by
  have e := head_idx hc.symm r g 0
  pointwise [amax3, Quant.rowMax]
  rw [e]
  rfl

/-- A head's number spread over the head's columns. -/
theorem bc_head {M H N : Nat} {α : Type} (hb : (Ten M H 1).Broadcasts (Ten M H N)) (s : (Ten M H 1).Idx → α) (r : Fin M) (g : Fin H) (l : Fin N) :
    broadcastTo (Ten M H N) s hb (ix3 r g l) = s (ix3 r g 0) := by
  refine congrArg s (funext fun a => ?_)
  match a with
  | ⟨0, _⟩ =>
    refine Fin.ext ?_
    by_cases h : M = 1
    · subst h; have := r.isLt; simp
    · simp [h]
  | ⟨1, _⟩ =>
    refine Fin.ext ?_
    by_cases h : H = 1
    · subst h; have := g.isLt; simp
    · simp [h]
  | ⟨2, _⟩ => refine Fin.ext ?_; simp

/-- The heads laid side by side: column `g * N + l` is column `l` of head `g`. -/
theorem flat {M H N P : Nat} {α : Type} (hP : P = H * N) (hc : (Ten M H N).ShapeCasts (Quant.Mat M P)) (v : (Ten M H N).Idx → α)
    (r : Fin M) (g : Fin H) (l : Fin N) (j : Fin P) (hj : j.val = g.val * N + l.val) :
    shapeCast (Quant.Mat M P) v hc (ix2 r j) = v (ix3 r g l) := by
  refine congrArg v (Shape.reshapeEquiv_eq_of_rowMajor _ ?_)
  rw [Shape.rowMajor_val_two, Shape.rowMajor_val_three]
  show (r.val * H + g.val) * N + l.val = r.val * P + j.val
  rw [hj, hP, Nat.add_mul, Nat.mul_assoc]
  omega

end Cert.QkvRows

end
-- ==== Proof.QkvRope.lean ====
/- The attention input's payloads, row by row and head by head. -/
module

public import proofs.«01_k».proof.Proof.Gen.QkvKernelIdeal.Skeleton
public import proofs.«01_k».proof.Proof.Gen.QkvReferenceIdeal.Skeleton
public import proofs.«01_k».proof.Proof.Quant

@[expose] public section

set_option maxRecDepth 16384

noncomputable section

open Idealize.ShloMosaic Idealize.ShloMosaic.TcCoe Idealize.SL.Sem

namespace Cert.QkvRows

open Cert.QkvKernelIdeal (S384x4608 S384x1 S384x64 S384x128 S384x256 S4608x256 S1x256 S1x128 S1x4608)
open Cert.QkvReferenceIdeal (S14208x4608 S14208x1 S14208x64 S14208x4096 S14208x2048 S14208x1024 S14208x16 S4608x4096 S1x4096 S8x1
  S14208x16x128 S14208x8x128 S14208x16x1)

/-! ## One head -/

/-- Half a turn of the rotary embedding over one head. -/
def rope1 (T : Fin 128 → EReal) (c s : Fin 64 → EReal) (l : Fin 128) : EReal :=
  if h : l.val < 64 then T l * c ⟨l.val, h⟩ - T ⟨l.val + 64, by omega⟩ * s ⟨l.val, h⟩
  else T l * c ⟨l.val - 64, by omega⟩ + T ⟨l.val - 64, by omega⟩ * s ⟨l.val - 64, by omega⟩

/-- The kernel's rotary embedding of one head's columns. -/
abbrev rot (t cc ss : FVec Ideal S384x128 .f32) : FVec Ideal S384x128 .f32 :=
  addf (mulf t cc) (mulf (dynamicRotate 1 64#32 none t QkvKernelIdeal.Gen.rotates_S384x128_d1) ss)

theorem rot_row (t : FVec Ideal S384x128 .f32) (cos sin : FVec Ideal S384x64 .f32) (T : Fin 128 → EReal) (r : Fin 384)
    (ht : ∀ l : Fin 128, t (ix2 r l) = T l) (l : Fin 128) :
    rot t (QkvKernelIdeal.Gen.k0_pay6 (F := Ideal) cos) (QkvKernelIdeal.Gen.k0_pay7 (F := Ideal) sin) (ix2 r l)
      = rope1 T (fun k => cos (ix2 r k)) (fun k => sin (ix2 r k)) l := by
  pointwise [rot, QkvKernelIdeal.Gen.k0_pay6, QkvKernelIdeal.Gen.k0_pay7]
  unfold rope1
  simp only [ht]
  by_cases h : l.val < 64
  · simp only [h, dif_pos]
    have e : (⟨(l.val + 128 - 64) % 128, by omega⟩ : Fin 128) = ⟨l.val + 64, by omega⟩ := Fin.ext (by show (l.val + 128 - 64) % 128 = l.val + 64; omega)
    rw [e, zero_sub, mul_neg, sub_eq_add_neg]
  · simp only [h, dif_neg, not_false_eq_true]
    have e : (⟨(l.val + 128 - 64) % 128, by omega⟩ : Fin 128) = ⟨l.val - 64, by omega⟩ := Fin.ext (by show (l.val + 128 - 64) % 128 = l.val - 64; omega)
    rw [e]

/-- The columns of one head of the projected rows. -/
abbrev headOf (y : FVec Ideal S14208x4096 .f32) (R : Fin 14208) (o : Nat) (ho : o + 128 ≤ 4096) (l : Fin 128) : EReal :=
  y (ix2 R ⟨o + l.val, by omega⟩)

theorem ref_q (v39 v40 : FVec Ideal S14208x4096 .f32) (cos sin : FVec Ideal S14208x64 .f32) (R : Fin 14208) (h : Fin 16) (l : Fin 128) :
    QkvReferenceIdeal.Gen.k0_pay8 (F := Ideal) v39 v40 cos sin (ix3 R h l)
      = rope1 (headOf (QkvReferenceIdeal.Gen.k0_pay6 (F := Ideal) v39 v40) R (h.val * 128) (by omega))
          (fun k => cos (ix2 R k)) (fun k => sin (ix2 R k)) l * Ideal.ofBits .f32 0x3DAAAAAB#32 := by
  pointwise [QkvReferenceIdeal.Gen.k0_pay8]
  unfold rope1 headOf
  by_cases hl : l.val < 64
  · simp only [hl, dif_pos, Nat.add_comm 64]
  · have e : 64 + (l.val - 64) = l.val := by omega
    simp only [hl, dif_neg, not_false_eq_true, e]

theorem ref_k (v39 v40 : FVec Ideal S14208x4096 .f32) (cos sin : FVec Ideal S14208x64 .f32) (R : Fin 14208) (h : Fin 8) (l : Fin 128) :
    QkvReferenceIdeal.Gen.k0_pay9 (F := Ideal) v39 v40 cos sin (ix3 R h l)
      = rope1 (headOf (QkvReferenceIdeal.Gen.k0_pay6 (F := Ideal) v39 v40) R (2048 + h.val * 128) (by omega))
          (fun k => cos (ix2 R k)) (fun k => sin (ix2 R k)) l := by
  pointwise [QkvReferenceIdeal.Gen.k0_pay9]
  unfold rope1 headOf
  by_cases hl : l.val < 64
  · simp only [hl, dif_pos, Nat.add_comm 64, Nat.add_assoc]
  · have e : 64 + (l.val - 64) = l.val := by omega
    simp only [hl, dif_neg, not_false_eq_true, e, Nat.add_assoc]

theorem ref_v (v39 v40 : FVec Ideal S14208x4096 .f32) (R : Fin 14208) (h : Fin 8) (l : Fin 128) :
    QkvReferenceIdeal.Gen.k0_pay7 (F := Ideal) v39 v40 (ix3 R h l)
      = headOf (QkvReferenceIdeal.Gen.k0_pay6 (F := Ideal) v39 v40) R (3072 + h.val * 128) (by omega) l := by
  pointwise [QkvReferenceIdeal.Gen.k0_pay7]
  unfold headOf
  simp only [Nat.add_assoc]

end Cert.QkvRows

end
-- ==== Proof.QkvCode.lean ====
/- The attention input's payloads, row by row and head by head. -/
module

public import proofs.«01_k».proof.Proof.Gen.QkvKernelIdeal.Skeleton
public import proofs.«01_k».proof.Proof.Gen.QkvReferenceIdeal.Skeleton
public import proofs.«01_k».proof.Proof.Quant
public import proofs.«01_k».proof.Proof.QkvShape

@[expose] public section

set_option maxRecDepth 16384

noncomputable section

open Idealize.ShloMosaic Idealize.ShloMosaic.TcCoe Idealize.SL.Sem

namespace Cert.QkvRows

open Cert.QkvKernelIdeal (S384x4608 S384x1 S384x64 S384x128 S384x256 S4608x256 S1x256 S1x128 S1x4608)
open Cert.QkvReferenceIdeal (S14208x4608 S14208x1 S14208x64 S14208x4096 S14208x2048 S14208x1024 S14208x16 S4608x4096 S1x4096 S8x1
  S14208x16x128 S14208x8x128 S14208x16x1)

/-- The reference's scale of one query head. -/
theorem ref_qs (v39 v40 : FVec Ideal S14208x4096 .f32) (cos sin : FVec Ideal S14208x64 .f32) (R : Fin 14208) (h : Fin 16) :
    QkvReferenceIdeal.Gen.k0_pay10 (F := Ideal) v39 v40 cos sin (ix3 R h 0)
      = Quant.scale1 (Quant.rowMax fun l => QkvReferenceIdeal.Gen.k0_pay8 (F := Ideal) v39 v40 cos sin (ix3 R h l)) := by
  have e : QkvReferenceIdeal.Gen.k0_pay10 (F := Ideal) v39 v40 cos sin
    = scaleS (amax3 QkvReferenceIdeal.Gen.reduces_S14208x16x128_S14208x16 QkvReferenceIdeal.Gen.shapeCasts_S14208x16_S14208x16x1
        (QkvReferenceIdeal.Gen.k0_pay8 (F := Ideal) v39 v40 cos sin)) := rfl
  rw [e, scaleS_apply, amax3_apply]

/-- … as the array of scales has it. -/
theorem ref_qs2 (s : FVec Ideal S14208x16x1 .f32) (R : Fin 14208) (h : Fin 16) :
    QkvReferenceIdeal.Gen.k0_pay13 (F := Ideal) s (ix2 R h) = s (ix3 R h 0) := by
  pointwise [QkvReferenceIdeal.Gen.k0_pay13]

/-- A query code of the reference. -/
theorem ref_qc (q : FVec Ideal S14208x16x128 .f32) (v39 v40 : FVec Ideal S14208x4096 .f32) (cos sin : FVec Ideal S14208x64 .f32)
    (R : Fin 14208) (h : Fin 16) (l : Fin 128) (j : Fin 2048) (hj : j.val = h.val * 128 + l.val) :
    QkvReferenceIdeal.Gen.k0_pay12 (F := Ideal) q (QkvReferenceIdeal.Gen.k0_pay11 (F := Ideal) v39 v40 cos sin) (ix2 R j)
      = Quant.code1 (q (ix3 R h l)) (QkvReferenceIdeal.Gen.k0_pay10 (F := Ideal) v39 v40 cos sin (ix3 R h 0)) := by
  have e : QkvReferenceIdeal.Gen.k0_pay12 (F := Ideal) q (QkvReferenceIdeal.Gen.k0_pay11 (F := Ideal) v39 v40 cos sin)
    = shapeCast S14208x2048 (codeS q (broadcastTo S14208x16x128 (QkvReferenceIdeal.Gen.k0_pay10 (F := Ideal) v39 v40 cos sin)
        QkvReferenceIdeal.Gen.broadcasts_S14208x16x1_S14208x16x128)) QkvReferenceIdeal.Gen.shapeCasts_S14208x16x128_S14208x2048 := rfl
  rw [e, flat (H := 16) (N := 128) rfl _ _ R h l j hj, codeS_apply, bc_head]

/-- A key code of the reference. -/
theorem ref_kc (k : FVec Ideal S14208x8x128 .f32) (ks : FVec Ideal S8x1 .f32)
    (R : Fin 14208) (h : Fin 8) (l : Fin 128) (j : Fin 1024) (hj : j.val = h.val * 128 + l.val) :
    QkvReferenceIdeal.Gen.k0_pay14 (F := Ideal) k ks (ix2 R j) = Quant.code1 (k (ix3 R h l)) (ks (ix2 h 0)) := by
  have hb : h.val * 128 + l.val < 1024 := by clear hj; omega
  obtain rfl : j = ⟨h.val * 128 + l.val, hb⟩ := Fin.ext hj
  pointwise [QkvReferenceIdeal.Gen.k0_pay14]
  unfold Quant.code1
  blk_ext

/-- A value code of the reference. -/
theorem ref_vc (k : FVec Ideal S14208x8x128 .f32) (ks : FVec Ideal S8x1 .f32)
    (R : Fin 14208) (h : Fin 8) (l : Fin 128) (j : Fin 1024) (hj : j.val = h.val * 128 + l.val) :
    QkvReferenceIdeal.Gen.k0_pay15 (F := Ideal) k ks (ix2 R j) = Quant.code1 (k (ix3 R h l)) (ks (ix2 h 0)) := by
  have e : QkvReferenceIdeal.Gen.k0_pay15 (F := Ideal) k ks = QkvReferenceIdeal.Gen.k0_pay14 (F := Ideal) k ks := rfl
  rw [e, ref_kc k ks R h l j hj]

end Cert.QkvRows

end
-- ==== Proof.QkvProj.lean ====
/- The attention input's payloads, row by row and head by head. -/
module

public import proofs.«01_k».proof.Proof.Gen.QkvKernelIdeal.Skeleton
public import proofs.«01_k».proof.Proof.Gen.QkvReferenceIdeal.Skeleton
public import proofs.«01_k».proof.Proof.Quant

@[expose] public section

set_option maxRecDepth 16384

noncomputable section

open Idealize.ShloMosaic Idealize.ShloMosaic.TcCoe Idealize.SL.Sem

namespace Cert.QkvRows

open Cert.QkvKernelIdeal (S384x4608 S384x1 S384x64 S384x128 S384x256 S4608x256 S1x256 S1x128 S1x4608)
open Cert.QkvReferenceIdeal (S14208x4608 S14208x1 S14208x64 S14208x4096 S14208x2048 S14208x1024 S14208x16 S4608x4096 S1x4096 S8x1
  S14208x16x128 S14208x8x128 S14208x16x1)

/-! ## The projected rows -/

/-- The reference's product of the codes with the weights, at the rows' scales. -/
def lin (c : FVec Ideal S14208x4608 .fp8e4m3) (s : FVec Ideal S14208x1 .f32) (W : FVec Ideal S4608x4096 .fp8e4m3) : FVec Ideal S14208x4096 .f32 :=
  mulf (matmul QkvReferenceIdeal.dot_S14208x4608_S4608x4096_S14208x4096_1_0_0_1_n_n none c W (constant S14208x4096 .f32 0x00000000#32))
    (broadcastTo S14208x4096 s QkvReferenceIdeal.Gen.broadcasts_S14208x1_S14208x4096)

theorem lin_eq (x : FVec Ideal S14208x4608 .bf16) (g : FVec Ideal S1x4608 .f32)
    (W : FVec Ideal S4608x4096 .fp8e4m3) : QkvReferenceIdeal.Gen.k0_pay4 (F := Ideal) x g W
    = lin (QkvReferenceIdeal.Gen.k0_pay3 (F := Ideal) x g) (QkvReferenceIdeal.Gen.k0_pay2 (F := Ideal) x g) W := rfl

theorem lin_row (C : FVec Ideal S14208x4608 .fp8e4m3) (S : FVec Ideal S14208x1 .f32)
    (W : FVec Ideal S4608x4096 .fp8e4m3) (R : Fin 14208) (j : Fin 4096) :
    lin C S W (ix2 R j) = (∑ k : Fin 4608, C (ix2 R k) * W (ix2 k j)) * S (ix2 R 0) := by
  pointwise [lin]

theorem k_row (s : FVec Ideal S384x1 .f32) (c1 : FVec Ideal S384x4608 .fp8e4m3) (wt : FVec Ideal S4608x256 .fp8e4m3)
    (wst : FVec Ideal S1x256 .f32) (r : Fin 384) (l : Fin 256) :
    QkvKernelIdeal.Gen.k0_pay16 (F := Ideal) s c1 wt wst (ix2 r l)
    = (∑ k : Fin 4608, c1 (ix2 r k) * wt (ix2 k l)) * s (ix2 r 0) * wst (ix2 0 l) := by
  pointwise [QkvKernelIdeal.Gen.k0_pay16]

theorem ref_row (u : FVec Ideal S14208x4096 .f32) (ws : FVec Ideal S1x4096 .f32) (R : Fin 14208) (j : Fin 4096) :
    QkvReferenceIdeal.Gen.k0_pay6 (F := Ideal) u (QkvReferenceIdeal.Gen.k0_pay5 (F := Ideal) ws) (ix2 R j) = u (ix2 R j) * ws (ix2 0 j) := by
  pointwise [QkvReferenceIdeal.Gen.k0_pay5, QkvReferenceIdeal.Gen.k0_pay6]

/-- A row of the projection's tile is the reference's row at the tile's columns. -/
theorem y_row (s : FVec Ideal S384x1 .f32) (c1 : FVec Ideal S384x4608 .fp8e4m3) (wt : FVec Ideal S4608x256 .fp8e4m3)
    (wst : FVec Ideal S1x256 .f32) (x : FVec Ideal S14208x4608 .bf16) (g : FVec Ideal S1x4608 .f32)
    (W : FVec Ideal S4608x4096 .fp8e4m3) (ws : FVec Ideal S1x4096 .f32) (r : Fin 384) (R : Fin 14208)
    (hs : s (ix2 r 0) = QkvReferenceIdeal.Gen.k0_pay2 (F := Ideal) x g (ix2 R 0))
    (hc : ∀ k : Fin 4608, c1 (ix2 r k) = QkvReferenceIdeal.Gen.k0_pay3 (F := Ideal) x g (ix2 R k))
    (l : Fin 256) (j : Fin 4096) (hw : ∀ k : Fin 4608, wt (ix2 k l) = W (ix2 k j)) (hws : wst (ix2 0 l) = ws (ix2 0 j)) :
    QkvKernelIdeal.Gen.k0_pay16 (F := Ideal) s c1 wt wst (ix2 r l)
      = QkvReferenceIdeal.Gen.k0_pay6 (F := Ideal) (QkvReferenceIdeal.Gen.k0_pay4 (F := Ideal) x g W)
          (QkvReferenceIdeal.Gen.k0_pay5 (F := Ideal) ws) (ix2 R j) := by
  have e : (∑ k : Fin 4608, c1 (ix2 r k) * wt (ix2 k l))
      = ∑ k : Fin 4608, QkvReferenceIdeal.Gen.k0_pay3 (F := Ideal) x g (ix2 R k) * W (ix2 k j) :=
    Finset.sum_congr rfl fun k _ => by rw [hc k, hw k]
  rw [k_row, ref_row, lin_eq, lin_row, hs, hws, e]

theorem n_row (x : FVec Ideal S384x4608 .bf16) (g : FVec Ideal S1x4608 .f32) (X : FVec Ideal S14208x4608 .bf16)
    (r : Fin 384) (R : Fin 14208) (hx : ∀ k : Fin 4608, x (ix2 r k) = X (ix2 R k)) (j : Fin 4608) :
    QkvKernelIdeal.Gen.k0_pay3 (F := Ideal) x g (ix2 r j) = QkvReferenceIdeal.Gen.k0_pay1 (F := Ideal) X g (ix2 R j) := by
  pointwise [QkvKernelIdeal.Gen.k0_pay3, QkvReferenceIdeal.Gen.k0_pay1]
  simp only [hx]

theorem s_row (x : FVec Ideal S384x4608 .bf16) (g : FVec Ideal S1x4608 .f32) (X : FVec Ideal S14208x4608 .bf16)
    (r : Fin 384) (R : Fin 14208) (hx : ∀ k : Fin 4608, x (ix2 r k) = X (ix2 R k)) :
    QkvKernelIdeal.Gen.k0_pay4 (F := Ideal) x g (ix2 r 0) = QkvReferenceIdeal.Gen.k0_pay2 (F := Ideal) X g (ix2 R 0) := by
  have e := n_row x g X r R hx
  have e1 : QkvKernelIdeal.Gen.k0_pay4 (F := Ideal) x g
    = Quant.scale (Quant.amax QkvKernelIdeal.Gen.reduces_S384x4608_S384 QkvKernelIdeal.Gen.shapeCasts_S384_S384x1
        (QkvKernelIdeal.Gen.k0_pay3 (F := Ideal) x g)) := rfl
  have e2 : QkvReferenceIdeal.Gen.k0_pay2 (F := Ideal) X g
    = Quant.scale (Quant.amax QkvReferenceIdeal.Gen.reduces_S14208x4608_S14208 QkvReferenceIdeal.Gen.shapeCasts_S14208_S14208x1
        (QkvReferenceIdeal.Gen.k0_pay1 (F := Ideal) X g)) := rfl
  rw [e1, e2, Quant.scale_apply, Quant.scale_apply, Quant.amax_apply, Quant.amax_apply]
  exact congrArg (fun v => Quant.scale1 (Quant.rowMax v)) (funext e)

theorem c_row (x : FVec Ideal S384x4608 .bf16) (g : FVec Ideal S1x4608 .f32) (X : FVec Ideal S14208x4608 .bf16)
    (r : Fin 384) (R : Fin 14208) (hx : ∀ k : Fin 4608, x (ix2 r k) = X (ix2 R k)) (j : Fin 4608) :
    QkvKernelIdeal.Gen.k0_pay5 (F := Ideal) x g (ix2 r j) = QkvReferenceIdeal.Gen.k0_pay3 (F := Ideal) X g (ix2 R j) := by
  have e := n_row x g X r R hx j
  have e' := s_row x g X r R hx
  have e1 : QkvKernelIdeal.Gen.k0_pay5 (F := Ideal) x g
    = Quant.code QkvKernelIdeal.Gen.broadcasts_S384x1_S384x4608
        (QkvKernelIdeal.Gen.k0_pay3 (F := Ideal) x g) (QkvKernelIdeal.Gen.k0_pay4 (F := Ideal) x g) := rfl
  have e2 : QkvReferenceIdeal.Gen.k0_pay3 (F := Ideal) X g
    = Quant.code QkvReferenceIdeal.Gen.broadcasts_S14208x1_S14208x4608
        (QkvReferenceIdeal.Gen.k0_pay1 (F := Ideal) X g) (QkvReferenceIdeal.Gen.k0_pay2 (F := Ideal) X g) := rfl
  rw [e1, e2, Quant.code_apply, Quant.code_apply, e, e']

end Cert.QkvRows

end
-- ==== Proof.QkvHead.lean ====
/- The attention input's payloads, row by row and head by head. -/
module

public import proofs.«01_k».proof.Proof.Gen.QkvKernelIdeal.Skeleton
public import proofs.«01_k».proof.Proof.Gen.QkvReferenceIdeal.Skeleton
public import proofs.«01_k».proof.Proof.Quant
public import proofs.«01_k».proof.Proof.QkvRope
public import proofs.«01_k».proof.Proof.QkvShape

@[expose] public section

set_option maxRecDepth 16384

noncomputable section

open Idealize.ShloMosaic Idealize.ShloMosaic.TcCoe Idealize.SL.Sem

namespace Cert.QkvRows

open Cert.QkvKernelIdeal (S384x4608 S384x1 S384x64 S384x128 S384x256 S4608x256 S1x256 S1x128 S1x4608)
open Cert.QkvReferenceIdeal (S14208x4608 S14208x1 S14208x64 S14208x4096 S14208x2048 S14208x1024 S14208x16 S4608x4096 S1x4096 S8x1
  S14208x16x128 S14208x8x128 S14208x16x1)

/-! ## The kernel's heads -/

/-- The 128 columns of a pair of heads' columns that begin at `o`. -/
abbrev half (A : FVec Ideal S384x256 .f32) (o : Nat) (h : S384x256.Slices ![0, o] S384x128) : FVec Ideal S384x128 .f32 :=
  extractStridedSlice S384x128 ![0, o] A h

theorem half_row (A : FVec Ideal S384x256 .f32) (o : Nat) (h : S384x256.Slices ![0, o] S384x128) (ho : o + 128 ≤ 256) (r : Fin 384) (l : Fin 128) :
    half A o h (ix2 r l) = A (ix2 r ⟨o + l.val, by omega⟩) := by
  pointwise [half]

/-- One query head, scaled. -/
abbrev qh (t cc ss : FVec Ideal S384x128 .f32) : FVec Ideal S384x128 .f32 :=
  mulf (rot t cc ss) (broadcast S384x128 (Scalar.ofBits .f32 0x3DAAAAAB#32))

/-- Its scales. -/
abbrev qsc (q : FVec Ideal S384x128 .f32) : FVec Ideal S384x1 .f32 :=
  Quant.scale (Quant.amax QkvKernelIdeal.Gen.reduces_S384x128_S384 QkvKernelIdeal.Gen.shapeCasts_S384_S384x1 q)

/-- Its codes. -/
abbrev qco (q : FVec Ideal S384x128 .f32) : FVec Ideal S384x128 .fp8e4m3 :=
  Quant.code QkvKernelIdeal.Gen.broadcasts_S384x1_S384x128 q (qsc q)

/-- The codes of one key or value head at the row of its scales. -/
abbrev kco (t : FVec Ideal S384x128 .f32) (ks : FVec Ideal S1x128 .f32) : FVec Ideal S384x128 .fp8e4m3 :=
  codeS t (broadcastTo S384x128 (shapeCast S1x128 ks QkvKernelIdeal.Gen.shapeCasts_S1x128_S1x128) QkvKernelIdeal.Gen.broadcasts_S1x128_S384x128)

theorem kco_row (t : FVec Ideal S384x128 .f32) (ks : FVec Ideal S1x128 .f32) (r : Fin 384) (l : Fin 128) :
    kco t ks (ix2 r l) = Quant.code1 (t (ix2 r l)) (ks (ix2 0 l)) := by
  rw [kco, codeS_apply]
  refine congrArg (Quant.code1 _) ?_
  pointwise []

theorem qh_row (t : FVec Ideal S384x128 .f32) (cos sin : FVec Ideal S384x64 .f32) (T : Fin 128 → EReal) (r : Fin 384)
    (ht : ∀ l : Fin 128, t (ix2 r l) = T l) (l : Fin 128) :
    qh t (QkvKernelIdeal.Gen.k0_pay6 (F := Ideal) cos) (QkvKernelIdeal.Gen.k0_pay7 (F := Ideal) sin) (ix2 r l)
      = rope1 T (fun k => cos (ix2 r k)) (fun k => sin (ix2 r k)) l * Ideal.ofBits .f32 0x3DAAAAAB#32 :=
  congrArg (· * Ideal.ofBits .f32 0x3DAAAAAB#32) (rot_row t cos sin T r ht l)

theorem qsc_row (q : FVec Ideal S384x128 .f32) (r : Fin 384) : qsc q (ix2 r 0) = Quant.scale1 (Quant.rowMax fun l => q (ix2 r l)) := by
  rw [qsc, Quant.scale_apply, Quant.amax_apply]

theorem qco_row (q : FVec Ideal S384x128 .f32) (r : Fin 384) (l : Fin 128) :
    qco q (ix2 r l) = Quant.code1 (q (ix2 r l)) (Quant.scale1 (Quant.rowMax fun l => q (ix2 r l))) := by
  rw [qco, Quant.code_apply, qsc_row]

end Cert.QkvRows

end
-- ==== Proof.QkvModel.lean ====
/- The attention input: both programs' result arrays as one function of the arguments. -/
module

public import proofs.«01_k».proof.Proof.QkvShape
public import proofs.«01_k».proof.Proof.QkvRope
public import proofs.«01_k».proof.Proof.QkvCode
public import proofs.«01_k».proof.Proof.QkvProj
public import proofs.«01_k».proof.Proof.QkvHead
public import proofs.«01_k».proof.Proof.Gen.QkvKernelIdeal.Value
public import proofs.«01_k».proof.Proof.Gen.QkvReferenceIdeal.Value

@[expose] public section

set_option maxRecDepth 16384

noncomputable section

open Idealize.ShloMosaic Idealize.ShloMosaic.TcCoe Idealize.SL.Sem
open Idealize.ShloMosaic.Pipeline (Dat)

namespace Cert.QkvVal

open Cert.QkvReferenceIdeal (S14208x4608 S14208x1 S14208x64 S14208x4096 S14208x2048 S14208x1024 S14208x16 S4608x4096 S1x4608 S1x4096 S4608 S4096 S8 S8x1)

/-- A vector of columns as one row. -/
abbrev row (v : FVec Ideal S4608 .f32) : FVec Ideal S1x4608 .f32 := fun i => v (ix1 (i 1))
/-- The weights' scales as one row. -/
abbrev rowW (v : FVec Ideal S4096 .f32) : FVec Ideal S1x4096 .f32 := fun i => v (ix1 (i 1))
/-- The heads' scales as one column. -/
abbrev colH (v : FVec Ideal S8 .f32) : FVec Ideal S8x1 .f32 := fun i => v (ix1 (i 0))

/-- The codes of the normalised rows. -/
abbrev C1 (X : FVec Ideal S14208x4608 .bf16) (g : FVec Ideal S4608 .f32) : FVec Ideal S14208x4608 .fp8e4m3 := QkvReferenceIdeal.Gen.k0_pay3 (F := Ideal) X (row g)
/-- Their scales. -/
abbrev S1 (X : FVec Ideal S14208x4608 .bf16) (g : FVec Ideal S4608 .f32) : FVec Ideal S14208x1 .f32 := QkvReferenceIdeal.Gen.k0_pay2 (F := Ideal) X (row g)
/-- Their product with the weights, at the rows' scales. -/
abbrev U (X : FVec Ideal S14208x4608 .bf16) (g : FVec Ideal S4608 .f32) (W : FVec Ideal S4608x4096 .fp8e4m3) : FVec Ideal S14208x4096 .f32 := QkvReferenceIdeal.Gen.k0_pay4 (F := Ideal) X (row g) W
/-- The weights' scales along the rows. -/
abbrev B (ws : FVec Ideal S4096 .f32) : FVec Ideal S14208x4096 .f32 := QkvReferenceIdeal.Gen.k0_pay5 (F := Ideal) (rowW ws)
/-- The projected rows. -/
abbrev Y (X : FVec Ideal S14208x4608 .bf16) (g : FVec Ideal S4608 .f32) (W : FVec Ideal S4608x4096 .fp8e4m3) (ws : FVec Ideal S4096 .f32) : FVec Ideal S14208x4096 .f32 := QkvReferenceIdeal.Gen.k0_pay6 (F := Ideal) (U X g W) (B ws)
/-- The codes of the query heads. -/
abbrev QC (X : FVec Ideal S14208x4608 .bf16) (g : FVec Ideal S4608 .f32) (W : FVec Ideal S4608x4096 .fp8e4m3) (ws : FVec Ideal S4096 .f32) (cos sin : FVec Ideal S14208x64 .f32) : FVec Ideal S14208x2048 .fp8e4m3 :=
  QkvReferenceIdeal.Gen.k0_pay12 (F := Ideal) (QkvReferenceIdeal.Gen.k0_pay8 (F := Ideal) (U X g W) (B ws) cos sin)
    (QkvReferenceIdeal.Gen.k0_pay11 (F := Ideal) (U X g W) (B ws) cos sin)
/-- Their scales. -/
abbrev QS (X : FVec Ideal S14208x4608 .bf16) (g : FVec Ideal S4608 .f32) (W : FVec Ideal S4608x4096 .fp8e4m3) (ws : FVec Ideal S4096 .f32) (cos sin : FVec Ideal S14208x64 .f32) : FVec Ideal S14208x16 .f32 :=
  QkvReferenceIdeal.Gen.k0_pay13 (F := Ideal) (QkvReferenceIdeal.Gen.k0_pay10 (F := Ideal) (U X g W) (B ws) cos sin)
/-- The codes of the key heads. -/
abbrev KC (X : FVec Ideal S14208x4608 .bf16) (g : FVec Ideal S4608 .f32) (W : FVec Ideal S4608x4096 .fp8e4m3) (ws : FVec Ideal S4096 .f32) (cos sin : FVec Ideal S14208x64 .f32) (ks : FVec Ideal S8 .f32) : FVec Ideal S14208x1024 .fp8e4m3 :=
  QkvReferenceIdeal.Gen.k0_pay14 (F := Ideal) (QkvReferenceIdeal.Gen.k0_pay9 (F := Ideal) (U X g W) (B ws) cos sin) (colH ks)
/-- The codes of the value heads. -/
abbrev VC (X : FVec Ideal S14208x4608 .bf16) (g : FVec Ideal S4608 .f32) (W : FVec Ideal S4608x4096 .fp8e4m3) (ws : FVec Ideal S4096 .f32) (vs : FVec Ideal S8 .f32) : FVec Ideal S14208x1024 .fp8e4m3 :=
  QkvReferenceIdeal.Gen.k0_pay15 (F := Ideal) (QkvReferenceIdeal.Gen.k0_pay7 (F := Ideal) (U X g W) (B ws)) (colH vs)

end Cert.QkvVal

end
-- ==== Proof.QkvRef.lean ====
/- The attention input's reference: its result arrays as functions of the arguments. -/
module

public import proofs.«01_k».proof.Proof.QkvModel

@[expose] public section

set_option maxRecDepth 16384

noncomputable section

open Idealize.ShloMosaic Idealize.ShloMosaic.TcCoe Idealize.SL.Sem
open Idealize.ShloMosaic.Pipeline (Dat)

namespace Cert.QkvVal

namespace R
open Cert.QkvReferenceIdeal Cert.QkvReferenceIdeal.Gen
variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)
theorem b0 (c : Dev nD) (t : Fin cfg0.N) : iblk m c 0 t = m ((c : Thread nD τ).loc main_arg0) := by
  blk_ext! [iblk, V, idx t]
theorem b1 (c : Dev nD) (t : Fin cfg0.N) : iblk m c 1 t = row (m ((c : Thread nD τ).loc main_arg1)) := by
  funext y
  blk_ext! [iblk, V, idx t]
theorem b2 (c : Dev nD) (t : Fin cfg0.N) : iblk m c 2 t = m ((c : Thread nD τ).loc main_arg2) := by
  blk_ext! [iblk, V, idx t]
theorem b3 (c : Dev nD) (t : Fin cfg0.N) : iblk m c 3 t = rowW (m ((c : Thread nD τ).loc main_arg3)) := by
  funext y
  blk_ext! [iblk, V, idx t]
theorem b4 (c : Dev nD) (t : Fin cfg0.N) : iblk m c 4 t = m ((c : Thread nD τ).loc main_arg4) := by
  blk_ext! [iblk, V, idx t]
theorem b5 (c : Dev nD) (t : Fin cfg0.N) : iblk m c 5 t = m ((c : Thread nD τ).loc main_arg5) := by
  blk_ext! [iblk, V, idx t]
theorem b6 (c : Dev nD) (t : Fin cfg0.N) : iblk m c 6 t = colH (m ((c : Thread nD τ).loc main_arg6)) := by
  funext y
  blk_ext! [iblk, V, idx t]
theorem b7 (c : Dev nD) (t : Fin cfg0.N) : iblk m c 7 t = colH (m ((c : Thread nD τ).loc main_arg7)) := by
  funext y
  blk_ext! [iblk, V, idx t]

theorem final8 (c : Dev nD) : (dats m 0 c).arrAt 8 (cfgs 0).N
    = C1 (m ((c : Thread nD τ).loc main_arg0)) (m ((c : Thread nD τ).loc main_arg1)) := by
  refine (dats m 0 c).arrAt_eq_of_after_last 8 t0_0 (by decide +kernel) _ fun j => ?_
  blk_simp
  rw [after0_8]
  unfold_out out0_8
  frame_out
  rw [b0, b1]

theorem final9 (c : Dev nD) : (dats m 0 c).arrAt 9 (cfgs 0).N
    = S1 (m ((c : Thread nD τ).loc main_arg0)) (m ((c : Thread nD τ).loc main_arg1)) := by
  refine (dats m 0 c).arrAt_eq_of_after_last 9 t0_0 (by decide +kernel) _ fun j => ?_
  blk_simp
  rw [after0_9]
  unfold_out out0_9
  frame_out
  rw [b0, b1]

theorem final10 (c : Dev nD) : (dats m 0 c).arrAt 10 (cfgs 0).N
    = QC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 10 t0_0 (by decide +kernel) _ fun j => ?_
  blk_simp
  rw [after0_10]
  unfold_out out0_10
  frame_out
  rw [b0, b1, b2, b3, b4, b5]

theorem final11 (c : Dev nD) : (dats m 0 c).arrAt 11 (cfgs 0).N
    = QS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 11 t0_0 (by decide +kernel) _ fun j => ?_
  blk_simp
  rw [after0_11]
  unfold_out out0_11
  frame_out
  rw [b0, b1, b2, b3, b4, b5]

theorem final12 (c : Dev nD) : (dats m 0 c).arrAt 12 (cfgs 0).N
    = KC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 12 t0_0 (by decide +kernel) _ fun j => ?_
  blk_simp
  rw [after0_12]
  unfold_out out0_12
  frame_out
  rw [b0, b1, b2, b3, b4, b5, b6]

theorem final13 (c : Dev nD) : (dats m 0 c).arrAt 13 (cfgs 0).N
    = VC (m ((c : Thread nD τ).loc main_arg0)) (m ((c : Thread nD τ).loc main_arg1)) (m ((c : Thread nD τ).loc main_arg2)) (m ((c : Thread nD τ).loc main_arg3)) (m ((c : Thread nD τ).loc main_arg7)) := by
  refine (dats m 0 c).arrAt_eq_of_after_last 13 t0_0 (by decide +kernel) _ fun j => ?_
  blk_simp
  rw [after0_13]
  unfold_out out0_13
  frame_out
  rw [b0, b1, b2, b3, b7]

end R

end Cert.QkvVal

end
-- ==== Proof.QkvBlk.lean ====
/- The attention input's kernel: its blocks. -/
module

public import proofs.«01_k».proof.Proof.QkvModel

@[expose] public section

set_option maxRecDepth 16384

noncomputable section

open Idealize.ShloMosaic Idealize.ShloMosaic.TcCoe Idealize.SL.Sem
open Idealize.ShloMosaic.Pipeline (Dat)

namespace Cert.QkvVal

namespace K
open Cert.QkvKernelIdeal Cert.QkvKernelIdeal.Gen
variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![0, 0] ∧ win0_7.index t = ![0, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, _)

/-- The array's row at row `r` of block `t`. -/
abbrev gr (t : Fin cfg0.N) (r : Fin 384) : Fin 14208 := ⟨t.val * 384 + r.val, by have := lt_of_lt_of_eq t.isLt N_0; omega⟩

theorem b0 (c : Dev nD) (t : Fin cfg0.N) (r : Fin 384) (k : Fin 4608) :
    iblk m c 0 t (ix2 r k) = m ((c : Thread nD τ).loc main_arg0) (ix2 (gr t r) k) := by
  blk_ext [iblk, V, idx t]
theorem b4 (c : Dev nD) (t : Fin cfg0.N) (r : Fin 384) (k : Fin 64) :
    iblk m c 4 t (ix2 r k) = m ((c : Thread nD τ).loc main_arg4) (ix2 (gr t r) k) := by
  blk_ext [iblk, V, idx t]
theorem b5 (c : Dev nD) (t : Fin cfg0.N) (r : Fin 384) (k : Fin 64) :
    iblk m c 5 t (ix2 r k) = m ((c : Thread nD τ).loc main_arg5) (ix2 (gr t r) k) := by
  blk_ext [iblk, V, idx t]
theorem b1 (c : Dev nD) (t : Fin cfg0.N) : iblk m c 1 t = row (m ((c : Thread nD τ).loc main_arg1)) := by
  funext y
  blk_ext! [iblk, V, idx t]
theorem b2 (c : Dev nD) (t : Fin cfg0.N) : iblk m c 2 t = m ((c : Thread nD τ).loc main_arg2) := by
  blk_ext! [iblk, V, idx t]
theorem b3 (c : Dev nD) (t : Fin cfg0.N) : iblk m c 3 t = rowW (m ((c : Thread nD τ).loc main_arg3)) := by
  funext y
  blk_ext! [iblk, V, idx t]
/-- Each of the eight scales, repeated along its head's columns. -/
theorem rep (v : FVec Ideal S8 .f32) (h : Fin 8) (l : Fin 128) (j : Fin 1024) (hj : j.val = h.val * 128 + l.val) :
    shapeCast S1x1024 (shapeCast S1024 (broadcastInDim S8x128 ![0] bcast_S8_S8x128_0 v) shapeCasts_S8x128_S1024)
        shapeCasts_S1024_S1x1024 (ix2 0 j) = v (ix1 h) := by
  have hb : h.val * 128 + l.val < 1024 := by clear hj; omega
  obtain rfl : j = ⟨h.val * 128 + l.val, hb⟩ := Fin.ext hj
  pointwise []

theorem V_v4 (c : Dev nD) : V m c main_v4
    = shapeCast S1x1024 (shapeCast S1024 (broadcastInDim S8x128 ![0] bcast_S8_S8x128_0 (m ((c : Thread nD τ).loc main_arg6))) shapeCasts_S8x128_S1024)
        shapeCasts_S1024_S1x1024 := by
  show StableHlo.after hostOps0 _ (Proc.devRef .tc main_v4) = _
  after_results
  rfl

theorem b6 (c : Dev nD) (t : Fin cfg0.N) (h : Fin 8) (l : Fin 128) (j : Fin 1024) (hj : j.val = h.val * 128 + l.val) :
    iblk m c 6 t (ix2 0 j) = m ((c : Thread nD τ).loc main_arg6) (ix1 h) := by
  have e : iblk m c 6 t (ix2 0 j) = V m c main_v4 (ix2 0 j) := by
    blk_simp [iblk]
    refine congrArg _ ?_
    blk_ext [idx t]
  rw [e, V_v4]
  exact rep (m ((c : Thread nD τ).loc main_arg6)) h l j hj

theorem V_v7 (c : Dev nD) : V m c main_v7
    = shapeCast S1x1024 (shapeCast S1024 (broadcastInDim S8x128 ![0] bcast_S8_S8x128_0 (m ((c : Thread nD τ).loc main_arg7))) shapeCasts_S8x128_S1024)
        shapeCasts_S1024_S1x1024 := by
  show StableHlo.after hostOps0 _ (Proc.devRef .tc main_v7) = _
  after_results
  rfl

theorem b7 (c : Dev nD) (t : Fin cfg0.N) (h : Fin 8) (l : Fin 128) (j : Fin 1024) (hj : j.val = h.val * 128 + l.val) :
    iblk m c 7 t (ix2 0 j) = m ((c : Thread nD τ).loc main_arg7) (ix1 h) := by
  have e : iblk m c 7 t (ix2 0 j) = V m c main_v7 (ix2 0 j) := by
    blk_simp [iblk]
    refine congrArg _ ?_
    blk_ext [idx t]
  rw [e, V_v7]
  exact rep (m ((c : Thread nD τ).loc main_arg7)) h l j hj

end K

end Cert.QkvVal

end
-- ==== Proof.QkvTile.lean ====
/- The attention input's kernel: one head's stores. -/
module

public import proofs.«01_k».proof.Proof.QkvBlk

@[expose] public section

set_option maxRecDepth 16384

noncomputable section

open Idealize.ShloMosaic Idealize.ShloMosaic.TcCoe Idealize.SL.Sem
open Idealize.ShloMosaic.Pipeline (Dat)

namespace Cert.QkvVal

namespace K
open Cert.QkvKernelIdeal Cert.QkvKernelIdeal.Gen Cert.QkvRows
variable (m : (ℓ : Loc nD τ sig) → Buf (Elt Ideal) ℓ)

/-- The scales of one block's rows. -/
abbrev sb (c : Dev nD) (t : Fin cfg0.N) : FVec Ideal S384x1 .f32 := k0_pay4 (F := Ideal) (iblk m c 0 t) (iblk m c 1 t)
/-- Their codes. -/
abbrev cb (c : Dev nD) (t : Fin cfg0.N) : FVec Ideal S384x4608 .fp8e4m3 := k0_pay8 (F := Ideal) (k0_pay5 (F := Ideal) (iblk m c 0 t) (iblk m c 1 t))
/-- The weights' columns from `lo`. -/
abbrev wt (c : Dev nD) (t : Fin cfg0.N) (lo : Nat) (i : ∀ j : Fin 2, (![0, lo] : Fin 2 → Nat) j + (![4608, 256] : Fin 2 → Nat) j ≤ S4608x4096.size j) : FVec Ideal S4608x256 .fp8e4m3 :=
  View.ld (iblk m c 2 t) (Rect.unit (s := S4608x4096) ![0, lo] ![4608, 256] i)
/-- Their scales. -/
abbrev wst (c : Dev nD) (t : Fin cfg0.N) (lo : Nat) (i : ∀ j : Fin 2, (![0, lo] : Fin 2 → Nat) j + (![1, 256] : Fin 2 → Nat) j ≤ S1x4096.size j) : FVec Ideal S1x256 .f32 :=
  View.ld (iblk m c 3 t) (Rect.unit (s := S1x4096) ![0, lo] ![1, 256] i)
/-- The block's projection at those columns: two heads. -/
abbrev pr (c : Dev nD) (t : Fin cfg0.N) (lo : Nat) (i : ∀ j : Fin 2, (![0, lo] : Fin 2 → Nat) j + (![4608, 256] : Fin 2 → Nat) j ≤ S4608x4096.size j)
    (i' : ∀ j : Fin 2, (![0, lo] : Fin 2 → Nat) j + (![1, 256] : Fin 2 → Nat) j ≤ S1x4096.size j) : FVec Ideal S384x256 .f32 :=
  k0_pay16 (F := Ideal) (sb m c t) (cb m c t) (wt m c t lo i) (wst m c t lo i')
/-- One head's projection. -/
abbrev hd (c : Dev nD) (t : Fin cfg0.N) (lo o : Nat) (i : ∀ j : Fin 2, (![0, lo] : Fin 2 → Nat) j + (![4608, 256] : Fin 2 → Nat) j ≤ S4608x4096.size j)
    (i' : ∀ j : Fin 2, (![0, lo] : Fin 2 → Nat) j + (![1, 256] : Fin 2 → Nat) j ≤ S1x4096.size j) (h : S384x256.Slices ![0, o] S384x128) : FVec Ideal S384x128 .f32 :=
  half (pr m c t lo i i') o h

theorem wt_at (c : Dev nD) (t : Fin cfg0.N) (lo : Nat) (hlo : lo + 256 ≤ 4096) (i) (k : Fin 4608) (l : Fin 256) :
    wt m c t lo i (ix2 k l) = (m ((c : Thread nD τ).loc main_arg2)) (ix2 k ⟨lo + l.val, by omega⟩) := by
  unfold wt
  rw [b2]
  exact View.ld_unit_apply_of _ _ _ _ _ _ (Fin.forall_fin_two.mpr ⟨(Nat.zero_add _).symm, rfl⟩)

theorem wst_at (c : Dev nD) (t : Fin cfg0.N) (lo : Nat) (hlo : lo + 256 ≤ 4096) (i) (l : Fin 256) :
    wst m c t lo i (ix2 0 l) = rowW (m ((c : Thread nD τ).loc main_arg3)) (ix2 0 ⟨lo + l.val, by omega⟩) := by
  unfold wst
  rw [b3]
  exact View.ld_unit_apply_of _ _ _ _ _ _ (Fin.forall_fin_two.mpr ⟨(Nat.zero_add _).symm, rfl⟩)

theorem sb_at (c : Dev nD) (t : Fin cfg0.N) (r : Fin 384) : sb m c t (ix2 r 0) = S1 (m ((c : Thread nD τ).loc main_arg0)) (m ((c : Thread nD τ).loc main_arg1)) (ix2 (gr t r) 0) := by
  unfold sb
  rw [b1]
  exact s_row (iblk m c 0 t) (row (m ((c : Thread nD τ).loc main_arg1))) (m ((c : Thread nD τ).loc main_arg0)) r (gr t r) (fun k => b0 m c t r k)

theorem pay8_eq (v : FVec Ideal S384x4608 .fp8e4m3) : k0_pay8 (F := Ideal) v = v := by
  funext y
  obtain ⟨r, k, rfl⟩ : ∃ (r : Fin 384) (k : Fin 4608), y = ix2 r k := ⟨y 0, y 1, eq_ix2 y⟩
  pointwise [k0_pay8]

theorem cb_at (c : Dev nD) (t : Fin cfg0.N) (r : Fin 384) (k : Fin 4608) : cb m c t (ix2 r k) = C1 (m ((c : Thread nD τ).loc main_arg0)) (m ((c : Thread nD τ).loc main_arg1)) (ix2 (gr t r) k) := by
  unfold cb
  rw [b1, pay8_eq]
  exact c_row (iblk m c 0 t) (row (m ((c : Thread nD τ).loc main_arg1))) (m ((c : Thread nD τ).loc main_arg0)) r (gr t r) (fun k => b0 m c t r k) k

theorem hd_at (c : Dev nD) (t : Fin cfg0.N) (lo o : Nat) (i) (i') (h) (r : Fin 384) (a : Nat) (ha : a + 128 ≤ 4096) (e : a = lo + o) (hlo : lo + 256 ≤ 4096) (ho : o + 128 ≤ 256) (l : Fin 128) :
    hd m c t lo o i i' h (ix2 r l) = headOf (Y (m ((c : Thread nD τ).loc main_arg0)) (m ((c : Thread nD τ).loc main_arg1)) (m ((c : Thread nD τ).loc main_arg2)) (m ((c : Thread nD τ).loc main_arg3))) (gr t r) a ha l := by
  subst e
  rw [hd, half_row _ o h ho r l]
  refine (y_row (sb m c t) (cb m c t) (wt m c t lo i) (wst m c t lo i') (m ((c : Thread nD τ).loc main_arg0)) (row (m ((c : Thread nD τ).loc main_arg1))) (m ((c : Thread nD τ).loc main_arg2)) (rowW (m ((c : Thread nD τ).loc main_arg3))) r (gr t r)
    (sb_at m c t r) (fun k => cb_at m c t r k) ⟨o + l.val, by omega⟩ ⟨lo + (o + l.val), by omega⟩
    (fun k => wt_at m c t lo hlo i k _) (wst_at m c t lo hlo i' _)).trans ?_
  exact congrArg (fun j => (Y (m ((c : Thread nD τ).loc main_arg0)) (m ((c : Thread nD τ).loc main_arg1)) (m ((c : Thread nD τ).loc main_arg2)) (m ((c : Thread nD τ).loc main_arg3))) (ix2 (gr t r) j)) (Fin.ext (Nat.add_assoc lo o l.val).symm)

/-- One query head of the block. -/
abbrev qb (c : Dev nD) (t : Fin cfg0.N) (lo o : Nat) (i : ∀ j : Fin 2, (![0, lo] : Fin 2 → Nat) j + (![4608, 256] : Fin 2 → Nat) j ≤ S4608x4096.size j)
    (i' : ∀ j : Fin 2, (![0, lo] : Fin 2 → Nat) j + (![1, 256] : Fin 2 → Nat) j ≤ S1x4096.size j) (h : S384x256.Slices ![0, o] S384x128) : FVec Ideal S384x128 .f32 :=
  qh (hd m c t lo o i i' h) (k0_pay6 (F := Ideal) (iblk m c 4 t)) (k0_pay7 (F := Ideal) (iblk m c 5 t))
/-- One key head of the block. -/
abbrev kb (c : Dev nD) (t : Fin cfg0.N) (lo o : Nat) (i : ∀ j : Fin 2, (![0, lo] : Fin 2 → Nat) j + (![4608, 256] : Fin 2 → Nat) j ≤ S4608x4096.size j)
    (i' : ∀ j : Fin 2, (![0, lo] : Fin 2 → Nat) j + (![1, 256] : Fin 2 → Nat) j ≤ S1x4096.size j) (h : S384x256.Slices ![0, o] S384x128) : FVec Ideal S384x128 .f32 :=
  rot (hd m c t lo o i i' h) (k0_pay6 (F := Ideal) (iblk m c 4 t)) (k0_pay7 (F := Ideal) (iblk m c 5 t))

theorem cos_at (c : Dev nD) (t : Fin cfg0.N) (r : Fin 384) :
    (fun k : Fin 64 => iblk m c 4 t (ix2 r k)) = fun k => (m ((c : Thread nD τ).loc main_arg4)) (ix2 (gr t r) k) := funext fun k => b4 m c t r k
theorem sin_at (c : Dev nD) (t : Fin cfg0.N) (r : Fin 384) :
    (fun k : Fin 64 => iblk m c 5 t (ix2 r k)) = fun k => (m ((c : Thread nD τ).loc main_arg5)) (ix2 (gr t r) k) := funext fun k => b5 m c t r k

theorem qb_at (c : Dev nD) (t : Fin cfg0.N) (lo o : Nat) (i) (i') (h) (r : Fin 384) (n : Fin 16) (e : n.val * 128 = lo + o) (hlo : lo + 256 ≤ 4096) (ho : o + 128 ≤ 256) (l : Fin 128) :
    qb m c t lo o i i' h (ix2 r l)
      = QkvReferenceIdeal.Gen.k0_pay8 (F := Ideal) (U (m ((c : Thread nD τ).loc main_arg0)) (m ((c : Thread nD τ).loc main_arg1)) (m ((c : Thread nD τ).loc main_arg2))) (B (m ((c : Thread nD τ).loc main_arg3))) (m ((c : Thread nD τ).loc main_arg4)) (m ((c : Thread nD τ).loc main_arg5)) (ix3 (gr t r) n l) := by
  rw [ref_q, ← cos_at m c t r, ← sin_at m c t r]
  exact qh_row _ (iblk m c 4 t) (iblk m c 5 t) _ r (fun l => hd_at m c t lo o i i' h r (n.val * 128) (by omega) e hlo ho l) l

theorem kb_at (c : Dev nD) (t : Fin cfg0.N) (lo o : Nat) (i) (i') (h) (r : Fin 384) (n : Fin 8) (e : 2048 + n.val * 128 = lo + o) (hlo : lo + 256 ≤ 4096) (ho : o + 128 ≤ 256) (l : Fin 128) :
    kb m c t lo o i i' h (ix2 r l)
      = QkvReferenceIdeal.Gen.k0_pay9 (F := Ideal) (U (m ((c : Thread nD τ).loc main_arg0)) (m ((c : Thread nD τ).loc main_arg1)) (m ((c : Thread nD τ).loc main_arg2))) (B (m ((c : Thread nD τ).loc main_arg3))) (m ((c : Thread nD τ).loc main_arg4)) (m ((c : Thread nD τ).loc main_arg5)) (ix3 (gr t r) n l) := by
  rw [ref_k, ← cos_at m c t r, ← sin_at m c t r]
  exact rot_row _ (iblk m c 4 t) (iblk m c 5 t) _ r (fun l => hd_at m c t lo o i i' h r (2048 + n.val * 128) (by omega) e hlo ho l) l

/-- One head's store of query codes. -/
theorem qc_at (c : Dev nD) (t : Fin cfg0.N) (lo o : Nat) (i) (i') (h) (n : Fin 16) (e : n.val * 128 = lo + o) (hlo : lo + 256 ≤ 4096) (ho : o + 128 ≤ 256)
    (r : Fin 384) (j : Fin 2048) (x : S384x128.Idx) (h0 : r.val = (x 0).val) (h1 : j.val = n.val * 128 + (x 1).val) :
    qco (qb m c t lo o i i' h) x = QC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (gr t r) j) := by
  obtain ⟨xr, xl, rfl⟩ : ∃ (xr : Fin 384) (xl : Fin 128), x = ix2 xr xl := ⟨x 0, x 1, eq_ix2 x⟩
  obtain rfl : r = xr := Fin.ext h0
  rw [qco_row, QC, ref_qc _ _ _ _ _ _ n xl j h1, ref_qs]
  simp only [qb_at m c t lo o i i' h r n e hlo ho]

/-- One head's store of query scales. -/
theorem qs_at (c : Dev nD) (t : Fin cfg0.N) (lo o : Nat) (i) (i') (h) (n : Fin 16) (e : n.val * 128 = lo + o) (hlo : lo + 256 ≤ 4096) (ho : o + 128 ≤ 256)
    (r : Fin 384) (j : Fin 16) (x : S384x1.Idx) (h0 : r.val = (x 0).val) (h1 : j.val = n.val + (x 1).val) :
    qsc (qb m c t lo o i i' h) x = QS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (gr t r) j) := by
  obtain ⟨xr, xl, rfl⟩ : ∃ (xr : Fin 384) (xl : Fin 1), x = ix2 xr xl := ⟨x 0, x 1, eq_ix2 x⟩
  obtain rfl : r = xr := Fin.ext h0
  obtain rfl : xl = 0 := Subsingleton.elim _ _
  obtain rfl : j = n := Fin.ext h1
  rw [qsc_row, QS, ref_qs2, ref_qs]
  simp only [qb_at m c t lo o i i' h r j e hlo ho]

/-- One head's scale along its columns. -/
abbrev krow (v : FVec Ideal S1x1024 .f32) (a : Nat) (i : ∀ j : Fin 2, (![0, a] : Fin 2 → Nat) j + (![1, 128] : Fin 2 → Nat) j ≤ S1x1024.size j) : FVec Ideal S1x128 .f32 :=
  View.ld (Val := Elt Ideal) (e' := .f32) v (Rect.unit (s := S1x1024) ![0, a] ![1, 128] i)

theorem krow_at (v : FVec Ideal S1x1024 .f32) (a : Nat) (i) (l : Fin 128) (ha : a + 128 ≤ 1024) : krow v a i (ix2 0 l) = v (ix2 0 ⟨a + l.val, by omega⟩) := by
  unfold krow
  exact View.ld_unit_apply_of _ _ _ _ _ _ (Fin.forall_fin_two.mpr ⟨(Nat.zero_add _).symm, rfl⟩)

/-- One head's store of key codes. -/
theorem kc_at (c : Dev nD) (t : Fin cfg0.N) (lo o : Nat) (i) (i') (h) (n : Fin 8) (a : Nat) (i2) (e2 : a = n.val * 128) (e : 2048 + n.val * 128 = lo + o) (hlo : lo + 256 ≤ 4096) (ho : o + 128 ≤ 256)
    (r : Fin 384) (j : Fin 1024) (x : S384x128.Idx) (h0 : r.val = (x 0).val) (h1 : j.val = n.val * 128 + (x 1).val) :
    kco (kb m c t lo o i i' h) (krow (iblk m c 6 t) a i2) x = KC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (gr t r) j) := by
  obtain ⟨xr, xl, rfl⟩ : ∃ (xr : Fin 384) (xl : Fin 128), x = ix2 xr xl := ⟨x 0, x 1, eq_ix2 x⟩
  obtain rfl : r = xr := Fin.ext h0
  subst e2
  rw [kco_row, KC, ref_kc _ _ _ n xl j h1, kb_at m c t lo o i i' h r n e hlo ho, krow_at _ _ _ _ (by omega), b6 m c t n xl _ rfl]
  rfl

/-- One head's store of value codes. -/
theorem vc_at (c : Dev nD) (t : Fin cfg0.N) (lo o : Nat) (i) (i') (h) (n : Fin 8) (a : Nat) (i2) (e2 : a = n.val * 128) (e : 3072 + n.val * 128 = lo + o) (hlo : lo + 256 ≤ 4096) (ho : o + 128 ≤ 256)
    (r : Fin 384) (j : Fin 1024) (x : S384x128.Idx) (h0 : r.val = (x 0).val) (h1 : j.val = n.val * 128 + (x 1).val) :
    kco (hd m c t lo o i i' h) (krow (iblk m c 7 t) a i2) x = VC (m ((c : Thread nD τ).loc main_arg0)) (m ((c : Thread nD τ).loc main_arg1)) (m ((c : Thread nD τ).loc main_arg2)) (m ((c : Thread nD τ).loc main_arg3)) (m ((c : Thread nD τ).loc main_arg7)) (ix2 (gr t r) j) := by
  obtain ⟨xr, xl, rfl⟩ : ∃ (xr : Fin 384) (xl : Fin 128), x = ix2 xr xl := ⟨x 0, x 1, eq_ix2 x⟩
  obtain rfl : r = xr := Fin.ext h0
  subst e2
  rw [kco_row, VC, ref_vc _ _ _ n xl j h1, ref_v, hd_at m c t lo o i i' h r (3072 + n.val * 128) (by omega) e hlo ho, krow_at _ _ _ _ (by omega), b7 m c t n xl _ rfl]
  rfl

end K

end Cert.QkvVal

end
-- ==== Proof.QkvPay.lean ====
/- The attention input's kernel: each head's store is the one head computation. -/
module

public import proofs.«01_k».proof.Proof.QkvProj
public import proofs.«01_k».proof.Proof.QkvHead

@[expose] public section

set_option maxRecDepth 16384

noncomputable section

open Idealize.ShloMosaic Idealize.ShloMosaic.TcCoe Idealize.SL.Sem
open Idealize.ShloMosaic.Pipeline (Dat)

namespace Cert.QkvPay

open Cert.QkvKernelIdeal Cert.QkvKernelIdeal.Gen Cert.QkvRows

theorem qc15 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay82 (F := Ideal) (k0_pay77 (F := Ideal) cc ss (k0_pay71 (F := Ideal) s c1 w) (k0_pay72 (F := Ideal) ws)) (k0_pay79 (F := Ideal) cc ss (k0_pay71 (F := Ideal) s c1 w) (k0_pay72 (F := Ideal) ws)) (k0_pay80 (F := Ideal) cc ss (k0_pay71 (F := Ideal) s c1 w) (k0_pay72 (F := Ideal) ws))
      = qco (qh (half (k0_pay16 (F := Ideal) s c1 w ws) 128 slices_S384x256_o0_128_S384x128) cc ss) := rfl

theorem qc14 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay76 (F := Ideal) cc ss (k0_pay71 (F := Ideal) s c1 w) (k0_pay72 (F := Ideal) ws)
      = qco (qh (half (k0_pay16 (F := Ideal) s c1 w ws) 0 slices_S384x256_o0_0_S384x128) cc ss) := rfl

theorem qc13 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay70 (F := Ideal) cc ss (k0_pay62 (F := Ideal) s c1 w ws)
      = qco (qh (half (k0_pay16 (F := Ideal) s c1 w ws) 128 slices_S384x256_o0_128_S384x128) cc ss) := rfl

theorem qc12 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay67 (F := Ideal) (k0_pay65 (F := Ideal) s cc ss c1 w ws) (k0_pay66 (F := Ideal))
      = qco (qh (half (k0_pay16 (F := Ideal) s c1 w ws) 0 slices_S384x256_o0_0_S384x128) cc ss) := rfl

theorem qc11 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay61 (F := Ideal) (k0_pay55 (F := Ideal) cc ss (k0_pay51 (F := Ideal) s c1 w ws)) (k0_pay57 (F := Ideal) cc ss (k0_pay51 (F := Ideal) s c1 w ws)) (k0_pay58 (F := Ideal) cc ss (k0_pay51 (F := Ideal) s c1 w ws)) (k0_pay59 (F := Ideal))
      = qco (qh (half (k0_pay16 (F := Ideal) s c1 w ws) 128 slices_S384x256_o0_128_S384x128) cc ss) := rfl

theorem qc10 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay54 (F := Ideal) cc ss (k0_pay51 (F := Ideal) s c1 w ws)
      = qco (qh (half (k0_pay16 (F := Ideal) s c1 w ws) 0 slices_S384x256_o0_0_S384x128) cc ss) := rfl

theorem qc9 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay50 (F := Ideal) cc ss (k0_pay44 (F := Ideal) s c1 w ws)
      = qco (qh (half (k0_pay16 (F := Ideal) s c1 w ws) 128 slices_S384x256_o0_128_S384x128) cc ss) := rfl

theorem qc8 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay47 (F := Ideal) s cc ss c1 w ws
      = qco (qh (half (k0_pay16 (F := Ideal) s c1 w ws) 0 slices_S384x256_o0_0_S384x128) cc ss) := rfl

theorem qc7 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay43 (F := Ideal) (k0_pay40 (F := Ideal) cc ss (k0_pay34 (F := Ideal) s c1 w ws)) (k0_pay42 (F := Ideal) cc ss (k0_pay34 (F := Ideal) s c1 w ws))
      = qco (qh (half (k0_pay16 (F := Ideal) s c1 w ws) 128 slices_S384x256_o0_128_S384x128) cc ss) := rfl

theorem qc6 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay39 (F := Ideal) ss (k0_pay35 (F := Ideal) s c1 w ws) (k0_pay36 (F := Ideal) s cc c1 w ws)
      = qco (qh (half (k0_pay16 (F := Ideal) s c1 w ws) 0 slices_S384x256_o0_0_S384x128) cc ss) := rfl

theorem qc5 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay33 (F := Ideal) cc ss (k0_pay27 (F := Ideal) s c1 w ws)
      = qco (qh (half (k0_pay16 (F := Ideal) s c1 w ws) 128 slices_S384x256_o0_128_S384x128) cc ss) := rfl

theorem qc4 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay30 (F := Ideal) s cc ss c1 w ws
      = qco (qh (half (k0_pay16 (F := Ideal) s c1 w ws) 0 slices_S384x256_o0_0_S384x128) cc ss) := rfl

theorem qc3 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay26 (F := Ideal) (k0_pay25 (F := Ideal) cc ss (k0_pay16 (F := Ideal) s c1 w ws)) (FloatOps.ofBits FTy.f32 3286237184#32)
      = qco (qh (half (k0_pay16 (F := Ideal) s c1 w ws) 128 slices_S384x256_o0_128_S384x128) cc ss) := rfl

theorem qc2 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay22 (F := Ideal) ss (k0_pay18 (F := Ideal) s cc c1 w ws) (k0_pay19 (F := Ideal) s c1 w ws)
      = qco (qh (half (k0_pay16 (F := Ideal) s c1 w ws) 0 slices_S384x256_o0_0_S384x128) cc ss) := rfl

theorem qc1 (s : FVec Ideal S384x1 .f32) (c0 : FVec Ideal S384x4608 .fp8e4m3) (w : FVec Ideal S4608x256 .fp8e4m3) (ws : FVec Ideal S1x256 .f32) (cc : FVec Ideal S384x128 .f32) (ss : FVec Ideal S384x128 .f32) :
    k0_pay15 (F := Ideal) cc ss (k0_pay9 (F := Ideal) s c0 w ws)
      = qco (qh (half (k0_pay16 (F := Ideal) s (k0_pay8 (F := Ideal) c0) w ws) 128 slices_S384x256_o0_128_S384x128) cc ss) := rfl

theorem qc0 (s : FVec Ideal S384x1 .f32) (c0 : FVec Ideal S384x4608 .fp8e4m3) (w : FVec Ideal S4608x256 .fp8e4m3) (ws : FVec Ideal S1x256 .f32) (x4 : FVec Ideal S384x64 .f32) (x5 : FVec Ideal S384x64 .f32) :
    k0_pay12 (F := Ideal) s x4 x5 c0 w ws
      = qco (qh (half (k0_pay16 (F := Ideal) s (k0_pay8 (F := Ideal) c0) w ws) 0 slices_S384x256_o0_0_S384x128) (k0_pay6 (F := Ideal) x4) (k0_pay7 (F := Ideal) x5)) := rfl

theorem qs15 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay81 (F := Ideal) (k0_pay79 (F := Ideal) cc ss (k0_pay71 (F := Ideal) s c1 w) (k0_pay72 (F := Ideal) ws)) (k0_pay80 (F := Ideal) cc ss (k0_pay71 (F := Ideal) s c1 w) (k0_pay72 (F := Ideal) ws))
      = qsc (qh (half (k0_pay16 (F := Ideal) s c1 w ws) 128 slices_S384x256_o0_128_S384x128) cc ss) := rfl

theorem qs14 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay75 (F := Ideal) cc ss (k0_pay71 (F := Ideal) s c1 w) (k0_pay72 (F := Ideal) ws)
      = qsc (qh (half (k0_pay16 (F := Ideal) s c1 w ws) 0 slices_S384x256_o0_0_S384x128) cc ss) := rfl

theorem qs13 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay69 (F := Ideal) cc ss (k0_pay62 (F := Ideal) s c1 w ws)
      = qsc (qh (half (k0_pay16 (F := Ideal) s c1 w ws) 128 slices_S384x256_o0_128_S384x128) cc ss) := rfl

theorem qs12 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay64 (F := Ideal) s cc ss c1 w ws
      = qsc (qh (half (k0_pay16 (F := Ideal) s c1 w ws) 0 slices_S384x256_o0_0_S384x128) cc ss) := rfl

theorem qs11 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay60 (F := Ideal) (k0_pay57 (F := Ideal) cc ss (k0_pay51 (F := Ideal) s c1 w ws)) (k0_pay58 (F := Ideal) cc ss (k0_pay51 (F := Ideal) s c1 w ws)) (k0_pay59 (F := Ideal))
      = qsc (qh (half (k0_pay16 (F := Ideal) s c1 w ws) 128 slices_S384x256_o0_128_S384x128) cc ss) := rfl

theorem qs10 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay53 (F := Ideal) cc ss (k0_pay51 (F := Ideal) s c1 w ws)
      = qsc (qh (half (k0_pay16 (F := Ideal) s c1 w ws) 0 slices_S384x256_o0_0_S384x128) cc ss) := rfl

theorem qs9 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay49 (F := Ideal) cc ss (k0_pay44 (F := Ideal) s c1 w ws)
      = qsc (qh (half (k0_pay16 (F := Ideal) s c1 w ws) 128 slices_S384x256_o0_128_S384x128) cc ss) := rfl

theorem qs8 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay46 (F := Ideal) s cc ss c1 w ws
      = qsc (qh (half (k0_pay16 (F := Ideal) s c1 w ws) 0 slices_S384x256_o0_0_S384x128) cc ss) := rfl

theorem qs7 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay41 (F := Ideal) cc ss (k0_pay34 (F := Ideal) s c1 w ws)
      = qsc (qh (half (k0_pay16 (F := Ideal) s c1 w ws) 128 slices_S384x256_o0_128_S384x128) cc ss) := rfl

theorem qs6 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay38 (F := Ideal) ss (k0_pay35 (F := Ideal) s c1 w ws) (k0_pay36 (F := Ideal) s cc c1 w ws)
      = qsc (qh (half (k0_pay16 (F := Ideal) s c1 w ws) 0 slices_S384x256_o0_0_S384x128) cc ss) := rfl

theorem qs5 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay32 (F := Ideal) cc ss (k0_pay27 (F := Ideal) s c1 w ws)
      = qsc (qh (half (k0_pay16 (F := Ideal) s c1 w ws) 128 slices_S384x256_o0_128_S384x128) cc ss) := rfl

theorem qs4 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay29 (F := Ideal) s cc ss c1 w ws
      = qsc (qh (half (k0_pay16 (F := Ideal) s c1 w ws) 0 slices_S384x256_o0_0_S384x128) cc ss) := rfl

theorem qs3 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay24 (F := Ideal) cc ss (k0_pay16 (F := Ideal) s c1 w ws)
      = qsc (qh (half (k0_pay16 (F := Ideal) s c1 w ws) 128 slices_S384x256_o0_128_S384x128) cc ss) := rfl

theorem qs2 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) :
    k0_pay21 (F := Ideal) ss (k0_pay18 (F := Ideal) s cc c1 w ws) (k0_pay19 (F := Ideal) s c1 w ws)
      = qsc (qh (half (k0_pay16 (F := Ideal) s c1 w ws) 0 slices_S384x256_o0_0_S384x128) cc ss) := rfl

theorem qs1 (s : FVec Ideal S384x1 .f32) (c0 : FVec Ideal S384x4608 .fp8e4m3) (w : FVec Ideal S4608x256 .fp8e4m3) (ws : FVec Ideal S1x256 .f32) (cc : FVec Ideal S384x128 .f32) (ss : FVec Ideal S384x128 .f32) :
    k0_pay14 (F := Ideal) cc ss (k0_pay9 (F := Ideal) s c0 w ws)
      = qsc (qh (half (k0_pay16 (F := Ideal) s (k0_pay8 (F := Ideal) c0) w ws) 128 slices_S384x256_o0_128_S384x128) cc ss) := rfl

theorem qs0 (s : FVec Ideal S384x1 .f32) (c0 : FVec Ideal S384x4608 .fp8e4m3) (w : FVec Ideal S4608x256 .fp8e4m3) (ws : FVec Ideal S1x256 .f32) (x4 : FVec Ideal S384x64 .f32) (x5 : FVec Ideal S384x64 .f32) :
    k0_pay11 (F := Ideal) s x4 x5 c0 w ws
      = qsc (qh (half (k0_pay16 (F := Ideal) s (k0_pay8 (F := Ideal) c0) w ws) 0 slices_S384x256_o0_0_S384x128) (k0_pay6 (F := Ideal) x4) (k0_pay7 (F := Ideal) x5)) := rfl

theorem vc7 (s : FVec Ideal S384x1 .f32) (c1 : FVec Ideal S384x4608 .fp8e4m3) (w : FVec Ideal S4608x256 .fp8e4m3) (ws : FVec Ideal S1x256 .f32) (ks : FVec Ideal S1x128 .f32) :
    k0_pay2 (F := Ideal) (k0_pay115 (F := Ideal) s c1 w ws) ks
      = kco (half (k0_pay16 (F := Ideal) s c1 w ws) 128 slices_S384x256_o0_128_S384x128) ks := rfl

theorem vc6 (s : FVec Ideal S384x1 .f32) (c1 : FVec Ideal S384x4608 .fp8e4m3) (w : FVec Ideal S4608x256 .fp8e4m3) (ws : FVec Ideal S1x256 .f32) (ks : FVec Ideal S1x128 .f32) :
    k0_pay1 (F := Ideal) (k0_pay116 (F := Ideal) s c1 w ws) ks
      = kco (half (k0_pay16 (F := Ideal) s c1 w ws) 0 slices_S384x256_o0_0_S384x128) ks := rfl

theorem vc5 (s : FVec Ideal S384x1 .f32) (c1 : FVec Ideal S384x4608 .fp8e4m3) (w : FVec Ideal S4608x256 .fp8e4m3) (ws : FVec Ideal S1x256 .f32) (ks : FVec Ideal S1x128 .f32) :
    k0_pay114 (F := Ideal) (k0_pay110 (F := Ideal) c1 w) (k0_pay111 (F := Ideal) s) ws ks
      = kco (half (k0_pay16 (F := Ideal) s c1 w ws) 128 slices_S384x256_o0_128_S384x128) ks := rfl

theorem vc4 (s : FVec Ideal S384x1 .f32) (c1 : FVec Ideal S384x4608 .fp8e4m3) (w : FVec Ideal S4608x256 .fp8e4m3) (ws : FVec Ideal S1x256 .f32) (ks : FVec Ideal S1x128 .f32) :
    k0_pay113 (F := Ideal) (k0_pay110 (F := Ideal) c1 w) (k0_pay111 (F := Ideal) s) ws ks
      = kco (half (k0_pay16 (F := Ideal) s c1 w ws) 0 slices_S384x256_o0_0_S384x128) ks := rfl

theorem vc3 (s : FVec Ideal S384x1 .f32) (c1 : FVec Ideal S384x4608 .fp8e4m3) (w : FVec Ideal S4608x256 .fp8e4m3) (ws : FVec Ideal S1x256 .f32) (ks : FVec Ideal S1x128 .f32) :
    k0_pay109 (F := Ideal) s c1 w ws ks
      = kco (half (k0_pay16 (F := Ideal) s c1 w ws) 128 slices_S384x256_o0_128_S384x128) ks := rfl

theorem vc2 (s : FVec Ideal S384x1 .f32) (c1 : FVec Ideal S384x4608 .fp8e4m3) (w : FVec Ideal S4608x256 .fp8e4m3) (ws : FVec Ideal S1x256 .f32) (ks : FVec Ideal S1x128 .f32) :
    k0_pay108 (F := Ideal) s c1 w ws ks
      = kco (half (k0_pay16 (F := Ideal) s c1 w ws) 0 slices_S384x256_o0_0_S384x128) ks := rfl

theorem vc1 (s : FVec Ideal S384x1 .f32) (c1 : FVec Ideal S384x4608 .fp8e4m3) (w : FVec Ideal S4608x256 .fp8e4m3) (ws : FVec Ideal S1x256 .f32) (ks : FVec Ideal S1x128 .f32) :
    k0_pay106 (F := Ideal) (k0_pay105 (F := Ideal) s c1 w ws ks)
      = kco (half (k0_pay16 (F := Ideal) s c1 w ws) 128 slices_S384x256_o0_128_S384x128) ks := rfl

theorem vc0 (s : FVec Ideal S384x1 .f32) (c1 : FVec Ideal S384x4608 .fp8e4m3) (w : FVec Ideal S4608x256 .fp8e4m3) (ws : FVec Ideal S1x256 .f32) (ks : FVec Ideal S1x128 .f32) :
    k0_pay104 (F := Ideal) s c1 w ws ks
      = kco (half (k0_pay16 (F := Ideal) s c1 w ws) 0 slices_S384x256_o0_0_S384x128) ks := rfl

theorem kc7 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) (ks : FVec Ideal S1x128 .f32) :
    k0_pay102 (F := Ideal) (k0_pay101 (F := Ideal) s cc ss c1 w ws) ks
      = kco (rot (half (k0_pay16 (F := Ideal) s c1 w ws) 128 slices_S384x256_o0_128_S384x128) cc ss) ks := rfl

theorem kc6 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) (ks : FVec Ideal S1x128 .f32) :
    k0_pay100 (F := Ideal) s cc ss c1 w ws ks
      = kco (rot (half (k0_pay16 (F := Ideal) s c1 w ws) 0 slices_S384x256_o0_0_S384x128) cc ss) ks := rfl

theorem kc5 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) (ks : FVec Ideal S1x128 .f32) :
    k0_pay98 (F := Ideal) (k0_pay97 (F := Ideal) s cc ss c1 w ws) ks
      = kco (rot (half (k0_pay16 (F := Ideal) s c1 w ws) 128 slices_S384x256_o0_128_S384x128) cc ss) ks := rfl

theorem kc4 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) (ks : FVec Ideal S1x128 .f32) :
    k0_pay96 (F := Ideal) s cc ss c1 w ws ks
      = kco (rot (half (k0_pay16 (F := Ideal) s c1 w ws) 0 slices_S384x256_o0_0_S384x128) cc ss) ks := rfl

theorem kc3 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) (ks : FVec Ideal S1x128 .f32) :
    k0_pay94 (F := Ideal) (k0_pay92 (F := Ideal) s cc c1 w ws) (k0_pay93 (F := Ideal) s ss c1 w ws) ks
      = kco (rot (half (k0_pay16 (F := Ideal) s c1 w ws) 128 slices_S384x256_o0_128_S384x128) cc ss) ks := rfl

theorem kc2 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) (ks : FVec Ideal S1x128 .f32) :
    k0_pay90 (F := Ideal) s cc ss c1 w ws ks
      = kco (rot (half (k0_pay16 (F := Ideal) s c1 w ws) 0 slices_S384x256_o0_0_S384x128) cc ss) ks := rfl

theorem kc1 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) (ks : FVec Ideal S1x128 .f32) :
    k0_pay88 (F := Ideal) ss (k0_pay86 (F := Ideal) s cc c1 w ws) (k0_pay87 (F := Ideal) s c1 w ws) ks
      = kco (rot (half (k0_pay16 (F := Ideal) s c1 w ws) 128 slices_S384x256_o0_128_S384x128) cc ss) ks := rfl

theorem kc0 (s : FVec Ideal S384x1 .f32) (c1 : FVec Ideal S384x4608 .fp8e4m3) (w : FVec Ideal S4608x256 .fp8e4m3) (ws : FVec Ideal S1x256 .f32) (cc : FVec Ideal S384x128 .f32) (ss : FVec Ideal S384x128 .f32) (ks : FVec Ideal S1x128 .f32) :
    k0_pay84 (F := Ideal) s cc ss c1 w ws ks
      = kco (rot (half (k0_pay16 (F := Ideal) s c1 w ws) 0 slices_S384x256_o0_0_S384x128) cc ss) ks := rfl

end Cert.QkvPay

end
-- ==== Proof.QkvOut8.lean ====
/- The attention input's kernel: the rows' codes. -/
module

public import proofs.«01_k».proof.Proof.QkvTile
public import proofs.«01_k».proof.Proof.QkvPay

@[expose] public section

set_option maxRecDepth 16384

noncomputable section

open Idealize.ShloMosaic Idealize.ShloMosaic.TcCoe Idealize.SL.Sem
open Idealize.ShloMosaic.Pipeline (Dat)

namespace Cert.QkvVal

namespace K
open Cert.QkvKernelIdeal Cert.QkvKernelIdeal.Gen Cert.QkvRows
variable (m : (ℓ : Loc nD τ sig) → Buf (Elt Ideal) ℓ)

theorem emb8 (t : Fin cfg0.N) (r : Fin 384) (k : Fin 4608) : ((cfg0.win 8).blk t).view.emb (ix2 r k) = ix2 (gr t r) k := by
  blk_ext [idx t]

theorem tile8 (c : Dev nD) (t : Fin cfg0.N) (r : Fin 384) (j : Fin 4608) :
    (outsAt0 m c t).1 (ix2 r j) = C1 (m ((c : Thread nD τ).loc main_arg0)) (m ((c : Thread nD τ).loc main_arg1)) (ix2 (gr t r) j) := by
  unfold outsAt0
  frame_out
  exact (congrFun (pay8_eq _) _).symm.trans (cb_at m c t r j)

theorem final8 (c : Dev nD) : (dats m 0 c).arrAt 8 (cfgs 0).N
    = C1 (m ((c : Thread nD τ).loc main_arg0)) (m ((c : Thread nD τ).loc main_arg1)) := by
  refine (dats m 0 c).arrAt_eq_of_covers 8 _ (by decide +kernel) fun t hf y => ?_
  obtain ⟨r, j, rfl⟩ : ∃ (r : Fin 384) (j : Fin 4608), y = ix2 r j := ⟨y 0, y 1, eq_ix2 y⟩
  rw [emb8 t r j, after0_8]
  exact tile8 m c t r j

end K

end Cert.QkvVal

end
-- ==== Proof.QkvOut9.lean ====
/- The attention input's kernel: the rows' scales. -/
module

public import proofs.«01_k».proof.Proof.QkvTile
public import proofs.«01_k».proof.Proof.QkvPay

@[expose] public section

set_option maxRecDepth 16384

noncomputable section

open Idealize.ShloMosaic Idealize.ShloMosaic.TcCoe Idealize.SL.Sem
open Idealize.ShloMosaic.Pipeline (Dat)

namespace Cert.QkvVal

namespace K
open Cert.QkvKernelIdeal Cert.QkvKernelIdeal.Gen Cert.QkvRows
variable (m : (ℓ : Loc nD τ sig) → Buf (Elt Ideal) ℓ)

theorem emb9 (t : Fin cfg0.N) (r : Fin 384) (k : Fin 1) : ((cfg0.win 9).blk t).view.emb (ix2 r k) = ix2 (gr t r) k := by
  blk_ext [idx t]

theorem tile9 (c : Dev nD) (t : Fin cfg0.N) (r : Fin 384) (j : Fin 1) :
    (outsAt0 m c t).2.1 (ix2 r j) = S1 (m ((c : Thread nD τ).loc main_arg0)) (m ((c : Thread nD τ).loc main_arg1)) (ix2 (gr t r) j) := by
  unfold outsAt0
  frame_out
  obtain rfl : j = 0 := Subsingleton.elim _ _
  exact sb_at m c t r

theorem final9 (c : Dev nD) : (dats m 0 c).arrAt 9 (cfgs 0).N
    = S1 (m ((c : Thread nD τ).loc main_arg0)) (m ((c : Thread nD τ).loc main_arg1)) := by
  refine (dats m 0 c).arrAt_eq_of_covers 9 _ (by decide +kernel) fun t hf y => ?_
  obtain ⟨r, j, rfl⟩ : ∃ (r : Fin 384) (j : Fin 1), y = ix2 r j := ⟨y 0, y 1, eq_ix2 y⟩
  rw [emb9 t r j, after0_9]
  exact tile9 m c t r j

end K

end Cert.QkvVal

end
-- ==== Proof.QkvOut10.lean ====
/- The attention input's kernel: the query heads' codes. -/
module

public import proofs.«01_k».proof.Proof.QkvTile
public import proofs.«01_k».proof.Proof.QkvPay

@[expose] public section

set_option maxRecDepth 16384

noncomputable section

open Idealize.ShloMosaic Idealize.ShloMosaic.TcCoe Idealize.SL.Sem
open Idealize.ShloMosaic.Pipeline (Dat)

namespace Cert.QkvVal

namespace K
open Cert.QkvKernelIdeal Cert.QkvKernelIdeal.Gen Cert.QkvRows
variable (m : (ℓ : Loc nD τ sig) → Buf (Elt Ideal) ℓ)

theorem emb10 (t : Fin cfg0.N) (r : Fin 384) (k : Fin 2048) : ((cfg0.win 10).blk t).view.emb (ix2 r k) = ix2 (gr t r) k := by
  blk_ext [idx t]

theorem tile10 (c : Dev nD) (t : Fin cfg0.N) (r : Fin 384) (j : Fin 2048) :
    (outsAt0 m c t).2.2.1 (ix2 r j) = QC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (gr t r) j) := by
  unfold outsAt0
  frame_out
  canon_tiles x h
  case piece0 => exact (congrFun (QkvPay.qc15 ..) x).trans (qc_at m c t 1792 128 inb_S4608x4096_S4608x256_0_1792 inb_S1x4096_S1x256_0_1792 (by decide) 15 rfl (by decide) (by decide) r j x h0 (h1.trans (by first | rfl | exact (Nat.zero_add _).symm)))
  case piece1 => exact (congrFun (QkvPay.qc14 ..) x).trans (qc_at m c t 1792 0 inb_S4608x4096_S4608x256_0_1792 inb_S1x4096_S1x256_0_1792 (by decide) 14 rfl (by decide) (by decide) r j x h0 (h1.trans (by first | rfl | exact (Nat.zero_add _).symm)))
  case piece2 => exact (congrFun (QkvPay.qc13 ..) x).trans (qc_at m c t 1536 128 inb_S4608x4096_S4608x256_0_1536 inb_S1x4096_S1x256_0_1536 (by decide) 13 rfl (by decide) (by decide) r j x h0 (h1.trans (by first | rfl | exact (Nat.zero_add _).symm)))
  case piece3 => exact (congrFun (QkvPay.qc12 ..) x).trans (qc_at m c t 1536 0 inb_S4608x4096_S4608x256_0_1536 inb_S1x4096_S1x256_0_1536 (by decide) 12 rfl (by decide) (by decide) r j x h0 (h1.trans (by first | rfl | exact (Nat.zero_add _).symm)))
  case piece4 => exact (congrFun (QkvPay.qc11 ..) x).trans (qc_at m c t 1280 128 inb_S4608x4096_S4608x256_0_1280 inb_S1x4096_S1x256_0_1280 (by decide) 11 rfl (by decide) (by decide) r j x h0 (h1.trans (by first | rfl | exact (Nat.zero_add _).symm)))
  case piece5 => exact (congrFun (QkvPay.qc10 ..) x).trans (qc_at m c t 1280 0 inb_S4608x4096_S4608x256_0_1280 inb_S1x4096_S1x256_0_1280 (by decide) 10 rfl (by decide) (by decide) r j x h0 (h1.trans (by first | rfl | exact (Nat.zero_add _).symm)))
  case piece6 => exact (congrFun (QkvPay.qc9 ..) x).trans (qc_at m c t 1024 128 inb_S4608x4096_S4608x256_0_1024 inb_S1x4096_S1x256_0_1024 (by decide) 9 rfl (by decide) (by decide) r j x h0 (h1.trans (by first | rfl | exact (Nat.zero_add _).symm)))
  case piece7 => exact (congrFun (QkvPay.qc8 ..) x).trans (qc_at m c t 1024 0 inb_S4608x4096_S4608x256_0_1024 inb_S1x4096_S1x256_0_1024 (by decide) 8 rfl (by decide) (by decide) r j x h0 (h1.trans (by first | rfl | exact (Nat.zero_add _).symm)))
  case piece8 => exact (congrFun (QkvPay.qc7 ..) x).trans (qc_at m c t 768 128 inb_S4608x4096_S4608x256_0_768 inb_S1x4096_S1x256_0_768 (by decide) 7 rfl (by decide) (by decide) r j x h0 (h1.trans (by first | rfl | exact (Nat.zero_add _).symm)))
  case piece9 => exact (congrFun (QkvPay.qc6 ..) x).trans (qc_at m c t 768 0 inb_S4608x4096_S4608x256_0_768 inb_S1x4096_S1x256_0_768 (by decide) 6 rfl (by decide) (by decide) r j x h0 (h1.trans (by first | rfl | exact (Nat.zero_add _).symm)))
  case piece10 => exact (congrFun (QkvPay.qc5 ..) x).trans (qc_at m c t 512 128 inb_S4608x4096_S4608x256_0_512 inb_S1x4096_S1x256_0_512 (by decide) 5 rfl (by decide) (by decide) r j x h0 (h1.trans (by first | rfl | exact (Nat.zero_add _).symm)))
  case piece11 => exact (congrFun (QkvPay.qc4 ..) x).trans (qc_at m c t 512 0 inb_S4608x4096_S4608x256_0_512 inb_S1x4096_S1x256_0_512 (by decide) 4 rfl (by decide) (by decide) r j x h0 (h1.trans (by first | rfl | exact (Nat.zero_add _).symm)))
  case piece12 => exact (congrFun (QkvPay.qc3 ..) x).trans (qc_at m c t 256 128 inb_S4608x4096_S4608x256_0_256 inb_S1x4096_S1x256_0_256 (by decide) 3 rfl (by decide) (by decide) r j x h0 (h1.trans (by first | rfl | exact (Nat.zero_add _).symm)))
  case piece13 => exact (congrFun (QkvPay.qc2 ..) x).trans (qc_at m c t 256 0 inb_S4608x4096_S4608x256_0_256 inb_S1x4096_S1x256_0_256 (by decide) 2 rfl (by decide) (by decide) r j x h0 (h1.trans (by first | rfl | exact (Nat.zero_add _).symm)))
  case piece14 => exact (congrFun (QkvPay.qc1 ..) x).trans (qc_at m c t 0 128 inb_S4608x4096_S4608x256_0_0 inb_S1x4096_S1x256_0_0 (by decide) 1 rfl (by decide) (by decide) r j x h0 (h1.trans (by first | rfl | exact (Nat.zero_add _).symm)))
  case piece15 => exact (congrFun (QkvPay.qc0 ..) x).trans (qc_at m c t 0 0 inb_S4608x4096_S4608x256_0_0 inb_S1x4096_S1x256_0_0 (by decide) 0 rfl (by decide) (by decide) r j x h0 (h1.trans (by first | rfl | exact (Nat.zero_add _).symm)))

theorem final10 (c : Dev nD) : (dats m 0 c).arrAt 10 (cfgs 0).N
    = QC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  obtain ⟨r, j, rfl⟩ : ∃ (r : Fin 384) (j : Fin 2048), y = ix2 r j := ⟨y 0, y 1, eq_ix2 y⟩
  rw [emb10 t r j, after0_10]
  exact tile10 m c t r j

end K

end Cert.QkvVal

end
-- ==== Proof.QkvOut11.lean ====
/- The attention input's kernel: the query heads' scales. -/
module

public import proofs.«01_k».proof.Proof.QkvTile
public import proofs.«01_k».proof.Proof.QkvPay

@[expose] public section

set_option maxRecDepth 16384

noncomputable section

open Idealize.ShloMosaic Idealize.ShloMosaic.TcCoe Idealize.SL.Sem
open Idealize.ShloMosaic.Pipeline (Dat)

namespace Cert.QkvVal

namespace K
open Cert.QkvKernelIdeal Cert.QkvKernelIdeal.Gen Cert.QkvRows
variable (m : (ℓ : Loc nD τ sig) → Buf (Elt Ideal) ℓ)

theorem emb11 (t : Fin cfg0.N) (r : Fin 384) (k : Fin 16) : ((cfg0.win 11).blk t).view.emb (ix2 r k) = ix2 (gr t r) k := by
  blk_ext [idx t]

theorem tile11 (c : Dev nD) (t : Fin cfg0.N) (r : Fin 384) (j : Fin 16) :
    (outsAt0 m c t).2.2.2.1 (ix2 r j) = QS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (gr t r) j) := by
  unfold outsAt0
  frame_out
  canon_tiles x h
  case piece0 => exact (congrFun (QkvPay.qs15 ..) x).trans (qs_at m c t 1792 128 inb_S4608x4096_S4608x256_0_1792 inb_S1x4096_S1x256_0_1792 (by decide) 15 rfl (by decide) (by decide) r j x h0 (h1.trans (by first | rfl | exact (Nat.zero_add _).symm)))
  case piece1 => exact (congrFun (QkvPay.qs14 ..) x).trans (qs_at m c t 1792 0 inb_S4608x4096_S4608x256_0_1792 inb_S1x4096_S1x256_0_1792 (by decide) 14 rfl (by decide) (by decide) r j x h0 (h1.trans (by first | rfl | exact (Nat.zero_add _).symm)))
  case piece2 => exact (congrFun (QkvPay.qs13 ..) x).trans (qs_at m c t 1536 128 inb_S4608x4096_S4608x256_0_1536 inb_S1x4096_S1x256_0_1536 (by decide) 13 rfl (by decide) (by decide) r j x h0 (h1.trans (by first | rfl | exact (Nat.zero_add _).symm)))
  case piece3 => exact (congrFun (QkvPay.qs12 ..) x).trans (qs_at m c t 1536 0 inb_S4608x4096_S4608x256_0_1536 inb_S1x4096_S1x256_0_1536 (by decide) 12 rfl (by decide) (by decide) r j x h0 (h1.trans (by first | rfl | exact (Nat.zero_add _).symm)))
  case piece4 => exact (congrFun (QkvPay.qs11 ..) x).trans (qs_at m c t 1280 128 inb_S4608x4096_S4608x256_0_1280 inb_S1x4096_S1x256_0_1280 (by decide) 11 rfl (by decide) (by decide) r j x h0 (h1.trans (by first | rfl | exact (Nat.zero_add _).symm)))
  case piece5 => exact (congrFun (QkvPay.qs10 ..) x).trans (qs_at m c t 1280 0 inb_S4608x4096_S4608x256_0_1280 inb_S1x4096_S1x256_0_1280 (by decide) 10 rfl (by decide) (by decide) r j x h0 (h1.trans (by first | rfl | exact (Nat.zero_add _).symm)))
  case piece6 => exact (congrFun (QkvPay.qs9 ..) x).trans (qs_at m c t 1024 128 inb_S4608x4096_S4608x256_0_1024 inb_S1x4096_S1x256_0_1024 (by decide) 9 rfl (by decide) (by decide) r j x h0 (h1.trans (by first | rfl | exact (Nat.zero_add _).symm)))
  case piece7 => exact (congrFun (QkvPay.qs8 ..) x).trans (qs_at m c t 1024 0 inb_S4608x4096_S4608x256_0_1024 inb_S1x4096_S1x256_0_1024 (by decide) 8 rfl (by decide) (by decide) r j x h0 (h1.trans (by first | rfl | exact (Nat.zero_add _).symm)))
  case piece8 => exact (congrFun (QkvPay.qs7 ..) x).trans (qs_at m c t 768 128 inb_S4608x4096_S4608x256_0_768 inb_S1x4096_S1x256_0_768 (by decide) 7 rfl (by decide) (by decide) r j x h0 (h1.trans (by first | rfl | exact (Nat.zero_add _).symm)))
  case piece9 => exact (congrFun (QkvPay.qs6 ..) x).trans (qs_at m c t 768 0 inb_S4608x4096_S4608x256_0_768 inb_S1x4096_S1x256_0_768 (by decide) 6 rfl (by decide) (by decide) r j x h0 (h1.trans (by first | rfl | exact (Nat.zero_add _).symm)))
  case piece10 => exact (congrFun (QkvPay.qs5 ..) x).trans (qs_at m c t 512 128 inb_S4608x4096_S4608x256_0_512 inb_S1x4096_S1x256_0_512 (by decide) 5 rfl (by decide) (by decide) r j x h0 (h1.trans (by first | rfl | exact (Nat.zero_add _).symm)))
  case piece11 => exact (congrFun (QkvPay.qs4 ..) x).trans (qs_at m c t 512 0 inb_S4608x4096_S4608x256_0_512 inb_S1x4096_S1x256_0_512 (by decide) 4 rfl (by decide) (by decide) r j x h0 (h1.trans (by first | rfl | exact (Nat.zero_add _).symm)))
  case piece12 => exact (congrFun (QkvPay.qs3 ..) x).trans (qs_at m c t 256 128 inb_S4608x4096_S4608x256_0_256 inb_S1x4096_S1x256_0_256 (by decide) 3 rfl (by decide) (by decide) r j x h0 (h1.trans (by first | rfl | exact (Nat.zero_add _).symm)))
  case piece13 => exact (congrFun (QkvPay.qs2 ..) x).trans (qs_at m c t 256 0 inb_S4608x4096_S4608x256_0_256 inb_S1x4096_S1x256_0_256 (by decide) 2 rfl (by decide) (by decide) r j x h0 (h1.trans (by first | rfl | exact (Nat.zero_add _).symm)))
  case piece14 => exact (congrFun (QkvPay.qs1 ..) x).trans (qs_at m c t 0 128 inb_S4608x4096_S4608x256_0_0 inb_S1x4096_S1x256_0_0 (by decide) 1 rfl (by decide) (by decide) r j x h0 (h1.trans (by first | rfl | exact (Nat.zero_add _).symm)))
  case piece15 => exact (congrFun (QkvPay.qs0 ..) x).trans (qs_at m c t 0 0 inb_S4608x4096_S4608x256_0_0 inb_S1x4096_S1x256_0_0 (by decide) 0 rfl (by decide) (by decide) r j x h0 (h1.trans (by first | rfl | exact (Nat.zero_add _).symm)))

theorem final11 (c : Dev nD) : (dats m 0 c).arrAt 11 (cfgs 0).N
    = QS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t hf y => ?_
  obtain ⟨r, j, rfl⟩ : ∃ (r : Fin 384) (j : Fin 16), y = ix2 r j := ⟨y 0, y 1, eq_ix2 y⟩
  rw [emb11 t r j, after0_11]
  exact tile11 m c t r j

end K

end Cert.QkvVal

end
-- ==== Proof.QkvOut12.lean ====
/- The attention input's kernel: the key heads' codes. -/
module

public import proofs.«01_k».proof.Proof.QkvTile
public import proofs.«01_k».proof.Proof.QkvPay

@[expose] public section

set_option maxRecDepth 16384

noncomputable section

open Idealize.ShloMosaic Idealize.ShloMosaic.TcCoe Idealize.SL.Sem
open Idealize.ShloMosaic.Pipeline (Dat)

namespace Cert.QkvVal

namespace K
open Cert.QkvKernelIdeal Cert.QkvKernelIdeal.Gen Cert.QkvRows
variable (m : (ℓ : Loc nD τ sig) → Buf (Elt Ideal) ℓ)

theorem emb12 (t : Fin cfg0.N) (r : Fin 384) (k : Fin 1024) : ((cfg0.win 12).blk t).view.emb (ix2 r k) = ix2 (gr t r) k := by
  blk_ext [idx t]

theorem tile12 (c : Dev nD) (t : Fin cfg0.N) (r : Fin 384) (j : Fin 1024) :
    (outsAt0 m c t).2.2.2.2.1 (ix2 r j) = KC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (gr t r) j) := by
  unfold outsAt0
  frame_out
  canon_tiles x h
  case piece0 => exact (congrFun (QkvPay.kc7 ..) x).trans (kc_at m c t 2816 128 inb_S4608x4096_S4608x256_0_2816 inb_S1x4096_S1x256_0_2816 (by decide) 7 896 inb_S1x1024_S1x128_0_896 rfl rfl (by decide) (by decide) r j x h0 (h1.trans (by first | rfl | exact (Nat.zero_add _).symm)))
  case piece1 => exact (congrFun (QkvPay.kc6 ..) x).trans (kc_at m c t 2816 0 inb_S4608x4096_S4608x256_0_2816 inb_S1x4096_S1x256_0_2816 (by decide) 6 768 inb_S1x1024_S1x128_0_768 rfl rfl (by decide) (by decide) r j x h0 (h1.trans (by first | rfl | exact (Nat.zero_add _).symm)))
  case piece2 => exact (congrFun (QkvPay.kc5 ..) x).trans (kc_at m c t 2560 128 inb_S4608x4096_S4608x256_0_2560 inb_S1x4096_S1x256_0_2560 (by decide) 5 640 inb_S1x1024_S1x128_0_640 rfl rfl (by decide) (by decide) r j x h0 (h1.trans (by first | rfl | exact (Nat.zero_add _).symm)))
  case piece3 => exact (congrFun (QkvPay.kc4 ..) x).trans (kc_at m c t 2560 0 inb_S4608x4096_S4608x256_0_2560 inb_S1x4096_S1x256_0_2560 (by decide) 4 512 inb_S1x1024_S1x128_0_512 rfl rfl (by decide) (by decide) r j x h0 (h1.trans (by first | rfl | exact (Nat.zero_add _).symm)))
  case piece4 => exact (congrFun (QkvPay.kc3 ..) x).trans (kc_at m c t 2304 128 inb_S4608x4096_S4608x256_0_2304 inb_S1x4096_S1x256_0_2304 (by decide) 3 384 inb_S1x1024_S1x128_0_384 rfl rfl (by decide) (by decide) r j x h0 (h1.trans (by first | rfl | exact (Nat.zero_add _).symm)))
  case piece5 => exact (congrFun (QkvPay.kc2 ..) x).trans (kc_at m c t 2304 0 inb_S4608x4096_S4608x256_0_2304 inb_S1x4096_S1x256_0_2304 (by decide) 2 256 inb_S1x1024_S1x128_0_256 rfl rfl (by decide) (by decide) r j x h0 (h1.trans (by first | rfl | exact (Nat.zero_add _).symm)))
  case piece6 => exact (congrFun (QkvPay.kc1 ..) x).trans (kc_at m c t 2048 128 inb_S4608x4096_S4608x256_0_2048 inb_S1x4096_S1x256_0_2048 (by decide) 1 128 inb_S1x1024_S1x128_0_128 rfl rfl (by decide) (by decide) r j x h0 (h1.trans (by first | rfl | exact (Nat.zero_add _).symm)))
  case piece7 => exact (congrFun (QkvPay.kc0 ..) x).trans (kc_at m c t 2048 0 inb_S4608x4096_S4608x256_0_2048 inb_S1x4096_S1x256_0_2048 (by decide) 0 0 inb_S1x1024_S1x128_0_0 rfl rfl (by decide) (by decide) r j x h0 (h1.trans (by first | rfl | exact (Nat.zero_add _).symm)))

theorem final12 (c : Dev nD) : (dats m 0 c).arrAt 12 (cfgs 0).N
    = KC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t hf y => ?_
  obtain ⟨r, j, rfl⟩ : ∃ (r : Fin 384) (j : Fin 1024), y = ix2 r j := ⟨y 0, y 1, eq_ix2 y⟩
  rw [emb12 t r j, after0_12]
  exact tile12 m c t r j

end K

end Cert.QkvVal

end
-- ==== Proof.QkvOut13.lean ====
/- The attention input's kernel: the value heads' codes. -/
module

public import proofs.«01_k».proof.Proof.QkvTile
public import proofs.«01_k».proof.Proof.QkvPay

@[expose] public section

set_option maxRecDepth 16384

noncomputable section

open Idealize.ShloMosaic Idealize.ShloMosaic.TcCoe Idealize.SL.Sem
open Idealize.ShloMosaic.Pipeline (Dat)

namespace Cert.QkvVal

namespace K
open Cert.QkvKernelIdeal Cert.QkvKernelIdeal.Gen Cert.QkvRows
variable (m : (ℓ : Loc nD τ sig) → Buf (Elt Ideal) ℓ)

theorem emb13 (t : Fin cfg0.N) (r : Fin 384) (k : Fin 1024) : ((cfg0.win 13).blk t).view.emb (ix2 r k) = ix2 (gr t r) k := by
  blk_ext [idx t]

theorem tile13 (c : Dev nD) (t : Fin cfg0.N) (r : Fin 384) (j : Fin 1024) :
    (outsAt0 m c t).2.2.2.2.2 (ix2 r j) = VC (m ((c : Thread nD τ).loc main_arg0)) (m ((c : Thread nD τ).loc main_arg1)) (m ((c : Thread nD τ).loc main_arg2)) (m ((c : Thread nD τ).loc main_arg3)) (m ((c : Thread nD τ).loc main_arg7)) (ix2 (gr t r) j) := by
  unfold outsAt0
  frame_out
  canon_tiles x h
  case piece0 => exact (congrFun (QkvPay.vc7 ..) x).trans (vc_at m c t 3840 128 inb_S4608x4096_S4608x256_0_3840 inb_S1x4096_S1x256_0_3840 (by decide) 7 896 inb_S1x1024_S1x128_0_896 rfl rfl (by decide) (by decide) r j x h0 (h1.trans (by first | rfl | exact (Nat.zero_add _).symm)))
  case piece1 => exact (congrFun (QkvPay.vc6 ..) x).trans (vc_at m c t 3840 0 inb_S4608x4096_S4608x256_0_3840 inb_S1x4096_S1x256_0_3840 (by decide) 6 768 inb_S1x1024_S1x128_0_768 rfl rfl (by decide) (by decide) r j x h0 (h1.trans (by first | rfl | exact (Nat.zero_add _).symm)))
  case piece2 => exact (congrFun (QkvPay.vc5 ..) x).trans (vc_at m c t 3584 128 inb_S4608x4096_S4608x256_0_3584 inb_S1x4096_S1x256_0_3584 (by decide) 5 640 inb_S1x1024_S1x128_0_640 rfl rfl (by decide) (by decide) r j x h0 (h1.trans (by first | rfl | exact (Nat.zero_add _).symm)))
  case piece3 => exact (congrFun (QkvPay.vc4 ..) x).trans (vc_at m c t 3584 0 inb_S4608x4096_S4608x256_0_3584 inb_S1x4096_S1x256_0_3584 (by decide) 4 512 inb_S1x1024_S1x128_0_512 rfl rfl (by decide) (by decide) r j x h0 (h1.trans (by first | rfl | exact (Nat.zero_add _).symm)))
  case piece4 => exact (congrFun (QkvPay.vc3 ..) x).trans (vc_at m c t 3328 128 inb_S4608x4096_S4608x256_0_3328 inb_S1x4096_S1x256_0_3328 (by decide) 3 384 inb_S1x1024_S1x128_0_384 rfl rfl (by decide) (by decide) r j x h0 (h1.trans (by first | rfl | exact (Nat.zero_add _).symm)))
  case piece5 => exact (congrFun (QkvPay.vc2 ..) x).trans (vc_at m c t 3328 0 inb_S4608x4096_S4608x256_0_3328 inb_S1x4096_S1x256_0_3328 (by decide) 2 256 inb_S1x1024_S1x128_0_256 rfl rfl (by decide) (by decide) r j x h0 (h1.trans (by first | rfl | exact (Nat.zero_add _).symm)))
  case piece6 => exact (congrFun (QkvPay.vc1 ..) x).trans (vc_at m c t 3072 128 inb_S4608x4096_S4608x256_0_3072 inb_S1x4096_S1x256_0_3072 (by decide) 1 128 inb_S1x1024_S1x128_0_128 rfl rfl (by decide) (by decide) r j x h0 (h1.trans (by first | rfl | exact (Nat.zero_add _).symm)))
  case piece7 => exact (congrFun (QkvPay.vc0 ..) x).trans (vc_at m c t 3072 0 inb_S4608x4096_S4608x256_0_3072 inb_S1x4096_S1x256_0_3072 (by decide) 0 0 inb_S1x1024_S1x128_0_0 rfl rfl (by decide) (by decide) r j x h0 (h1.trans (by first | rfl | exact (Nat.zero_add _).symm)))

theorem final13 (c : Dev nD) : (dats m 0 c).arrAt 13 (cfgs 0).N
    = VC (m ((c : Thread nD τ).loc main_arg0)) (m ((c : Thread nD τ).loc main_arg1)) (m ((c : Thread nD τ).loc main_arg2)) (m ((c : Thread nD τ).loc main_arg3)) (m ((c : Thread nD τ).loc main_arg7)) := by
  refine (dats m 0 c).arrAt_eq_of_covers 13 _ (by decide +kernel) fun t hf y => ?_
  obtain ⟨r, j, rfl⟩ : ∃ (r : Fin 384) (j : Fin 1024), y = ix2 r j := ⟨y 0, y 1, eq_ix2 y⟩
  rw [emb13 t r j, after0_13]
  exact tile13 m c t r j

end K

end Cert.QkvVal

end
-- ==== Proof.QkvClaim.lean ====
/- The claim for one call: both programs run and end with the same results. -/
module

public import proofs.«01_k».proof.Proof.QkvRef
public import proofs.«01_k».proof.Proof.QkvOut8
public import proofs.«01_k».proof.Proof.QkvOut9
public import proofs.«01_k».proof.Proof.QkvOut10
public import proofs.«01_k».proof.Proof.QkvOut11
public import proofs.«01_k».proof.Proof.QkvOut12
public import proofs.«01_k».proof.Proof.QkvOut13
public import proofs.«01_k».proof.Defs

@[expose] public section

set_option maxRecDepth 16384

noncomputable section

open Idealize.ShloMosaic Idealize.ShloMosaic.TcCoe Idealize.SL.Sem
open Idealize.ShloMosaic.Pipeline (Dat)

namespace Cert.QkvVal

theorem claim [Cert.QkvKernelIdeal.Facts] [Cert.QkvReferenceIdeal.Facts] : Cert.algebraic_QkvKernelIdeal_QkvReferenceIdeal := by
  intro m g m' g' _ hagree
  refine ⟨fun c => C1 (m ((c : Thread Cert.QkvKernelIdeal.nD Cert.QkvKernelIdeal.τ).loc Cert.QkvKernelIdeal.main_arg0)) (m ((c : Thread Cert.QkvKernelIdeal.nD Cert.QkvKernelIdeal.τ).loc Cert.QkvKernelIdeal.main_arg1)),
    fun c => S1 (m ((c : Thread Cert.QkvKernelIdeal.nD Cert.QkvKernelIdeal.τ).loc Cert.QkvKernelIdeal.main_arg0)) (m ((c : Thread Cert.QkvKernelIdeal.nD Cert.QkvKernelIdeal.τ).loc Cert.QkvKernelIdeal.main_arg1)),
    fun c => QC (m ((c : Thread Cert.QkvKernelIdeal.nD Cert.QkvKernelIdeal.τ).loc Cert.QkvKernelIdeal.main_arg0)) (m ((c : Thread Cert.QkvKernelIdeal.nD Cert.QkvKernelIdeal.τ).loc Cert.QkvKernelIdeal.main_arg1)) (m ((c : Thread Cert.QkvKernelIdeal.nD Cert.QkvKernelIdeal.τ).loc Cert.QkvKernelIdeal.main_arg2)) (m ((c : Thread Cert.QkvKernelIdeal.nD Cert.QkvKernelIdeal.τ).loc Cert.QkvKernelIdeal.main_arg3)) (m ((c : Thread Cert.QkvKernelIdeal.nD Cert.QkvKernelIdeal.τ).loc Cert.QkvKernelIdeal.main_arg4)) (m ((c : Thread Cert.QkvKernelIdeal.nD Cert.QkvKernelIdeal.τ).loc Cert.QkvKernelIdeal.main_arg5)),
    fun c => QS (m ((c : Thread Cert.QkvKernelIdeal.nD Cert.QkvKernelIdeal.τ).loc Cert.QkvKernelIdeal.main_arg0)) (m ((c : Thread Cert.QkvKernelIdeal.nD Cert.QkvKernelIdeal.τ).loc Cert.QkvKernelIdeal.main_arg1)) (m ((c : Thread Cert.QkvKernelIdeal.nD Cert.QkvKernelIdeal.τ).loc Cert.QkvKernelIdeal.main_arg2)) (m ((c : Thread Cert.QkvKernelIdeal.nD Cert.QkvKernelIdeal.τ).loc Cert.QkvKernelIdeal.main_arg3)) (m ((c : Thread Cert.QkvKernelIdeal.nD Cert.QkvKernelIdeal.τ).loc Cert.QkvKernelIdeal.main_arg4)) (m ((c : Thread Cert.QkvKernelIdeal.nD Cert.QkvKernelIdeal.τ).loc Cert.QkvKernelIdeal.main_arg5)),
    fun c => KC (m ((c : Thread Cert.QkvKernelIdeal.nD Cert.QkvKernelIdeal.τ).loc Cert.QkvKernelIdeal.main_arg0)) (m ((c : Thread Cert.QkvKernelIdeal.nD Cert.QkvKernelIdeal.τ).loc Cert.QkvKernelIdeal.main_arg1)) (m ((c : Thread Cert.QkvKernelIdeal.nD Cert.QkvKernelIdeal.τ).loc Cert.QkvKernelIdeal.main_arg2)) (m ((c : Thread Cert.QkvKernelIdeal.nD Cert.QkvKernelIdeal.τ).loc Cert.QkvKernelIdeal.main_arg3)) (m ((c : Thread Cert.QkvKernelIdeal.nD Cert.QkvKernelIdeal.τ).loc Cert.QkvKernelIdeal.main_arg4)) (m ((c : Thread Cert.QkvKernelIdeal.nD Cert.QkvKernelIdeal.τ).loc Cert.QkvKernelIdeal.main_arg5)) (m ((c : Thread Cert.QkvKernelIdeal.nD Cert.QkvKernelIdeal.τ).loc Cert.QkvKernelIdeal.main_arg6)),
    fun c => VC (m ((c : Thread Cert.QkvKernelIdeal.nD Cert.QkvKernelIdeal.τ).loc Cert.QkvKernelIdeal.main_arg0)) (m ((c : Thread Cert.QkvKernelIdeal.nD Cert.QkvKernelIdeal.τ).loc Cert.QkvKernelIdeal.main_arg1)) (m ((c : Thread Cert.QkvKernelIdeal.nD Cert.QkvKernelIdeal.τ).loc Cert.QkvKernelIdeal.main_arg2)) (m ((c : Thread Cert.QkvKernelIdeal.nD Cert.QkvKernelIdeal.τ).loc Cert.QkvKernelIdeal.main_arg3)) (m ((c : Thread Cert.QkvKernelIdeal.nD Cert.QkvKernelIdeal.τ).loc Cert.QkvKernelIdeal.main_arg7)), ?_, ?_⟩
  · refine (θ_run _ _ _).mono (fun r h c => ?_) (Cert.QkvKernelIdeal.Value.run_blocks m g)
    obtain ⟨h0, h1, h2, h3, h4, h5, hr⟩ := h c
    exact ⟨h0.trans (K.final8 m c), h1.trans (K.final9 m c), h2.trans (K.final10 m c), h3.trans (K.final11 m c), h4.trans (K.final12 m c), h5.trans (K.final13 m c), hr⟩
  · refine (θ_run _ _ _).mono (fun r h c => ?_) (Cert.QkvReferenceIdeal.Value.run_blocks m' g')
    obtain ⟨h0, h1, h2, h3, h4, h5, hr⟩ := h c
    obtain ⟨e0, e1, e2, e3, e4, e5, e6, e7⟩ := hagree c
    exact ⟨h0.trans ((R.final8 m' c).trans (by rw [e0, e1])), h1.trans ((R.final9 m' c).trans (by rw [e0, e1])), h2.trans ((R.final10 m' c).trans (by rw [e0, e1, e2, e3, e4, e5])), h3.trans ((R.final11 m' c).trans (by rw [e0, e1, e2, e3, e4, e5])), h4.trans ((R.final12 m' c).trans (by rw [e0, e1, e2, e3, e4, e5, e6])), h5.trans ((R.final13 m' c).trans (by rw [e0, e1, e2, e3, e7])), hr⟩

end Cert.QkvVal

end
-- ==== Proof.OprojRows.lean ====
/- The output projection's payloads, row by row: one row of the kernel's block is the reference's row of the whole array,
   whenever the rows the two read are the same. -/
module

public import proofs.«01_k».proof.Proof.Gen.OprojKernelIdeal.Skeleton
public import proofs.«01_k».proof.Proof.Gen.OprojReferenceIdeal.Skeleton
public import proofs.«01_k».proof.Proof.Quant

@[expose] public section

set_option maxRecDepth 16384

noncomputable section

open Idealize.ShloMosaic Idealize.ShloMosaic.TcCoe Idealize.SL.Sem

namespace Cert.OprojRows

open Cert.OprojKernelIdeal (S384x2048 S384x4608 S384x1 S2048x4608 S1x4608)
open Cert.OprojReferenceIdeal (S14208x2048 S14208x4608 S14208x1)

/-- The residual row. -/
theorem h1_row (c2 : FVec Ideal S384x2048 .fp8e4m3) (w : FVec Ideal S2048x4608 .fp8e4m3) (s2 : FVec Ideal S384x1 .f32)
    (ws : FVec Ideal S1x4608 .f32) (x : FVec Ideal S384x4608 .bf16) (gp : FVec Ideal S1x4608 .f32)
    (C2 : FVec Ideal S14208x2048 .fp8e4m3) (S2 : FVec Ideal S14208x1 .f32) (X : FVec Ideal S14208x4608 .bf16)
    (r : Fin 384) (R : Fin 14208) (hc : ∀ k : Fin 2048, c2 (ix2 r k) = C2 (ix2 R k)) (hs : s2 (ix2 r 0) = S2 (ix2 R 0))
    (hx : ∀ k : Fin 4608, x (ix2 r k) = X (ix2 R k)) (j : Fin 4608) :
    OprojKernelIdeal.Gen.k0_pay4 (F := Ideal) c2 w s2 ws x gp (ix2 r j)
      = OprojReferenceIdeal.Gen.k0_pay4 (F := Ideal) X C2 S2 w ws gp (ix2 R j) := by
  pointwise [OprojKernelIdeal.Gen.k0_pay4, OprojReferenceIdeal.Gen.k0_pay4]
  simp only [hc, hs, hx]

/-- The mean of the residual row's squares, with the epsilon the reference's payload already adds. -/
theorem ms_row (c2 : FVec Ideal S384x2048 .fp8e4m3) (w : FVec Ideal S2048x4608 .fp8e4m3) (s2 : FVec Ideal S384x1 .f32)
    (ws : FVec Ideal S1x4608 .f32) (x : FVec Ideal S384x4608 .bf16) (gp : FVec Ideal S1x4608 .f32)
    (C2 : FVec Ideal S14208x2048 .fp8e4m3) (S2 : FVec Ideal S14208x1 .f32) (X : FVec Ideal S14208x4608 .bf16)
    (r : Fin 384) (R : Fin 14208) (hc : ∀ k : Fin 2048, c2 (ix2 r k) = C2 (ix2 R k)) (hs : s2 (ix2 r 0) = S2 (ix2 R 0))
    (hx : ∀ k : Fin 4608, x (ix2 r k) = X (ix2 R k)) :
    Ideal.div (OprojKernelIdeal.Gen.k0_pay6 (F := Ideal) c2 w s2 ws x gp (ix2 r 0)) (Ideal.ofBits .f32 0x45900000#32)
        + Ideal.ofBits .f32 0x358637BD#32
      = OprojReferenceIdeal.Gen.k0_pay6 (F := Ideal) X C2 S2 w ws gp (ix2 R 0) := by
  have e := h1_row c2 w s2 ws x gp C2 S2 X r R hc hs hx
  pointwise [OprojKernelIdeal.Gen.k0_pay6, OprojReferenceIdeal.Gen.k0_pay6]
  simp only [e]

/-- The normalised row. -/
theorem n_row (h : FVec Ideal S384x4608 .f32) (g : FVec Ideal S1x4608 .f32) (q : FVec Ideal S384x1 .f32)
    (H : FVec Ideal S14208x4608 .f32) (Q : FVec Ideal S14208x1 .f32)
    (r : Fin 384) (R : Fin 14208) (hh : ∀ k : Fin 4608, h (ix2 r k) = H (ix2 R k))
    (hq : Ideal.div (q (ix2 r 0)) (Ideal.ofBits .f32 0x45900000#32) + Ideal.ofBits .f32 0x358637BD#32 = Q (ix2 R 0)) (j : Fin 4608) :
    OprojKernelIdeal.Gen.k0_pay1 (F := Ideal) h g q (Scalar.ofBits .f32 0x45900000#32) (ix2 r j)
      = OprojReferenceIdeal.Gen.k0_pay1 (F := Ideal) H g Q (ix2 R j) := by
  pointwise [OprojKernelIdeal.Gen.k0_pay1, OprojReferenceIdeal.Gen.k0_pay1]
  simp only [hh, hq]

/-- The row's scale. -/
theorem s_row (h : FVec Ideal S384x4608 .f32) (g : FVec Ideal S1x4608 .f32) (q : FVec Ideal S384x1 .f32)
    (H : FVec Ideal S14208x4608 .f32) (Q : FVec Ideal S14208x1 .f32)
    (r : Fin 384) (R : Fin 14208) (hh : ∀ k : Fin 4608, h (ix2 r k) = H (ix2 R k))
    (hq : Ideal.div (q (ix2 r 0)) (Ideal.ofBits .f32 0x45900000#32) + Ideal.ofBits .f32 0x358637BD#32 = Q (ix2 R 0)) :
    OprojKernelIdeal.Gen.k0_pay2 (F := Ideal) h g q (Scalar.ofBits .f32 0x45900000#32) (ix2 r 0)
      = OprojReferenceIdeal.Gen.k0_pay2 (F := Ideal) H g Q (ix2 R 0) := by
  have e := n_row h g q H Q r R hh hq
  have e1 : OprojKernelIdeal.Gen.k0_pay2 (F := Ideal) h g q (Scalar.ofBits .f32 0x45900000#32)
    = Quant.scale (Quant.amax OprojKernelIdeal.Gen.reduces_S384x4608_S384 OprojKernelIdeal.Gen.shapeCasts_S384_S384x1
        (OprojKernelIdeal.Gen.k0_pay1 (F := Ideal) h g q (Scalar.ofBits .f32 0x45900000#32))) := rfl
  have e2 : OprojReferenceIdeal.Gen.k0_pay2 (F := Ideal) H g Q
    = Quant.scale (Quant.amax OprojReferenceIdeal.Gen.reduces_S14208x4608_S14208 OprojReferenceIdeal.Gen.shapeCasts_S14208_S14208x1
        (OprojReferenceIdeal.Gen.k0_pay1 (F := Ideal) H g Q)) := rfl
  rw [e1, e2, Quant.scale_apply, Quant.scale_apply, Quant.amax_apply, Quant.amax_apply]
  exact congrArg (fun v => Quant.scale1 (Quant.rowMax v)) (funext e)

/-- The row's codes. -/
theorem c_row (h : FVec Ideal S384x4608 .f32) (g : FVec Ideal S1x4608 .f32) (q : FVec Ideal S384x1 .f32)
    (H : FVec Ideal S14208x4608 .f32) (Q : FVec Ideal S14208x1 .f32)
    (r : Fin 384) (R : Fin 14208) (hh : ∀ k : Fin 4608, h (ix2 r k) = H (ix2 R k))
    (hq : Ideal.div (q (ix2 r 0)) (Ideal.ofBits .f32 0x45900000#32) + Ideal.ofBits .f32 0x358637BD#32 = Q (ix2 R 0)) (j : Fin 4608) :
    OprojKernelIdeal.Gen.k0_pay3 (F := Ideal) h g q (Scalar.ofBits .f32 0x45900000#32) (ix2 r j)
      = OprojReferenceIdeal.Gen.k0_pay3 (F := Ideal) H g Q (ix2 R j) := by
  have e := n_row h g q H Q r R hh hq j
  have e' := s_row h g q H Q r R hh hq
  have e1 : OprojKernelIdeal.Gen.k0_pay3 (F := Ideal) h g q (Scalar.ofBits .f32 0x45900000#32)
    = Quant.code OprojKernelIdeal.Gen.broadcasts_S384x1_S384x4608
        (OprojKernelIdeal.Gen.k0_pay1 (F := Ideal) h g q (Scalar.ofBits .f32 0x45900000#32))
        (OprojKernelIdeal.Gen.k0_pay2 (F := Ideal) h g q (Scalar.ofBits .f32 0x45900000#32)) := rfl
  have e2 : OprojReferenceIdeal.Gen.k0_pay3 (F := Ideal) H g Q
    = Quant.code OprojReferenceIdeal.Gen.broadcasts_S14208x1_S14208x4608
        (OprojReferenceIdeal.Gen.k0_pay1 (F := Ideal) H g Q) (OprojReferenceIdeal.Gen.k0_pay2 (F := Ideal) H g Q) := rfl
  rw [e1, e2, Quant.code_apply, Quant.code_apply, e, e']

/-- The next normalisation's gain, reshaped to its own shape. -/
theorem g_same (g : FVec Ideal S1x4608 .f32) :
    OprojKernelIdeal.Gen.k0_pay5 (F := Ideal) g = OprojReferenceIdeal.Gen.k0_pay5 (F := Ideal) g := rfl

end Cert.OprojRows

end
-- ==== Proof.Oproj.lean ====
/- The output projection: both programs' result arrays as one function of the arguments. -/
module

public import proofs.«01_k».proof.Proof.OprojRows
public import proofs.«01_k».proof.Proof.Gen.OprojKernelIdeal.Value
public import proofs.«01_k».proof.Proof.Gen.OprojReferenceIdeal.Value

@[expose] public section

set_option maxRecDepth 16384

noncomputable section

open Idealize.ShloMosaic Idealize.ShloMosaic.TcCoe Idealize.SL.Sem
open Idealize.ShloMosaic.Pipeline (Dat)

namespace Cert.OprojVal

open Cert.OprojReferenceIdeal (S14208x2048 S14208x4608 S14208x1 S2048x4608 S1x4608 S4608)

/-- A vector of columns as one row. -/
abbrev row (v : FVec Ideal S4608 .f32) : FVec Ideal S1x4608 .f32 := fun i => v (ix1 (i 1))

/-- The residual rows of the arguments. -/
abbrev H1 (C2 : FVec Ideal S14208x2048 .fp8e4m3) (S2 : FVec Ideal S14208x1 .f32) (X : FVec Ideal S14208x4608 .bf16)
    (W : FVec Ideal S2048x4608 .fp8e4m3) (ws gp : FVec Ideal S4608 .f32) : FVec Ideal S14208x4608 .f32 :=
  OprojReferenceIdeal.Gen.k0_pay4 (F := Ideal) X C2 S2 W (row ws) (row gp)

/-- Their mean squares. -/
abbrev MS (C2 : FVec Ideal S14208x2048 .fp8e4m3) (S2 : FVec Ideal S14208x1 .f32) (X : FVec Ideal S14208x4608 .bf16)
    (W : FVec Ideal S2048x4608 .fp8e4m3) (ws gp : FVec Ideal S4608 .f32) : FVec Ideal S14208x1 .f32 :=
  OprojReferenceIdeal.Gen.k0_pay6 (F := Ideal) X C2 S2 W (row ws) (row gp)

/-- The codes of the rows normalised for the gated layer. -/
abbrev C3 (C2 : FVec Ideal S14208x2048 .fp8e4m3) (S2 : FVec Ideal S14208x1 .f32) (X : FVec Ideal S14208x4608 .bf16)
    (W : FVec Ideal S2048x4608 .fp8e4m3) (ws gp gf : FVec Ideal S4608 .f32) : FVec Ideal S14208x4608 .fp8e4m3 :=
  OprojReferenceIdeal.Gen.k0_pay3 (F := Ideal) (H1 C2 S2 X W ws gp) (OprojReferenceIdeal.Gen.k0_pay5 (F := Ideal) (row gf)) (MS C2 S2 X W ws gp)

/-- Their scales. -/
abbrev S3 (C2 : FVec Ideal S14208x2048 .fp8e4m3) (S2 : FVec Ideal S14208x1 .f32) (X : FVec Ideal S14208x4608 .bf16)
    (W : FVec Ideal S2048x4608 .fp8e4m3) (ws gp gf : FVec Ideal S4608 .f32) : FVec Ideal S14208x1 .f32 :=
  OprojReferenceIdeal.Gen.k0_pay2 (F := Ideal) (H1 C2 S2 X W ws gp) (OprojReferenceIdeal.Gen.k0_pay5 (F := Ideal) (row gf)) (MS C2 S2 X W ws gp)

namespace R
open Cert.OprojReferenceIdeal Cert.OprojReferenceIdeal.Gen
variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)
theorem b0 (c : Dev nD) (t : Fin cfg0.N) : iblk m c 0 t = m ((c : Thread nD τ).loc main_arg0) := by
  blk_ext! [iblk, V, idx t]
theorem b1 (c : Dev nD) (t : Fin cfg0.N) : iblk m c 1 t = m ((c : Thread nD τ).loc main_arg1) := by
  blk_ext! [iblk, V, idx t]
theorem b2 (c : Dev nD) (t : Fin cfg0.N) : iblk m c 2 t = m ((c : Thread nD τ).loc main_arg2) := by
  blk_ext! [iblk, V, idx t]
theorem b3 (c : Dev nD) (t : Fin cfg0.N) : iblk m c 3 t = m ((c : Thread nD τ).loc main_arg3) := by
  blk_ext! [iblk, V, idx t]
theorem b4 (c : Dev nD) (t : Fin cfg0.N) : iblk m c 4 t = row (m ((c : Thread nD τ).loc main_arg4)) := by
  funext y
  blk_ext! [iblk, V, idx t]
theorem b5 (c : Dev nD) (t : Fin cfg0.N) : iblk m c 5 t = row (m ((c : Thread nD τ).loc main_arg5)) := by
  funext y
  blk_ext! [iblk, V, idx t]
theorem b6 (c : Dev nD) (t : Fin cfg0.N) : iblk m c 6 t = row (m ((c : Thread nD τ).loc main_arg6)) := by
  funext y
  blk_ext! [iblk, V, idx t]

theorem final7 (c : Dev nD) : (dats m 0 c).arrAt 7 (cfgs 0).N
    = H1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 7 t0_0 (by decide +kernel) _ fun j => ?_
  blk_simp
  rw [after0_7]
  unfold_out out0_7
  frame_out
  rw [b0, b1, b2, b3, b4, b5]

theorem final8 (c : Dev nD) : (dats m 0 c).arrAt 8 (cfgs 0).N
    = C3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 8 t0_0 (by decide +kernel) _ fun j => ?_
  blk_simp
  rw [after0_8]
  unfold_out out0_8
  frame_out
  rw [b0, b1, b2, b3, b4, b5, b6]

theorem final9 (c : Dev nD) : (dats m 0 c).arrAt 9 (cfgs 0).N
    = S3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 9 t0_0 (by decide +kernel) _ fun j => ?_
  blk_simp
  rw [after0_9]
  unfold_out out0_9
  frame_out
  rw [b0, b1, b2, b3, b4, b5, b6]

end R

namespace K
open Cert.OprojKernelIdeal Cert.OprojKernelIdeal.Gen
variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0] ∧ win0_7.index t = ![t.val, 0] ∧ win0_8.index t = ![t.val, 0] ∧ win0_9.index t = ![t.val, 0] :=
  (by decide +kernel : ∀ t : Fin grid0.N, _)

/-- The array's row at row `r` of block `t`. -/
abbrev gr (t : Fin cfg0.N) (r : Fin 384) : Fin 14208 := ⟨t.val * 384 + r.val, by have := lt_of_lt_of_eq t.isLt N_0; omega⟩

theorem b0 (c : Dev nD) (t : Fin cfg0.N) (r : Fin 384) (k : Fin 2048) :
    iblk m c 0 t (ix2 r k) = m ((c : Thread nD τ).loc main_arg0) (ix2 (gr t r) k) := by
  blk_ext [iblk, V, idx t]
theorem b1 (c : Dev nD) (t : Fin cfg0.N) (r : Fin 384) (k : Fin 1) :
    iblk m c 1 t (ix2 r k) = m ((c : Thread nD τ).loc main_arg1) (ix2 (gr t r) k) := by
  blk_ext [iblk, V, idx t]
theorem b2 (c : Dev nD) (t : Fin cfg0.N) (r : Fin 384) (k : Fin 4608) :
    iblk m c 2 t (ix2 r k) = m ((c : Thread nD τ).loc main_arg2) (ix2 (gr t r) k) := by
  blk_ext [iblk, V, idx t]
theorem b3 (c : Dev nD) (t : Fin cfg0.N) : iblk m c 3 t = m ((c : Thread nD τ).loc main_arg3) := by
  blk_ext! [iblk, V, idx t]
theorem b4 (c : Dev nD) (t : Fin cfg0.N) : iblk m c 4 t = row (m ((c : Thread nD τ).loc main_arg4)) := by
  funext y
  blk_ext! [iblk, V, idx t]
theorem b5 (c : Dev nD) (t : Fin cfg0.N) : iblk m c 5 t = row (m ((c : Thread nD τ).loc main_arg5)) := by
  funext y
  blk_ext! [iblk, V, idx t]
theorem b6 (c : Dev nD) (t : Fin cfg0.N) : iblk m c 6 t = row (m ((c : Thread nD τ).loc main_arg6)) := by
  funext y
  blk_ext! [iblk, V, idx t]

theorem emb7 (t : Fin cfg0.N) (r : Fin 384) (k : Fin 4608) : ((cfg0.win 7).blk t).view.emb (ix2 r k) = ix2 (gr t r) k := by
  blk_ext [idx t]

theorem final7 (c : Dev nD) : (dats m 0 c).arrAt 7 (cfgs 0).N
    = H1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  unfold_out out0_7
  frame_out
  rw [b3, b4, b5]
  obtain ⟨r, j, rfl⟩ : ∃ (r : Fin 384) (j : Fin 4608), y = ix2 r j := ⟨y 0, y 1, eq_ix2 y⟩
  refine Eq.trans ?_ (congrArg _ (emb7 t r j).symm)
  exact OprojRows.h1_row _ _ _ _ _ _ _ _ _ r (gr t r) (fun k => b0 m c t r k) (b1 m c t r 0) (fun k => b2 m c t r k) j

theorem emb8 (t : Fin cfg0.N) (r : Fin 384) (k : Fin 4608) : ((cfg0.win 8).blk t).view.emb (ix2 r k) = ix2 (gr t r) k := by
  blk_ext [idx t]

theorem final8 (c : Dev nD) : (dats m 0 c).arrAt 8 (cfgs 0).N
    = C3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  unfold_out out0_8
  frame_out
  rw [b3, b4, b5, b6]
  obtain ⟨r, j, rfl⟩ : ∃ (r : Fin 384) (j : Fin 4608), y = ix2 r j := ⟨y 0, y 1, eq_ix2 y⟩
  refine Eq.trans ?_ (congrArg _ (emb8 t r j).symm)
  exact OprojRows.c_row _ _ _ _ _ r (gr t r) (OprojRows.h1_row _ _ _ _ _ _ _ _ _ r (gr t r) (fun k => b0 m c t r k) (b1 m c t r 0) (fun k => b2 m c t r k)) (OprojRows.ms_row _ _ _ _ _ _ _ _ _ r (gr t r) (fun k => b0 m c t r k) (b1 m c t r 0) (fun k => b2 m c t r k)) j

theorem emb9 (t : Fin cfg0.N) (r : Fin 384) (k : Fin 1) : ((cfg0.win 9).blk t).view.emb (ix2 r k) = ix2 (gr t r) k := by
  blk_ext [idx t]

theorem final9 (c : Dev nD) : (dats m 0 c).arrAt 9 (cfgs 0).N
    = S3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  unfold_out out0_9
  frame_out
  rw [b3, b4, b5, b6]
  obtain ⟨r, j, rfl⟩ : ∃ (r : Fin 384) (j : Fin 1), y = ix2 r j := ⟨y 0, y 1, eq_ix2 y⟩
  refine Eq.trans ?_ (congrArg _ (emb9 t r j).symm)
  obtain rfl : j = 0 := Subsingleton.elim _ _
  exact OprojRows.s_row _ _ _ _ _ r (gr t r) (OprojRows.h1_row _ _ _ _ _ _ _ _ _ r (gr t r) (fun k => b0 m c t r k) (b1 m c t r 0) (fun k => b2 m c t r k)) (OprojRows.ms_row _ _ _ _ _ _ _ _ _ r (gr t r) (fun k => b0 m c t r k) (b1 m c t r 0) (fun k => b2 m c t r k))

end K

end Cert.OprojVal

end
-- ==== Proof.OprojClaim.lean ====
/- The claim for one call: both programs run and end with the same results. -/
module

public import proofs.«01_k».proof.Proof.Oproj
public import proofs.«01_k».proof.Defs

@[expose] public section

set_option maxRecDepth 16384

noncomputable section

open Idealize.ShloMosaic Idealize.ShloMosaic.TcCoe Idealize.SL.Sem

namespace Cert.OprojVal

theorem claim [Cert.OprojKernelIdeal.Facts] [Cert.OprojReferenceIdeal.Facts] : Cert.algebraic_OprojKernelIdeal_OprojReferenceIdeal := by
  intro m g m' g' _ hagree
  refine ⟨fun c => H1 (m ((c : Thread Cert.OprojKernelIdeal.nD Cert.OprojKernelIdeal.τ).loc Cert.OprojKernelIdeal.main_arg0)) (m ((c : Thread Cert.OprojKernelIdeal.nD Cert.OprojKernelIdeal.τ).loc Cert.OprojKernelIdeal.main_arg1)) (m ((c : Thread Cert.OprojKernelIdeal.nD Cert.OprojKernelIdeal.τ).loc Cert.OprojKernelIdeal.main_arg2)) (m ((c : Thread Cert.OprojKernelIdeal.nD Cert.OprojKernelIdeal.τ).loc Cert.OprojKernelIdeal.main_arg3)) (m ((c : Thread Cert.OprojKernelIdeal.nD Cert.OprojKernelIdeal.τ).loc Cert.OprojKernelIdeal.main_arg4)) (m ((c : Thread Cert.OprojKernelIdeal.nD Cert.OprojKernelIdeal.τ).loc Cert.OprojKernelIdeal.main_arg5)),
    fun c => C3 (m ((c : Thread Cert.OprojKernelIdeal.nD Cert.OprojKernelIdeal.τ).loc Cert.OprojKernelIdeal.main_arg0)) (m ((c : Thread Cert.OprojKernelIdeal.nD Cert.OprojKernelIdeal.τ).loc Cert.OprojKernelIdeal.main_arg1)) (m ((c : Thread Cert.OprojKernelIdeal.nD Cert.OprojKernelIdeal.τ).loc Cert.OprojKernelIdeal.main_arg2)) (m ((c : Thread Cert.OprojKernelIdeal.nD Cert.OprojKernelIdeal.τ).loc Cert.OprojKernelIdeal.main_arg3)) (m ((c : Thread Cert.OprojKernelIdeal.nD Cert.OprojKernelIdeal.τ).loc Cert.OprojKernelIdeal.main_arg4)) (m ((c : Thread Cert.OprojKernelIdeal.nD Cert.OprojKernelIdeal.τ).loc Cert.OprojKernelIdeal.main_arg5)) (m ((c : Thread Cert.OprojKernelIdeal.nD Cert.OprojKernelIdeal.τ).loc Cert.OprojKernelIdeal.main_arg6)),
    fun c => S3 (m ((c : Thread Cert.OprojKernelIdeal.nD Cert.OprojKernelIdeal.τ).loc Cert.OprojKernelIdeal.main_arg0)) (m ((c : Thread Cert.OprojKernelIdeal.nD Cert.OprojKernelIdeal.τ).loc Cert.OprojKernelIdeal.main_arg1)) (m ((c : Thread Cert.OprojKernelIdeal.nD Cert.OprojKernelIdeal.τ).loc Cert.OprojKernelIdeal.main_arg2)) (m ((c : Thread Cert.OprojKernelIdeal.nD Cert.OprojKernelIdeal.τ).loc Cert.OprojKernelIdeal.main_arg3)) (m ((c : Thread Cert.OprojKernelIdeal.nD Cert.OprojKernelIdeal.τ).loc Cert.OprojKernelIdeal.main_arg4)) (m ((c : Thread Cert.OprojKernelIdeal.nD Cert.OprojKernelIdeal.τ).loc Cert.OprojKernelIdeal.main_arg5)) (m ((c : Thread Cert.OprojKernelIdeal.nD Cert.OprojKernelIdeal.τ).loc Cert.OprojKernelIdeal.main_arg6)), ?_, ?_⟩
  · refine (θ_run _ _ _).mono (fun r h c => ?_) (Cert.OprojKernelIdeal.Value.run_blocks m g)
    obtain ⟨h0, h1, h2, hr⟩ := h c
    exact ⟨h0.trans (K.final7 m c), h1.trans (K.final8 m c), h2.trans (K.final9 m c), hr⟩
  · refine (θ_run _ _ _).mono (fun r h c => ?_) (Cert.OprojReferenceIdeal.Value.run_blocks m' g')
    obtain ⟨h0, h1, h2, hr⟩ := h c
    obtain ⟨e0, e1, e2, e3, e4, e5, e6⟩ := hagree c
    exact ⟨h0.trans ((R.final7 m' c).trans (by rw [e0, e1, e2, e3, e4, e5])), h1.trans ((R.final8 m' c).trans (by rw [e0, e1, e2, e3, e4, e5, e6])), h2.trans ((R.final9 m' c).trans (by rw [e0, e1, e2, e3, e4, e5, e6])), hr⟩

end Cert.OprojVal

end
-- ==== Proof.RunMax.lean ====
/- A maximum kept from point to point, characterised by its upper bounds. -/
module

public import proofs.«01_k».proof.Proof.Quant

@[expose] public section

set_option maxRecDepth 16384

noncomputable section

open Idealize.ShloMosaic Idealize.ShloMosaic.TcCoe Idealize.SL.Sem

namespace Cert.RunMax

/-- A magnitude. -/
abbrev mag (x : EReal) : EReal := FloatOps.absf (F := Ideal) (φ := .f32) x

theorem mag_nonneg (x : EReal) : 0 ≤ mag x := by
  show (0 : EReal) ≤ max x (-x)
  rcases le_total 0 x with h | h
  · exact le_max_of_le_left h
  · exact le_max_of_le_right (by simpa using EReal.neg_le_neg_iff.mpr h)

theorem bot_bits : Ideal.ofBits .f32 0xFF800000#32 = (⊥ : EReal) := by
  simp [Ideal.ofBits, Ideal.ieee]

/-- A maximum from the least element is below a bound exactly when every operand is. -/
theorem fold_le {N : Nat} (v : Fin N → EReal) (U : EReal) :
    Finset.fold max (Ideal.ofBits .f32 0xFF800000#32) v Finset.univ ≤ U ↔ ∀ k, v k ≤ U := by
  rw [Finset.fold_max_le, bot_bits]
  simp

/-- The four-way update of a running maximum. -/
abbrev upd (a : EReal) (x : Fin 4 → EReal) : EReal := max (max (max (max a (x 0)) (x 1)) (x 2)) (x 3)

theorem upd_le (a : EReal) (x : Fin 4 → EReal) (U : EReal) : upd a x ≤ U ↔ a ≤ U ∧ ∀ q, x q ≤ U := by
  simp only [upd, max_le_iff, Fin.forall_fin_succ, Fin.forall_fin_zero_pi]
  constructor
  · rintro ⟨⟨⟨⟨h, h0⟩, h1⟩, h2⟩, h3⟩; exact ⟨h, h0, h1, h2, h3, fun i => i.elim0⟩
  · rintro ⟨h, h0, h1, h2, h3, _⟩; exact ⟨⟨⟨⟨h, h0⟩, h1⟩, h2⟩, h3⟩

/-- A quantity reset to zero every `J` points and updated at each: its upper bounds `j` points into a run. -/
theorem run_le {N : Nat} (f : (n : Nat) → n < N → EReal) (J : Nat) (x : Fin N → Fin 4 → EReal)
    (h0 : ∀ t : Fin N, t.val % J = 0 → f t.val t.isLt = upd 0 (x t))
    (hs : ∀ t : Fin N, ¬ t.val % J = 0 → f t.val t.isLt = upd (f (t.val - 1) (Nat.lt_of_le_of_lt (Nat.sub_le _ _) t.isLt)) (x t))
    (q : Nat) (U : EReal) : ∀ (j : Nat) (_ : j < J) (h : J * q + j < N),
      f (J * q + j) h ≤ U ↔ 0 ≤ U ∧ ∀ (s : Nat) (hs : s ≤ j) (i : Fin 4), x ⟨J * q + s, by omega⟩ i ≤ U
  | 0, hj, h => by
    rw [h0 ⟨J * q + 0, h⟩ (by simp), upd_le]
    refine and_congr_right fun _ => ⟨fun H s hs i => ?_, fun H i => H 0 le_rfl i⟩
    obtain rfl : s = 0 := by omega
    exact H i
  | j + 1, hj, h => by
    have hne : ¬ (J * q + (j + 1)) % J = 0 := by rw [Nat.mul_add_mod, Nat.mod_eq_of_lt hj]; omega
    rw [hs ⟨J * q + (j + 1), h⟩ hne, upd_le]
    have ih := run_le f J x h0 hs q U j (by omega) (by omega)
    refine (and_congr_left' ih).trans ?_
    constructor
    · rintro ⟨⟨H0, H⟩, H1⟩
      refine ⟨H0, fun s hs i => ?_⟩
      by_cases e : s ≤ j
      · exact H s e i
      · obtain rfl : s = j + 1 := by omega
        exact H1 i
    · rintro ⟨H0, H⟩
      exact ⟨⟨H0, fun s hs i => H s (by omega) i⟩, fun i => H (j + 1) le_rfl i⟩

end Cert.RunMax

end
-- ==== Proof.GateupRows.lean ====
/- The gated layer's payloads, row by row. -/
module

public import proofs.«01_k».proof.Proof.Gen.GateupKernelIdeal.Skeleton
public import proofs.«01_k».proof.Proof.Gen.GateupReferenceIdeal.Skeleton
public import proofs.«01_k».proof.Proof.RunMax

@[expose] public section

set_option maxRecDepth 16384

noncomputable section

open Idealize.ShloMosaic Idealize.ShloMosaic.TcCoe Idealize.SL.Sem

namespace Cert.GateupRows

open Cert.GateupKernelIdeal (S1184x4608 S1184x512 S1184x128 S1184x1 S4608x512 S1x512)
open Cert.GateupReferenceIdeal (S14208x4608 S14208x18432 S14208x1 S4608x18432 S1x18432)
open Cert.RunMax (mag upd)

/-- One activation of a tile is the whole array's. -/
theorem act_row (c : FVec Ideal S1184x4608 .fp8e4m3) (s : FVec Ideal S1184x1 .f32) (wg : FVec Ideal S4608x512 .fp8e4m3)
    (gs : FVec Ideal S1x512 .f32) (wu : FVec Ideal S4608x512 .fp8e4m3) (us : FVec Ideal S1x512 .f32)
    (C : FVec Ideal S14208x4608 .fp8e4m3) (S : FVec Ideal S14208x1 .f32) (WG : FVec Ideal S4608x18432 .fp8e4m3)
    (GS : FVec Ideal S1x18432 .f32) (WU : FVec Ideal S4608x18432 .fp8e4m3) (US : FVec Ideal S1x18432 .f32)
    (r : Fin 1184) (R : Fin 14208) (j : Fin 512) (J : Fin 18432)
    (hc : ∀ k : Fin 4608, c (ix2 r k) = C (ix2 R k)) (hs : s (ix2 r 0) = S (ix2 R 0))
    (hg : ∀ k : Fin 4608, wg (ix2 k j) = WG (ix2 k J)) (hgs : gs (ix2 0 j) = GS (ix2 0 J))
    (hu : ∀ k : Fin 4608, wu (ix2 k j) = WU (ix2 k J)) (hus : us (ix2 0 j) = US (ix2 0 J)) :
    GateupKernelIdeal.Gen.k0_pay4 (F := Ideal) c s wg gs wu us (ix2 r j)
      = GateupReferenceIdeal.Gen.k0_pay2 (F := Ideal) C S WG GS C S WU US (ix2 R J) := by
  pointwise [GateupKernelIdeal.Gen.k0_pay4, GateupReferenceIdeal.Gen.k0_pay2]
  simp only [hc, hs, hg, hgs, hu, hus]

/-- Lane `l` of the tile's `q`-th group of lanes. -/
abbrev lane (q : Fin 4) (l : Fin 128) : Fin 512 := ⟨q.val * 128 + l.val, by omega⟩

/-- One update of the running maxima. -/
theorem upd_row (a : FVec Ideal S1184x512 .f32) (v : FVec Ideal S1184x128 .f32) (r : Fin 1184) (l : Fin 128) :
    GateupKernelIdeal.Gen.k0_pay1 (F := Ideal) a v (ix2 r l) = upd (v (ix2 r l)) fun q => mag (a (ix2 r (lane q l))) := by
  have e0 : (⟨l.val, by omega⟩ : Fin 512) = lane 0 l := Fin.ext (by show l.val = 0 * 128 + l.val; omega)
  have e1 : (⟨128 + l.val, by omega⟩ : Fin 512) = lane 1 l := Fin.ext (by show 128 + l.val = 1 * 128 + l.val; omega)
  have e2 : (⟨256 + l.val, by omega⟩ : Fin 512) = lane 2 l := Fin.ext (by show 256 + l.val = 2 * 128 + l.val; omega)
  have e3 : (⟨384 + l.val, by omega⟩ : Fin 512) = lane 3 l := Fin.ext (by show 384 + l.val = 3 * 128 + l.val; omega)
  show _ = max (max (max (max (v (ix2 r l)) (mag (a (ix2 r (lane 0 l))))) (mag (a (ix2 r (lane 1 l))))) (mag (a (ix2 r (lane 2 l))))) (mag (a (ix2 r (lane 3 l))))
  rw [← e0, ← e1, ← e2, ← e3]
  pointwise [GateupKernelIdeal.Gen.k0_pay1]

/-- The block the running maxima start from. -/
theorem zero (r : Fin 1184) (l : Fin 128) : GateupKernelIdeal.Gen.k0_pay3 (F := Ideal) (ix2 r l) = 0 := by
  pointwise [GateupKernelIdeal.Gen.k0_pay3]

/-- The largest of each row's lanes, as a column. -/
def lmax {M N : Nat} (hr : (Quant.Mat M N).Reduces [1] (Quant.Col M)) (hc : (Quant.Col M).ShapeCasts (Quant.Mat M 1))
    (n : FVec Ideal (Quant.Mat M N) .f32) : FVec Ideal (Quant.Mat M 1) .f32 :=
  shapeCast (Quant.Mat M 1) (multiReduction .maximumf [1] (Quant.Col M) n 0xFF800000#32 hr (.inl rfl) rfl) hc

theorem lmax_apply {M N : Nat} (hr : (Quant.Mat M N).Reduces [1] (Quant.Col M)) (hc : (Quant.Col M).ShapeCasts (Quant.Mat M 1))
    (n : FVec Ideal (Quant.Mat M N) .f32) (r : Fin M) :
    lmax hr hc n (ix2 r 0) = Finset.fold max (Ideal.ofBits .f32 0xFF800000#32) (fun k : Fin N => n (ix2 r k)) Finset.univ := by
  have e := Quant.col_idx (M := M) hc.symm r 0
  pointwise [lmax]
  rw [e]
  rfl

/-- The scale a row block ends with, from its running maxima. -/
theorem kscale (v : FVec Ideal S1184x128 .f32) (r : Fin 1184) :
    GateupKernelIdeal.Gen.k0_pay2 (F := Ideal) v (ix2 r 0)
      = Quant.scale1 (Finset.fold max (Ideal.ofBits .f32 0xFF800000#32) (fun k : Fin 128 => v (ix2 r k)) Finset.univ) := by
  have e : GateupKernelIdeal.Gen.k0_pay2 (F := Ideal) v
    = Quant.scale (lmax GateupKernelIdeal.Gen.reduces_S1184x128_S1184 GateupKernelIdeal.Gen.shapeCasts_S1184_S1184x1 v) := rfl
  rw [e, Quant.scale_apply, lmax_apply]

/-- The reference's scale of a row. -/
theorem rscale (C : FVec Ideal S14208x4608 .fp8e4m3) (S : FVec Ideal S14208x1 .f32) (WG : FVec Ideal S4608x18432 .fp8e4m3)
    (GS : FVec Ideal S1x18432 .f32) (WU : FVec Ideal S4608x18432 .fp8e4m3) (US : FVec Ideal S1x18432 .f32) (R : Fin 14208) :
    GateupReferenceIdeal.Gen.k0_pay1 (F := Ideal) (GateupReferenceIdeal.Gen.k0_pay3 (F := Ideal) C S WG GS C S WU US) (ix2 R 0)
      = Quant.scale1 (Quant.rowMax fun k => GateupReferenceIdeal.Gen.k0_pay2 (F := Ideal) C S WG GS C S WU US (ix2 R k)) := by
  have e : GateupReferenceIdeal.Gen.k0_pay1 (F := Ideal) (GateupReferenceIdeal.Gen.k0_pay3 (F := Ideal) C S WG GS C S WU US)
    = Quant.scale (Quant.amax GateupReferenceIdeal.Gen.reduces_S14208x18432_S14208 GateupReferenceIdeal.Gen.shapeCasts_S14208_S14208x1
        (GateupReferenceIdeal.Gen.k0_pay2 (F := Ideal) C S WG GS C S WU US)) := rfl
  rw [e, Quant.scale_apply, Quant.amax_apply]

end Cert.GateupRows

end
-- ==== Proof.Gateup.lean ====
/- The gated layer: both programs' result arrays as one function of the arguments. -/
module

public import Idealize.ShloMosaic.Lib.Pipeline.ReadBack
public import proofs.«01_k».proof.Proof.GateupRows
public import proofs.«01_k».proof.Proof.Gen.GateupKernelIdeal.Value
public import proofs.«01_k».proof.Proof.Gen.GateupReferenceIdeal.Value

@[expose] public section

set_option maxRecDepth 16384

noncomputable section

open Idealize.ShloMosaic Idealize.ShloMosaic.TcCoe Idealize.SL.Sem
open Idealize.ShloMosaic.Pipeline (Dat)

namespace Cert.GateupVal

open Cert.GateupReferenceIdeal (S14208x4608 S14208x18432 S14208x1 S4608x18432 S1x18432 S18432)
open Cert.RunMax (mag upd)

/-- A vector of columns as one row. -/
abbrev row (v : FVec Ideal S18432 .f32) : FVec Ideal S1x18432 .f32 := fun i => v (ix1 (i 1))

/-- The gated activations. -/
abbrev ACT (C : FVec Ideal S14208x4608 .fp8e4m3) (S : FVec Ideal S14208x1 .f32) (WG : FVec Ideal S4608x18432 .fp8e4m3)
    (gs : FVec Ideal S18432 .f32) (WU : FVec Ideal S4608x18432 .fp8e4m3) (us : FVec Ideal S18432 .f32) : FVec Ideal S14208x18432 .f32 :=
  GateupReferenceIdeal.Gen.k0_pay2 (F := Ideal) C S WG (row gs) C S WU (row us)

/-- Their rows' scales. -/
abbrev S4 (C : FVec Ideal S14208x4608 .fp8e4m3) (S : FVec Ideal S14208x1 .f32) (WG : FVec Ideal S4608x18432 .fp8e4m3)
    (gs : FVec Ideal S18432 .f32) (WU : FVec Ideal S4608x18432 .fp8e4m3) (us : FVec Ideal S18432 .f32) : FVec Ideal S14208x1 .f32 :=
  GateupReferenceIdeal.Gen.k0_pay1 (F := Ideal) (GateupReferenceIdeal.Gen.k0_pay3 (F := Ideal) C S WG (row gs) C S WU (row us))

namespace R
open Cert.GateupReferenceIdeal Cert.GateupReferenceIdeal.Gen
variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] :=
  (by decide +kernel : ∀ t : Fin grid0.N, _)
theorem b0 (c : Dev nD) (t : Fin cfg0.N) : iblk m c 0 t = m ((c : Thread nD τ).loc main_arg0) := by
  blk_ext! [iblk, V, idx t]
theorem b1 (c : Dev nD) (t : Fin cfg0.N) : iblk m c 1 t = m ((c : Thread nD τ).loc main_arg1) := by
  blk_ext! [iblk, V, idx t]
theorem b2 (c : Dev nD) (t : Fin cfg0.N) : iblk m c 2 t = m ((c : Thread nD τ).loc main_arg2) := by
  blk_ext! [iblk, V, idx t]
theorem b3 (c : Dev nD) (t : Fin cfg0.N) : iblk m c 3 t = row (m ((c : Thread nD τ).loc main_arg3)) := by
  funext y; blk_ext! [iblk, V, idx t]
theorem b4 (c : Dev nD) (t : Fin cfg0.N) : iblk m c 4 t = m ((c : Thread nD τ).loc main_arg4) := by
  blk_ext! [iblk, V, idx t]
theorem b5 (c : Dev nD) (t : Fin cfg0.N) : iblk m c 5 t = row (m ((c : Thread nD τ).loc main_arg5)) := by
  funext y; blk_ext! [iblk, V, idx t]

theorem final6 (c : Dev nD) : (dats m 0 c).arrAt 6 (cfgs 0).N = ACT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 6 t0_0 (by decide +kernel) _ fun j => ?_
  blk_simp
  rw [after0_6]
  unfold out0_6
  frame_out
  rw [b0, b1, b2, b3, b4, b5]

theorem final7 (c : Dev nD) : (dats m 0 c).arrAt 7 (cfgs 0).N = S4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 7 t0_0 (by decide +kernel) _ fun j => ?_
  blk_simp
  rw [after0_7]
  unfold out0_7
  frame_out
  rw [b0, b1, b2, b3, b4, b5]

end R

namespace K
open Cert.GateupKernelIdeal Cert.GateupKernelIdeal.Gen
variable (m : (ℓ : Loc nD τ sig) → Buf (Elt Ideal) ℓ)

theorem idx : ∀ t : Fin cfg0.N, win0_0.index t = ![t.val / 36, 0] ∧ win0_1.index t = ![t.val / 36, 0] ∧ win0_2.index t = ![0, t.val % 36] ∧ win0_3.index t = ![0, t.val % 36] ∧ win0_4.index t = ![0, t.val % 36] ∧ win0_5.index t = ![0, t.val % 36] ∧ win0_6.index t = ![t.val / 36, t.val % 36] ∧ win0_7.index t = ![t.val / 36, 0] :=
  (by decide +kernel : ∀ t : Fin grid0.N, _)

/-- The array's row at row `r` of point `t`'s block. -/
abbrev gr (t : Fin cfg0.N) (r : Fin 1184) : Fin 14208 := ⟨t.val / 36 * 1184 + r.val, by have := lt_of_lt_of_eq t.isLt N_0; omega⟩
/-- The array's column at column `k` of point `t`'s block. -/
abbrev gc (t : Fin cfg0.N) (k : Fin 512) : Fin 18432 := ⟨t.val % 36 * 512 + k.val, by omega⟩

theorem b0 (c : Dev nD) (t : Fin cfg0.N) (r : Fin 1184) (k : Fin 4608) :
    iblk m c 0 t (ix2 r k) = m ((c : Thread nD τ).loc main_arg0) (ix2 (gr t r) k) := by
  blk_ext [iblk, V, idx t]
theorem b1 (c : Dev nD) (t : Fin cfg0.N) (r : Fin 1184) :
    iblk m c 1 t (ix2 r 0) = m ((c : Thread nD τ).loc main_arg1) (ix2 (gr t r) 0) := by
  blk_ext [iblk, V, idx t]
theorem b2 (c : Dev nD) (t : Fin cfg0.N) (k : Fin 4608) (j : Fin 512) :
    iblk m c 2 t (ix2 k j) = m ((c : Thread nD τ).loc main_arg2) (ix2 k (gc t j)) := by
  blk_ext [iblk, V, idx t]
theorem b3 (c : Dev nD) (t : Fin cfg0.N) (j : Fin 512) :
    iblk m c 3 t (ix2 0 j) = row (m ((c : Thread nD τ).loc main_arg3)) (ix2 0 (gc t j)) := by
  blk_ext! [iblk, V, idx t]
theorem b4 (c : Dev nD) (t : Fin cfg0.N) (k : Fin 4608) (j : Fin 512) :
    iblk m c 4 t (ix2 k j) = m ((c : Thread nD τ).loc main_arg4) (ix2 k (gc t j)) := by
  blk_ext [iblk, V, idx t]
theorem b5 (c : Dev nD) (t : Fin cfg0.N) (j : Fin 512) :
    iblk m c 5 t (ix2 0 j) = row (m ((c : Thread nD τ).loc main_arg5)) (ix2 0 (gc t j)) := by
  blk_ext! [iblk, V, idx t]

theorem emb6 (t : Fin cfg0.N) (r : Fin 1184) (k : Fin 512) : ((cfg0.win 6).blk t).view.emb (ix2 r k) = ix2 (gr t r) (gc t k) := by
  blk_ext [idx t]
theorem emb7 (t : Fin cfg0.N) (r : Fin 1184) (k : Fin 1) : ((cfg0.win 7).blk t).view.emb (ix2 r k) = ix2 (gr t r) k := by
  blk_ext [idx t]

/-- The tile of activations one point computes. -/
abbrev tile (c : Dev nD) (t : Fin cfg0.N) : FVec Ideal S1184x512 .f32 :=
  k0_pay4 (F := Ideal) (iblk m c 0 t) (iblk m c 1 t) (iblk m c 2 t) (iblk m c 3 t) (iblk m c 4 t) (iblk m c 5 t)

theorem tile_apply (c : Dev nD) (t : Fin cfg0.N) (r : Fin 1184) (k : Fin 512) :
    tile m c t (ix2 r k) = ACT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (gr t r) (gc t k)) :=
  GateupRows.act_row _ _ _ _ _ _ _ _ _ _ _ _ r (gr t r) k (gc t k) (fun i => b0 m c t r i) (b1 m c t r) (fun i => b2 m c t i k) (b3 m c t k)
    (fun i => b4 m c t i k) (b5 m c t k)

/-- What every point writes into the activations' block. -/
theorem outs6 (c : Dev nD) (t : Fin cfg0.N) : (outsAt0 m c t.val t.isLt).1 = tile m c t := by
  by_cases h0 : t.val % 36 = 0
  · rw [outsAt0_A m c t h0 (by omega)]; frame_out
  · by_cases h1 : t.val % 36 = 35
    · rw [outsAt0_C m c t h0 h1]; frame_out
    · rw [outsAt0_B m c t h0 h1]; frame_out

theorem final6 (c : Dev nD) : (dats m 0 c).arrAt 6 (cfgs 0).N = ACT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6, outs6]
  obtain ⟨r, k, rfl⟩ : ∃ (r : Fin 1184) (k : Fin 512), y = ix2 r k := ⟨y 0, y 1, eq_ix2 y⟩
  refine Eq.trans ?_ (congrArg _ (emb6 t r k).symm)
  exact tile_apply m c t r k

theorem accA (c : Dev nD) (r : Fin 1184) (l : Fin 128) (t : Fin cfg0.N) (h : t.val % 36 = 0) :
    ((outsAt0 m c t.val t.isLt).2.2 (ix2 r l) : EReal) = upd 0 fun q => mag (tile m c t (ix2 r (GateupRows.lane q l))) := by
  rw [outsAt0_A m c t h (by omega)]
  frame_out
  refine (GateupRows.upd_row _ _ r l).trans ?_
  rw [GateupRows.zero]

theorem accBC (c : Dev nD) (r : Fin 1184) (l : Fin 128) (t : Fin cfg0.N) (h : ¬ t.val % 36 = 0) :
    ((outsAt0 m c t.val t.isLt).2.2 (ix2 r l) : EReal)
      = upd ((outsAt0 m c (t.val - 1) (Nat.lt_of_le_of_lt (Nat.sub_le _ _) t.isLt)).2.2 (ix2 r l))
          fun q => mag (tile m c t (ix2 r (GateupRows.lane q l))) := by
  by_cases h1 : t.val % 36 = 35
  · rw [outsAt0_C m c t h h1]
    frame_out
    rw [read_unread_whole]
    exact GateupRows.upd_row _ _ r l
  · rw [outsAt0_B m c t h h1]
    frame_out
    rw [read_unread_whole]
    exact GateupRows.upd_row _ _ r l

/-- At a row block's last point the running maxima's largest is the whole row's. -/
theorem acc (c : Dev nD) (t : Fin cfg0.N) (h : t.val % 36 = 35) (r : Fin 1184) :
    Finset.fold max (Ideal.ofBits .f32 0xFF800000#32) (fun l : Fin 128 => ((outsAt0 m c t.val t.isLt).2.2 (ix2 r l) : EReal)) Finset.univ
      = Quant.rowMax fun k => ACT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (gr t r) k) := by
  refine eq_of_forall_ge_iff fun U => ?_
  rw [RunMax.fold_le]
  unfold Quant.rowMax
  rw [RunMax.fold_le]
  have hN := lt_of_lt_of_eq t.isLt N_0
  have hp : 36 * (t.val / 36) + 35 = t.val := by omega
  have key : ∀ l : Fin 128, ((outsAt0 m c t.val t.isLt).2.2 (ix2 r l) : EReal) ≤ U ↔ 0 ≤ U ∧ ∀ (s : Nat) (hs : s ≤ 35) (q : Fin 4),
      mag (tile m c ⟨36 * (t.val / 36) + s, by omega⟩ (ix2 r (GateupRows.lane q l))) ≤ U := fun l => by
    have := RunMax.run_le (fun n h => ((outsAt0 m c n h).2.2 (ix2 r l) : EReal)) 36 _ (accA m c r l) (accBC m c r l) (t.val / 36) U 35 (by omega)
      (by rw [hp]; exact t.isLt)
    have same : ∀ (n : Nat) (hn : n < cfg0.N), n = t.val →
        ((outsAt0 m c n hn).2.2 (ix2 r l) : EReal) = (outsAt0 m c t.val t.isLt).2.2 (ix2 r l) := fun n hn e => by subst e; rfl
    rw [← same _ (by rw [hp]; exact t.isLt) hp]
    exact this
  have at_ : ∀ (s : Nat) (hs : s ≤ 35) (hb : 36 * (t.val / 36) + s < cfg0.N) (q : Fin 4) (l : Fin 128) (k : Fin 18432)
      (hk : k.val = s * 512 + q.val * 128 + l.val),
      tile m c ⟨36 * (t.val / 36) + s, hb⟩ (ix2 r (GateupRows.lane q l)) = ACT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (gr t r) k) := by
    intro s hs hb q l k hk
    rw [tile_apply]
    have e1 : gr ⟨36 * (t.val / 36) + s, hb⟩ r = gr t r :=
      Fin.ext (by show (36 * (t.val / 36) + s) / 36 * 1184 + r.val = t.val / 36 * 1184 + r.val; omega)
    have e2 : gc ⟨36 * (t.val / 36) + s, hb⟩ (GateupRows.lane q l) = k :=
      Fin.ext (by show (36 * (t.val / 36) + s) % 36 * 512 + (q.val * 128 + l.val) = k.val; omega)
    rw [e1, e2]
  constructor
  · intro H k
    have hk := k.isLt
    have hl := (key ⟨k.val % 128, by omega⟩).mp (H _)
    have := hl.2 (k.val / 512) (by omega) ⟨k.val % 512 / 128, by omega⟩
    rwa [at_ (k.val / 512) (by omega) _ ⟨k.val % 512 / 128, by omega⟩ ⟨k.val % 128, by omega⟩ k
      (by show k.val = k.val / 512 * 512 + k.val % 512 / 128 * 128 + k.val % 128; omega)] at this
  · intro H l
    refine (key l).mpr ⟨(RunMax.mag_nonneg _).trans (H 0), fun s hs q => ?_⟩
    rw [at_ s hs (by omega) q l ⟨s * 512 + q.val * 128 + l.val, by omega⟩ rfl]
    exact H ⟨s * 512 + q.val * 128 + l.val, by omega⟩

theorem final7 (c : Dev nD) : (dats m 0 c).arrAt 7 (cfgs 0).N = S4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  have h1 : t.val % 36 = 35 := (flush0_7 t).mp hf
  have h0 : ¬ t.val % 36 = 0 := by omega
  have ha := acc m c t h1
  blk_simp
  rw [after0_7]
  rw [outsAt0_C m c t h0 h1] at ha ⊢
  frame_out at ha
  frame_out
  obtain ⟨r, j, rfl⟩ : ∃ (r : Fin 1184) (j : Fin 1), y = ix2 r j := ⟨y 0, y 1, eq_ix2 y⟩
  refine Eq.trans ?_ (congrArg _ (emb7 t r j).symm)
  obtain rfl : j = 0 := Subsingleton.elim _ _
  refine (GateupRows.kscale _ r).trans ?_
  refine (congrArg Quant.scale1 (ha r)).trans ?_
  exact (GateupRows.rscale _ _ _ _ _ _ (gr t r)).symm

end K

end Cert.GateupVal

end
-- ==== Proof.GateupClaim.lean ====
/- The claim for one call: both programs run and end with the same results. -/
module

public import proofs.«01_k».proof.Proof.Gateup
public import proofs.«01_k».proof.Defs

@[expose] public section

set_option maxRecDepth 16384

noncomputable section

open Idealize.ShloMosaic Idealize.ShloMosaic.TcCoe Idealize.SL.Sem

namespace Cert.GateupVal

theorem claim [Cert.GateupKernelIdeal.Facts] [Cert.GateupReferenceIdeal.Facts] : Cert.algebraic_GateupKernelIdeal_GateupReferenceIdeal := by
  intro m g m' g' _ hagree
  refine ⟨fun c => ACT (m ((c : Thread Cert.GateupKernelIdeal.nD Cert.GateupKernelIdeal.τ).loc Cert.GateupKernelIdeal.main_arg0)) (m ((c : Thread Cert.GateupKernelIdeal.nD Cert.GateupKernelIdeal.τ).loc Cert.GateupKernelIdeal.main_arg1)) (m ((c : Thread Cert.GateupKernelIdeal.nD Cert.GateupKernelIdeal.τ).loc Cert.GateupKernelIdeal.main_arg2)) (m ((c : Thread Cert.GateupKernelIdeal.nD Cert.GateupKernelIdeal.τ).loc Cert.GateupKernelIdeal.main_arg3)) (m ((c : Thread Cert.GateupKernelIdeal.nD Cert.GateupKernelIdeal.τ).loc Cert.GateupKernelIdeal.main_arg4)) (m ((c : Thread Cert.GateupKernelIdeal.nD Cert.GateupKernelIdeal.τ).loc Cert.GateupKernelIdeal.main_arg5)),
    fun c => S4 (m ((c : Thread Cert.GateupKernelIdeal.nD Cert.GateupKernelIdeal.τ).loc Cert.GateupKernelIdeal.main_arg0)) (m ((c : Thread Cert.GateupKernelIdeal.nD Cert.GateupKernelIdeal.τ).loc Cert.GateupKernelIdeal.main_arg1)) (m ((c : Thread Cert.GateupKernelIdeal.nD Cert.GateupKernelIdeal.τ).loc Cert.GateupKernelIdeal.main_arg2)) (m ((c : Thread Cert.GateupKernelIdeal.nD Cert.GateupKernelIdeal.τ).loc Cert.GateupKernelIdeal.main_arg3)) (m ((c : Thread Cert.GateupKernelIdeal.nD Cert.GateupKernelIdeal.τ).loc Cert.GateupKernelIdeal.main_arg4)) (m ((c : Thread Cert.GateupKernelIdeal.nD Cert.GateupKernelIdeal.τ).loc Cert.GateupKernelIdeal.main_arg5)), ?_, ?_⟩
  · refine (θ_run _ _ _).mono (fun r h c => ?_) (Cert.GateupKernelIdeal.Value.run_blocks m g)
    obtain ⟨h0, h1, hr⟩ := h c
    exact ⟨h0.trans (K.final6 m c), h1.trans (K.final7 m c), hr⟩
  · refine (θ_run _ _ _).mono (fun r h c => ?_) (Cert.GateupReferenceIdeal.Value.run_blocks m' g')
    obtain ⟨h0, h1, hr⟩ := h c
    obtain ⟨e0, e1, e2, e3, e4, e5⟩ := hagree c
    exact ⟨h0.trans ((R.final6 m' c).trans (by rw [e0, e1, e2, e3, e4, e5])), h1.trans ((R.final7 m' c).trans (by rw [e0, e1, e2, e3, e4, e5])), hr⟩

end Cert.GateupVal

end
-- ==== Proof.DownRows.lean ====
/- The down projection's payloads, row by row. -/
module

public import proofs.«01_k».proof.Proof.Gen.DownKernelIdeal.Skeleton
public import proofs.«01_k».proof.Proof.Gen.DownReferenceIdeal.Skeleton
public import proofs.«01_k».proof.Proof.Quant

@[expose] public section

set_option maxRecDepth 16384

noncomputable section

open Idealize.ShloMosaic Idealize.ShloMosaic.TcCoe Idealize.SL.Sem

namespace Cert.DownRows

open Cert.DownKernelIdeal (S384x1024 S384x4608 S384x1 S1024x4608 S1x4608)
open Cert.DownReferenceIdeal (S14208x18432 S14208x4608 S14208x1 S18432x4608)

/-- One code of a block. -/
theorem kcode (v0 : FVec Ideal S384x1024 .f32) (v1 : FVec Ideal S384x1 .f32) (r : Fin 384) (k : Fin 1024) :
    DownKernelIdeal.Gen.k0_pay1 (F := Ideal) v0 v1 (ix2 r k) = Quant.code1 (v0 (ix2 r k)) (v1 (ix2 r 0)) := by
  have e : DownKernelIdeal.Gen.k0_pay1 (F := Ideal) v0 v1 = Quant.code DownKernelIdeal.Gen.broadcasts_S384x1_S384x1024 v0 v1 := rfl
  rw [e, Quant.code_apply]

/-- One code of the whole array. -/
theorem rcode (v0 : FVec Ideal S14208x18432 .f32) (v1 : FVec Ideal S14208x1 .f32) (r : Fin 14208) (k : Fin 18432) :
    DownReferenceIdeal.Gen.k0_pay2 (F := Ideal) v0 v1 (ix2 r k) = Quant.code1 (v0 (ix2 r k)) (v1 (ix2 r 0)) := by
  have e : DownReferenceIdeal.Gen.k0_pay2 (F := Ideal) v0 v1 = Quant.code DownReferenceIdeal.Gen.broadcasts_S14208x1_S14208x18432 v0 v1 := rfl
  rw [e, Quant.code_apply]

/-- One step of the accumulation: the block of codes times the block of weights, added. -/
theorem step (v0 : FVec Ideal S384x1024 .f32) (v1 : FVec Ideal S384x1 .f32) (acc : FVec Ideal S384x4608 .f32)
    (w : FVec Ideal S1024x4608 .fp8e4m3) (r : Fin 384) (j : Fin 4608) :
    DownKernelIdeal.Gen.k0_pay3 (F := Ideal) v0 v1 acc w (ix2 r j)
      = acc (ix2 r j) + ∑ k : Fin 1024, Quant.code1 (v0 (ix2 r k)) (v1 (ix2 r 0)) * w (ix2 k j) := by
  have e := kcode v0 v1 r
  pointwise [DownKernelIdeal.Gen.k0_pay3]
  simp only [e]

/-- The block the accumulation starts from. -/
theorem zero (r : Fin 384) (j : Fin 4608) : DownKernelIdeal.Gen.k0_pay2 (F := Ideal) (ix2 r j) = 0 := by
  pointwise [DownKernelIdeal.Gen.k0_pay2]

/-- The layer's output row, once the accumulator holds the whole product. -/
theorem out_row (acc : FVec Ideal S384x4608 .f32) (s : FVec Ideal S384x1 .f32) (ws : FVec Ideal S1x4608 .f32)
    (h : FVec Ideal S384x4608 .f32) (g : FVec Ideal S1x4608 .f32)
    (A : FVec Ideal S14208x18432 .f32) (S : FVec Ideal S14208x1 .f32) (W : FVec Ideal S18432x4608 .fp8e4m3) (H : FVec Ideal S14208x4608 .f32)
    (r : Fin 384) (R : Fin 14208)
    (hacc : ∀ j : Fin 4608, acc (ix2 r j) = ∑ l : Fin 18432, Quant.code1 (A (ix2 R l)) (S (ix2 R 0)) * W (ix2 l j))
    (hs : s (ix2 r 0) = S (ix2 R 0)) (hh : ∀ k : Fin 4608, h (ix2 r k) = H (ix2 R k)) (j : Fin 4608) :
    DownKernelIdeal.Gen.k0_pay4 (F := Ideal) acc s ws h g (ix2 r j)
      = DownReferenceIdeal.Gen.k0_pay1 (F := Ideal) H (DownReferenceIdeal.Gen.k0_pay3 (F := Ideal) A S S W ws g) (ix2 R j) := by
  have e := rcode A S R
  pointwise [DownKernelIdeal.Gen.k0_pay4, DownReferenceIdeal.Gen.k0_pay1, DownReferenceIdeal.Gen.k0_pay3]
  simp only [hacc, hs, hh, e]

end Cert.DownRows

end
-- ==== Proof.Down.lean ====
/- The down projection: both programs' result arrays as one function of the arguments. -/
module

public import Idealize.ShloMosaic.Lib.Pipeline.ReadBack
public import proofs.«01_k».proof.Proof.DownRows
public import proofs.«01_k».proof.Proof.Gen.DownKernelIdeal.Value
public import proofs.«01_k».proof.Proof.Gen.DownReferenceIdeal.Value

@[expose] public section

set_option maxRecDepth 16384

noncomputable section

open Idealize.ShloMosaic Idealize.ShloMosaic.TcCoe Idealize.SL.Sem
open Idealize.ShloMosaic.Pipeline (Dat)

namespace Cert.DownVal

open Cert.DownReferenceIdeal (S14208x18432 S14208x4608 S14208x1 S18432x4608 S1x4608 S4608)

/-- A vector of columns as one row. -/
abbrev row (v : FVec Ideal S4608 .f32) : FVec Ideal S1x4608 .f32 := fun i => v (ix1 (i 1))

/-- The codes of the gated layer's rows. -/
abbrev C4 (A : FVec Ideal S14208x18432 .f32) (S : FVec Ideal S14208x1 .f32) : FVec Ideal S14208x18432 .fp8e4m3 :=
  DownReferenceIdeal.Gen.k0_pay2 (F := Ideal) A S

/-- The layer's output. -/
abbrev OUT (A : FVec Ideal S14208x18432 .f32) (S : FVec Ideal S14208x1 .f32) (W : FVec Ideal S18432x4608 .fp8e4m3)
    (ws : FVec Ideal S4608 .f32) (H : FVec Ideal S14208x4608 .f32) (g : FVec Ideal S4608 .f32) : FVec Ideal S14208x4608 .bf16 :=
  DownReferenceIdeal.Gen.k0_pay1 (F := Ideal) H (DownReferenceIdeal.Gen.k0_pay3 (F := Ideal) A S S W (row ws) (row g))

namespace R
open Cert.DownReferenceIdeal Cert.DownReferenceIdeal.Gen
variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] :=
  (by decide +kernel : ∀ t : Fin grid0.N, _)
theorem b0 (c : Dev nD) (t : Fin cfg0.N) : iblk m c 0 t = m ((c : Thread nD τ).loc main_arg0) := by
  blk_ext! [iblk, V, idx t]
theorem b1 (c : Dev nD) (t : Fin cfg0.N) : iblk m c 1 t = m ((c : Thread nD τ).loc main_arg1) := by
  blk_ext! [iblk, V, idx t]
theorem b2 (c : Dev nD) (t : Fin cfg0.N) : iblk m c 2 t = m ((c : Thread nD τ).loc main_arg2) := by
  blk_ext! [iblk, V, idx t]
theorem b3 (c : Dev nD) (t : Fin cfg0.N) : iblk m c 3 t = row (m ((c : Thread nD τ).loc main_arg3)) := by
  funext y; blk_ext! [iblk, V, idx t]
theorem b4 (c : Dev nD) (t : Fin cfg0.N) : iblk m c 4 t = m ((c : Thread nD τ).loc main_arg4) := by
  blk_ext! [iblk, V, idx t]
theorem b5 (c : Dev nD) (t : Fin cfg0.N) : iblk m c 5 t = row (m ((c : Thread nD τ).loc main_arg5)) := by
  funext y; blk_ext! [iblk, V, idx t]

theorem final6 (c : Dev nD) : (dats m 0 c).arrAt 6 (cfgs 0).N = C4 (m ((c : Thread nD τ).loc main_arg0)) (m ((c : Thread nD τ).loc main_arg1)) := by
  refine (dats m 0 c).arrAt_eq_of_after_last 6 t0_0 (by decide +kernel) _ fun j => ?_
  blk_simp
  rw [after0_6]
  unfold out0_6
  frame_out
  rw [b0, b1]

theorem final7 (c : Dev nD) : (dats m 0 c).arrAt 7 (cfgs 0).N = OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 7 t0_0 (by decide +kernel) _ fun j => ?_
  blk_simp
  rw [after0_7]
  unfold out0_7
  frame_out
  rw [b0, b1, b2, b3, b4, b5]

end R

namespace K
open Cert.DownKernelIdeal Cert.DownKernelIdeal.Gen
variable (m : (ℓ : Loc nD τ sig) → Buf (Elt Ideal) ℓ)

theorem idx : ∀ t : Fin cfg0.N, win0_0.index t = ![t.val / 18, t.val % 18] ∧ win0_1.index t = ![t.val / 18, 0] ∧ win0_2.index t = ![t.val % 18, 0] ∧ win0_3.index t = ![0, 0] ∧ win0_4.index t = ![t.val / 18, 0] ∧ win0_5.index t = ![0, 0] ∧ win0_6.index t = ![t.val / 18, t.val % 18] ∧ win0_7.index t = ![t.val / 18, 0] :=
  (by decide +kernel : ∀ t : Fin grid0.N, _)

/-- The array's row at row `r` of point `t`'s block. -/
abbrev gr (t : Fin cfg0.N) (r : Fin 384) : Fin 14208 := ⟨t.val / 18 * 384 + r.val, by have := lt_of_lt_of_eq t.isLt N_0; omega⟩
/-- The array's column at column `k` of point `t`'s block. -/
abbrev gc (t : Fin cfg0.N) (k : Fin 1024) : Fin 18432 := ⟨t.val % 18 * 1024 + k.val, by omega⟩

theorem b0 (c : Dev nD) (t : Fin cfg0.N) (r : Fin 384) (k : Fin 1024) :
    iblk m c 0 t (ix2 r k) = m ((c : Thread nD τ).loc main_arg0) (ix2 (gr t r) (gc t k)) := by
  blk_ext [iblk, V, idx t]
theorem b1 (c : Dev nD) (t : Fin cfg0.N) (r : Fin 384) :
    iblk m c 1 t (ix2 r 0) = m ((c : Thread nD τ).loc main_arg1) (ix2 (gr t r) 0) := by
  blk_ext [iblk, V, idx t]
theorem b2 (c : Dev nD) (t : Fin cfg0.N) (k : Fin 1024) (j : Fin 4608) :
    iblk m c 2 t (ix2 k j) = m ((c : Thread nD τ).loc main_arg2) (ix2 (gc t k) j) := by
  blk_ext [iblk, V, idx t]
theorem b3 (c : Dev nD) (t : Fin cfg0.N) : iblk m c 3 t = row (m ((c : Thread nD τ).loc main_arg3)) := by
  funext y; blk_ext! [iblk, V, idx t]
theorem b4 (c : Dev nD) (t : Fin cfg0.N) (r : Fin 384) (k : Fin 4608) :
    iblk m c 4 t (ix2 r k) = m ((c : Thread nD τ).loc main_arg4) (ix2 (gr t r) k) := by
  blk_ext [iblk, V, idx t]
theorem b5 (c : Dev nD) (t : Fin cfg0.N) : iblk m c 5 t = row (m ((c : Thread nD τ).loc main_arg5)) := by
  funext y; blk_ext! [iblk, V, idx t]

theorem emb6 (t : Fin cfg0.N) (r : Fin 384) (k : Fin 1024) : ((cfg0.win 6).blk t).view.emb (ix2 r k) = ix2 (gr t r) (gc t k) := by
  blk_ext [idx t]
theorem emb7 (t : Fin cfg0.N) (r : Fin 384) (k : Fin 4608) : ((cfg0.win 7).blk t).view.emb (ix2 r k) = ix2 (gr t r) k := by
  blk_ext [idx t]

/-- What every point writes into the codes' block. -/
theorem outs6 (c : Dev nD) (t : Fin cfg0.N) : (outsAt0 m c t.val t.isLt).1 = k0_pay1 (F := Ideal) (iblk m c 0 t) (iblk m c 1 t) := by
  by_cases h0 : t.val % 18 = 0
  · rw [outsAt0_A m c t h0 (by omega)]; frame_out
  · by_cases h1 : t.val % 18 = 17
    · rw [outsAt0_C m c t h0 h1]; frame_out
    · rw [outsAt0_B m c t h0 h1]; frame_out

theorem final6 (c : Dev nD) : (dats m 0 c).arrAt 6 (cfgs 0).N = C4 (m ((c : Thread nD τ).loc main_arg0)) (m ((c : Thread nD τ).loc main_arg1)) := by
  refine (dats m 0 c).arrAt_eq_of_covers 6 _ (by decide +kernel) fun t hf y => ?_
  blk_simp
  rw [after0_6, outs6]
  obtain ⟨r, k, rfl⟩ : ∃ (r : Fin 384) (k : Fin 1024), y = ix2 r k := ⟨y 0, y 1, eq_ix2 y⟩
  refine Eq.trans ?_ (congrArg _ (emb6 t r k).symm)
  rw [DownRows.kcode, b0, b1]
  exact (DownRows.rcode _ _ _ _).symm

/-- One point's addend. -/
abbrev term (c : Dev nD) (t : Fin cfg0.N) (y : S384x4608.Idx) : EReal :=
  ∑ k : Fin 1024, Quant.code1 (iblk m c 0 t (ix2 (y 0) k)) (iblk m c 1 t (ix2 (y 0) 0)) * iblk m c 2 t (ix2 k (y 1))

theorem accA (c : Dev nD) (t : Fin cfg0.N) (h : t.val % 18 = 0) (y : S384x4608.Idx) :
    ((outsAt0 m c t.val t.isLt).2.2 y : EReal) = 0 + term m c t y := by
  obtain ⟨r, j, rfl⟩ : ∃ (r : Fin 384) (j : Fin 4608), y = ix2 r j := ⟨y 0, y 1, eq_ix2 y⟩
  rw [outsAt0_A m c t h (by omega)]
  frame_out
  refine (DownRows.step _ _ _ _ r j).trans ?_
  rw [DownRows.zero]
  rfl

theorem accBC (c : Dev nD) (t : Fin cfg0.N) (h : ¬ t.val % 18 = 0) (y : S384x4608.Idx) :
    ((outsAt0 m c t.val t.isLt).2.2 y : EReal)
      = (outsAt0 m c (t.val - 1) (Nat.lt_of_le_of_lt (Nat.sub_le _ _) t.isLt)).2.2 y + term m c t y := by
  obtain ⟨r, j, rfl⟩ : ∃ (r : Fin 384) (j : Fin 4608), y = ix2 r j := ⟨y 0, y 1, eq_ix2 y⟩
  by_cases h1 : t.val % 18 = 17
  · rw [outsAt0_C m c t h h1]
    frame_out
    rw [read_unread_whole]
    exact DownRows.step _ _ _ _ r j
  · rw [outsAt0_B m c t h h1]
    frame_out
    rw [read_unread_whole]
    exact DownRows.step _ _ _ _ r j

/-- At a row block's last point the accumulator holds the whole product. -/
theorem acc (c : Dev nD) (t : Fin cfg0.N) (h : t.val % 18 = 17) (r : Fin 384) (j : Fin 4608) :
    ((outsAt0 m c t.val t.isLt).2.2 (ix2 r j) : EReal)
      = ∑ l : Fin 18432, Quant.code1 (m ((c : Thread nD τ).loc main_arg0) (ix2 (gr t r) l)) (m ((c : Thread nD τ).loc main_arg1) (ix2 (gr t r) 0))
          * m ((c : Thread nD τ).loc main_arg2) (ix2 l j) := by
  refine (Pipeline.eq_sum_fin_of_reset_step_apply_of_flush (M := EReal) (fun n h => (outsAt0 m c n h).2.2) 18 (fun _ => 0) (term m c)
    (accA m c) (accBC m c) t h (ix2 r j)).trans ?_
  rw [zero_add]
  refine Fin.sum_mul_add_congr fun s k hl => ?_
  have hs := s.isLt
  have hd : (18 * (t.val / 18) + s.val) / 18 = t.val / 18 := by omega
  have hm : (18 * (t.val / 18) + s.val) % 18 = s.val := by omega
  have e1 : gr ⟨18 * (t.val / 18) + s.val, Pipeline.run_point_lt_of_flush t h s⟩ r = gr t r := Fin.ext (by show _ / 18 * 384 + r.val = _; rw [hd])
  have e2 : gc ⟨18 * (t.val / 18) + s.val, Pipeline.run_point_lt_of_flush t h s⟩ k = ⟨s.val * 1024 + k.val, hl⟩ := Fin.ext (by show _ % 18 * 1024 + k.val = _; rw [hm])
  show Quant.code1 (iblk m c 0 _ (ix2 r k)) (iblk m c 1 _ (ix2 r 0)) * iblk m c 2 _ (ix2 k j) = _
  rw [b0, b1, b2, e1, e2]

theorem final7 (c : Dev nD) : (dats m 0 c).arrAt 7 (cfgs 0).N = OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  have h1 : t.val % 18 = 17 := (flush0_7 t).mp hf
  have h0 : ¬ t.val % 18 = 0 := by omega
  have ha := acc m c t h1
  blk_simp
  rw [after0_7]
  rw [outsAt0_C m c t h0 h1] at ha ⊢
  frame_out at ha
  frame_out
  rw [b3, b5]
  obtain ⟨r, j, rfl⟩ : ∃ (r : Fin 384) (j : Fin 4608), y = ix2 r j := ⟨y 0, y 1, eq_ix2 y⟩
  refine Eq.trans ?_ (congrArg _ (emb7 t r j).symm)
  exact DownRows.out_row _ _ _ _ _ _ _ _ _ r (gr t r) (fun j => ha r j) (b1 m c t r) (fun k => b4 m c t r k) j

end K

end Cert.DownVal

end
-- ==== Proof.DownClaim.lean ====
/- The claim for one call: both programs run and end with the same results. -/
module

public import proofs.«01_k».proof.Proof.Down
public import proofs.«01_k».proof.Defs

@[expose] public section

set_option maxRecDepth 16384

noncomputable section

open Idealize.ShloMosaic Idealize.ShloMosaic.TcCoe Idealize.SL.Sem

namespace Cert.DownVal

theorem claim [Cert.DownKernelIdeal.Facts] [Cert.DownReferenceIdeal.Facts] : Cert.algebraic_DownKernelIdeal_DownReferenceIdeal := by
  intro m g m' g' _ hagree
  refine ⟨fun c => C4 (m ((c : Thread Cert.DownKernelIdeal.nD Cert.DownKernelIdeal.τ).loc Cert.DownKernelIdeal.main_arg0)) (m ((c : Thread Cert.DownKernelIdeal.nD Cert.DownKernelIdeal.τ).loc Cert.DownKernelIdeal.main_arg1)),
    fun c => OUT (m ((c : Thread Cert.DownKernelIdeal.nD Cert.DownKernelIdeal.τ).loc Cert.DownKernelIdeal.main_arg0)) (m ((c : Thread Cert.DownKernelIdeal.nD Cert.DownKernelIdeal.τ).loc Cert.DownKernelIdeal.main_arg1)) (m ((c : Thread Cert.DownKernelIdeal.nD Cert.DownKernelIdeal.τ).loc Cert.DownKernelIdeal.main_arg2)) (m ((c : Thread Cert.DownKernelIdeal.nD Cert.DownKernelIdeal.τ).loc Cert.DownKernelIdeal.main_arg3)) (m ((c : Thread Cert.DownKernelIdeal.nD Cert.DownKernelIdeal.τ).loc Cert.DownKernelIdeal.main_arg4)) (m ((c : Thread Cert.DownKernelIdeal.nD Cert.DownKernelIdeal.τ).loc Cert.DownKernelIdeal.main_arg5)), ?_, ?_⟩
  · refine (θ_run _ _ _).mono (fun r h c => ?_) (Cert.DownKernelIdeal.Value.run_blocks m g)
    obtain ⟨h0, h1, hr⟩ := h c
    exact ⟨h0.trans (K.final6 m c), h1.trans (K.final7 m c), hr⟩
  · refine (θ_run _ _ _).mono (fun r h c => ?_) (Cert.DownReferenceIdeal.Value.run_blocks m' g')
    obtain ⟨h0, h1, hr⟩ := h c
    obtain ⟨e0, e1, e2, e3, e4, e5⟩ := hagree c
    exact ⟨h0.trans ((R.final6 m' c).trans (by rw [e0, e1])), h1.trans ((R.final7 m' c).trans (by rw [e0, e1, e2, e3, e4, e5])), hr⟩

end Cert.DownVal

end
-- ==== Proof.lean ====
module

public import proofs.«01_k».proof.Defs
public import proofs.«01_k».proof.Proof.Gen.QkvKernel.Frame
public import proofs.«01_k».proof.Proof.Gen.QkvKernelIdeal.Frame
public import proofs.«01_k».proof.Proof.Gen.QkvReferenceIdeal.Frame
public import proofs.«01_k».proof.Proof.Gen.OprojKernel.Frame
public import proofs.«01_k».proof.Proof.Gen.OprojKernelIdeal.Frame
public import proofs.«01_k».proof.Proof.Gen.OprojReferenceIdeal.Frame
public import proofs.«01_k».proof.Proof.Gen.GateupKernel.Frame
public import proofs.«01_k».proof.Proof.Gen.GateupKernelIdeal.Frame
public import proofs.«01_k».proof.Proof.Gen.GateupReferenceIdeal.Frame
public import proofs.«01_k».proof.Proof.Gen.DownKernel.Frame
public import proofs.«01_k».proof.Proof.Gen.DownKernelIdeal.Frame
public import proofs.«01_k».proof.Proof.Gen.DownReferenceIdeal.Frame
public import proofs.«01_k».proof.Proof.Gen.AttnKernel.Frame
public import proofs.«01_k».proof.Proof.Gen.AttnKernelIdeal.Frame
public import proofs.«01_k».proof.Proof.AttnWords
public import proofs.«01_k».proof.Proof.AttnReals
public import proofs.«01_k».proof.Proof.QkvClaim
public import proofs.«01_k».proof.Proof.OprojClaim
public import proofs.«01_k».proof.Proof.GateupClaim
public import proofs.«01_k».proof.Proof.DownClaim
public import Idealize.ShloMosaic.Adequacy
public import Idealize.ShloMosaic.Init

@[expose] public section

noncomputable section

namespace Cert.Proof

open Idealize.ShloMosaic Idealize.SL.Sem Cert.QkvKernel

theorem claim : Cert.Claim := ⟨Cert.QkvKernel.Gen.facts, Cert.QkvKernelIdeal.Gen.facts, Cert.QkvReferenceIdeal.Gen.facts, Cert.OprojKernel.Gen.facts, Cert.OprojKernelIdeal.Gen.facts, Cert.OprojReferenceIdeal.Gen.facts, Cert.GateupKernel.Gen.facts, Cert.GateupKernelIdeal.Gen.facts, Cert.GateupReferenceIdeal.Gen.facts, Cert.DownKernel.Gen.facts, Cert.DownKernelIdeal.Gen.facts, Cert.DownReferenceIdeal.Gen.facts, Cert.AttnKernel.Gen.facts, Cert.AttnKernelIdeal.Gen.facts,
  fun m ρ _ => Cert.QkvKernel.Gen.frame m ρ,
  fun m ρ _ => Cert.QkvKernelIdeal.Gen.frame m ρ,
  fun m ρ _ => Cert.QkvReferenceIdeal.Gen.frame m ρ,
  fun m ρ _ => Cert.OprojKernel.Gen.frame m ρ,
  fun m ρ _ => Cert.OprojKernelIdeal.Gen.frame m ρ,
  fun m ρ _ => Cert.OprojReferenceIdeal.Gen.frame m ρ,
  fun m ρ _ => Cert.GateupKernel.Gen.frame m ρ,
  fun m ρ _ => Cert.GateupKernelIdeal.Gen.frame m ρ,
  fun m ρ _ => Cert.GateupReferenceIdeal.Gen.frame m ρ,
  fun m ρ _ => Cert.DownKernel.Gen.frame m ρ,
  fun m ρ _ => Cert.DownKernelIdeal.Gen.frame m ρ,
  fun m ρ _ => Cert.DownReferenceIdeal.Gen.frame m ρ,
  fun m ρ _ => Cert.AttnKernel.Gen.frame m ρ (Cert.AttnKernel.Hyp.ok m) (Cert.AttnKernel.Hyp.hyps m),
  fun m ρ _ => Cert.AttnKernelIdeal.Gen.frame m ρ (Cert.AttnKernelIdeal.Hyp.ok m) (Cert.AttnKernelIdeal.Hyp.hyps m),
  trivial,
  Cert.QkvVal.claim,
  trivial,
  Cert.OprojVal.claim,
  trivial,
  Cert.GateupVal.claim,
  trivial,
  Cert.DownVal.claim,
  trivial⟩

end Cert.Proof

end
